-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_in_range : Cert.Pre_in_range.Facts] (m : (ℓ : Loc Cert.Kernel5.nD Cert.Kernel5.τ Cert.Kernel5.sig) → Buf (Elt Bits) ℓ) : Prop :=
  ∀ c : Dev Cert.Kernel5.nD,
    (Cert.Pre_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_in_range : Cert.Pre_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal [hPre_in_range : Cert.Pre_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_in_range : Cert.Pre_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_in_range : Cert.Pre_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] [hPre_in_range : Cert.Pre_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_on_active_rows [hKernelIdeal : Cert.KernelIdeal.Facts] [hReferenceIdeal : Cert.ReferenceIdeal.Facts] [hPre_in_range : Cert.Pre_in_range.Facts] [hOn_active_rows : Cert.On_active_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![65536, 2048]⟩ : Shape).Idx, (Cert.On_active_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![65536, 2048]⟩ : Shape).Idx, (Cert.On_active_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v33) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_on_active_rows [hKernel5Ideal : Cert.Kernel5Ideal.Facts] [hReference5Ideal : Cert.Reference5Ideal.Facts] [hPre_in_range : Cert.Pre_in_range.Facts] [hOn_active_rows : Cert.On_active_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![65536, 2048]⟩ : Shape).Idx, (Cert.On_active_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Kernel5Ideal.nD Cert.Kernel5Ideal.τ).loc Cert.Kernel5Ideal.main_v0) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![65536, 2048]⟩ : Shape).Idx, (Cert.On_active_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Reference5Ideal.nD Cert.Reference5Ideal.τ).loc Cert.Reference5Ideal.main_v33) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v29) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v42) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_in_range : Cert.Pre_in_range.Facts) (hOn_active_rows : Cert.On_active_rows.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_in_range := hPre_in_range)
    ∧ quiescent_Kernel5Ideal (hKernel5Ideal := hKernel5Ideal) (hPre_in_range := hPre_in_range)
    ∧ quiescent_Reference5Ideal (hReference5Ideal := hReference5Ideal) (hPre_in_range := hPre_in_range)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_on_active_rows (hKernelIdeal := hKernelIdeal) (hReferenceIdeal := hReferenceIdeal) (hPre_in_range := hPre_in_range) (hOn_active_rows := hOn_active_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_active_rows (hKernel5Ideal := hKernel5Ideal) (hReference5Ideal := hReference5Ideal) (hPre_in_range := hPre_in_range) (hOn_active_rows := hOn_active_rows)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== On_active_rows.lean ====
abbrev S256 : Shape := ⟨1, ![256]⟩
abbrev S1 : Shape := ⟨1, ![1]⟩
abbrev S65536x2048 : Shape := ⟨2, ![65536, 2048]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  shapeCasts_S1_S_ : S1.ShapeCasts S_
  bcast_S_S65536x2048 : S_.BroadcastsInDim S65536x2048 (![] : Fin 0 → Fin S65536x2048.rank)

variable [Facts]

def fn {F : FTy → Type} [FloatOps F] (main_arg0 : IVec S256 32) (main_arg1 : IVec S1 32) (main_arg2 : FVec F S65536x2048 .f32) (main_arg3 : FVec F S2x64x2048x512 .f32) (main_arg4 : FVec F S2x64x2048x512 .f32) (main_arg5 : FVec F S2x64x512x2048 .f32) : IVec S65536x2048 1 :=
  let main_v0 : IVec S65536x2048 32 := iotaInDim S65536x2048 32 0
  let main_v1 : IVec S_ 32 := shapeCast S_ main_arg1 shapeCasts_S1_S_
  let main_c : IVec S_ 32 := constantI S_ 32 256#32
  let main_v2 : IVec S_ 32 := muli main_v1 main_c
  let main_v3 : IVec S65536x2048 32 := broadcastInDim S65536x2048 ![] bcast_S_S65536x2048 main_v2
  let main_v4 : IVec S65536x2048 1 := cmpi .slt main_v0 main_v3
  main_v4
-- ==== Pre_in_range.lean ====
abbrev S256 : Shape := ⟨1, ![256]⟩
abbrev S1 : Shape := ⟨1, ![1]⟩
abbrev S65536x2048 : Shape := ⟨2, ![65536, 2048]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  shapeCasts_S1_S_ : S1.ShapeCasts S_

variable [Facts]

def fn {F : FTy → Type} [FloatOps F] (main_arg0 : IVec S256 32) (main_arg1 : IVec S1 32) (main_arg2 : FVec F S65536x2048 .f32) (main_arg3 : FVec F S2x64x2048x512 .f32) (main_arg4 : FVec F S2x64x2048x512 .f32) (main_arg5 : FVec F S2x64x512x2048 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 64#32
  let main_v2 : IVec S256 32 := broadcastInDim S256 ![] bcast_S_S256 main_c_0
  let main_v3 : IVec S256 1 := cmpi .slt main_arg0 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 32 := shapeCast S_ main_arg1 shapeCasts_S1_S_
  let main_c_3 : IVec S_ 32 := constantI S_ 32 256#32
  let main_v9 : IVec S_ 1 := cmpi .sle main_v8 main_c_3
  let main_v10 : IVec S_ 1 := andi main_v7 main_v9
  let main_v11 : IVec S_ 1 := andi main_v5 main_v10
  main_v11
-- ==== Kernel.lean ====
abbrev S256 : Shape := ⟨1, ![256]⟩
abbrev S1 : Shape := ⟨1, ![1]⟩
abbrev S65536x2048 : Shape := ⟨2, ![65536, 2048]⟩
abbrev S2x64x2048x512 : Shape := ⟨4, ![2, 64, 2048, 512]⟩
abbrev S2x64x512x2048 : Shape := ⟨4, ![2, 64, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S65536x2048, .f32⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S65536x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S256, .i32⟩
  | .local _ .smem, ⟨1, _⟩ => ⟨S1, .i32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v4 : BitVec 32) : BitVec 1 :=
  let arg0 : BitVec 32 := BitVec.ofNat 32 (i 0).val
  let v5 : BitVec 1 := Scalar.cmpi .slt arg0 v4
  let v14 : BitVec 32 := Scalar.extui v5
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256 : Shape := ⟨1, ![256]⟩
abbrev S1 : Shape := ⟨1, ![1]⟩
abbrev S65536x2048 : Shape := ⟨2, ![65536, 2048]⟩
abbrev S2x64x2048x512 : Shape := ⟨4, ![2, 64, 2048, 512]⟩
abbrev S2x64x512x2048 : Shape := ⟨4, ![2, 64, 512, 2048]⟩
abbrev S256x256x2048 : Shape := ⟨3, ![256, 256, 2048]⟩
abbrev S1x64x2048x512 : Shape := ⟨4, ![1, 64, 2048, 512]⟩
abbrev S64x2048x512 : Shape := ⟨3, ![64, 2048, 512]⟩
abbrev S_ : Shape := ⟨0, ![]⟩
abbrev S256x1 : Shape := ⟨2, ![256, 1]⟩
abbrev S256x2048x512 : Shape := ⟨3, ![256, 2048, 512]⟩
abbrev S1x64x512x2048 : Shape := ⟨4, ![1, 64, 512, 2048]⟩
abbrev S64x512x2048 : Shape := ⟨3, ![64, 512, 2048]⟩
abbrev S256x512x2048 : Shape := ⟨3, ![256, 512, 2048]⟩
abbrev S256x256x512 : Shape := ⟨3, ![256, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S256, .i32⟩
  | .hbm, ⟨1, _⟩ => ⟨S1, .i32⟩
  | .hbm, ⟨2, _⟩ => ⟨S65536x2048, .f32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S256x256x2048, .f32⟩
  | .hbm, ⟨7, _⟩ => ⟨S1x64x2048x512, .f32⟩
  | .hbm, ⟨8, _⟩ => ⟨S64x2048x512, .f32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S256x2048x512, .f32⟩
  | .hbm, ⟨18, _⟩ => ⟨S1x64x2048x512, .f32⟩
  | .hbm, ⟨19, _⟩ => ⟨S64x2048x512, .f32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x2048x512, .f32⟩
  | .hbm, ⟨29, _⟩ => ⟨S1x64x512x2048, .f32⟩
  | .hbm, ⟨30, _⟩ => ⟨S64x512x2048, .f32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x512x2048, .f32⟩
  | .hbm, ⟨40, _⟩ => ⟨S256x256x512, .f32⟩
  | .hbm, ⟨41, _⟩ => ⟨S256x256x512, .f32⟩
  | .hbm, ⟨42, _⟩ => ⟨S256x256x512, .f32⟩
  | .hbm, ⟨43, _⟩ => ⟨S_, .f32⟩
  | .hbm, ⟨44, _⟩ => ⟨S256x256x512, .f32⟩
  | .hbm, ⟨45, _⟩ => ⟨S256x256x512, .f32⟩
  | .hbm, ⟨46, _⟩ => ⟨S_, .f32⟩
  | .hbm, ⟨47, _⟩ => ⟨S256x256x512, .f32⟩
  | .hbm, ⟨48, _⟩ => ⟨S256x256x512, .f32⟩
  | .hbm, ⟨49, _⟩ => ⟨S256x256x512, .f32⟩
  | .hbm, ⟨50, _⟩ => ⟨S256x256x512, .f32⟩
  | .hbm, ⟨51, _⟩ => ⟨S256x256x512, .f32⟩
  | .hbm, ⟨52, _⟩ => ⟨S256x256x2048, .f32⟩
  | .hbm, ⟨53, _⟩ => ⟨S65536x2048, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel2.lean ====
abbrev S8192x2048 : Shape := ⟨2, ![8192, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x2048 : Shape := ⟨2, ![8192, 2048]⟩
abbrev S2048x512 : Shape := ⟨2, ![2048, 512]⟩
abbrev S512x2048 : Shape := ⟨2, ![512, 2048]⟩
abbrev S8192x512 : Shape := ⟨2, ![8192, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel3.lean ====
abbrev S8192x2048 : Shape := ⟨2, ![8192, 2048]⟩
abbrev S2048x6176 : Shape := ⟨2, ![2048, 6176]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6176, .f32⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2048x6176 : Shape := ⟨2, ![2048, 6176]⟩
abbrev S8192x6176 : Shape := ⟨2, ![8192, 6176]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6176, .f32⟩
  | .hbm, ⟨2, _⟩ => ⟨S8192x2048, .f32⟩
  | .hbm, ⟨3, _⟩ => ⟨S8192x6176, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S2048x2048 : Shape := ⟨2, ![2048, 2048]⟩
abbrev S1024x2048 : Shape := ⟨2, ![1024, 2048]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S2048x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2048 : Shape := ⟨2, ![8192, 2048]⟩
abbrev S1x2048 : Shape := ⟨2, ![1, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S256 : Shape := ⟨1, ![256]⟩
abbrev S1 : Shape := ⟨1, ![1]⟩
abbrev S65536x2048 : Shape := ⟨2, ![65536, 2048]⟩
abbrev S2x64x2048x512 : Shape := ⟨4, ![2, 64, 2048, 512]⟩
abbrev S2x64x512x2048 : Shape := ⟨4, ![2, 64, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S65536x2048, .f32⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S65536x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S256, .i32⟩
  | .local _ .smem, ⟨1, _⟩ => ⟨S1, .i32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v4 : BitVec 32) : BitVec 1 :=
  let arg0 : BitVec 32 := BitVec.ofNat 32 (i 0).val
  let v5 : BitVec 1 := Scalar.cmpi .slt arg0 v4
  let v14 : BitVec 32 := Scalar.extui v5
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S256 : Shape := ⟨1, ![256]⟩
abbrev S1 : Shape := ⟨1, ![1]⟩
abbrev S65536x2048 : Shape := ⟨2, ![65536, 2048]⟩
abbrev S2x64x2048x512 : Shape := ⟨4, ![2, 64, 2048, 512]⟩
abbrev S2x64x512x2048 : Shape := ⟨4, ![2, 64, 512, 2048]⟩
abbrev S256x256x2048 : Shape := ⟨3, ![256, 256, 2048]⟩
abbrev S1x64x2048x512 : Shape := ⟨4, ![1, 64, 2048, 512]⟩
abbrev S64x2048x512 : Shape := ⟨3, ![64, 2048, 512]⟩
abbrev S_ : Shape := ⟨0, ![]⟩
abbrev S256x1 : Shape := ⟨2, ![256, 1]⟩
abbrev S256x2048x512 : Shape := ⟨3, ![256, 2048, 512]⟩
abbrev S1x64x512x2048 : Shape := ⟨4, ![1, 64, 512, 2048]⟩
abbrev S64x512x2048 : Shape := ⟨3, ![64, 512, 2048]⟩
abbrev S256x512x2048 : Shape := ⟨3, ![256, 512, 2048]⟩
abbrev S256x256x512 : Shape := ⟨3, ![256, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S256, .i32⟩
  | .hbm, ⟨1, _⟩ => ⟨S1, .i32⟩
  | .hbm, ⟨2, _⟩ => ⟨S65536x2048, .f32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S256x256x2048, .f32⟩
  | .hbm, ⟨7, _⟩ => ⟨S1x64x2048x512, .f32⟩
  | .hbm, ⟨8, _⟩ => ⟨S64x2048x512, .f32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S256x2048x512, .f32⟩
  | .hbm, ⟨18, _⟩ => ⟨S1x64x2048x512, .f32⟩
  | .hbm, ⟨19, _⟩ => ⟨S64x2048x512, .f32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x2048x512, .f32⟩
  | .hbm, ⟨29, _⟩ => ⟨S1x64x512x2048, .f32⟩
  | .hbm, ⟨30, _⟩ => ⟨S64x512x2048, .f32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x512x2048, .f32⟩
  | .hbm, ⟨40, _⟩ => ⟨S256x256x512, .f32⟩
  | .hbm, ⟨41, _⟩ => ⟨S256x256x512, .f32⟩
  | .hbm, ⟨42, _⟩ => ⟨S256x256x512, .f32⟩
  | .hbm, ⟨43, _⟩ => ⟨S_, .f32⟩
  | .hbm, ⟨44, _⟩ => ⟨S256x256x512, .f32⟩
  | .hbm, ⟨45, _⟩ => ⟨S256x256x512, .f32⟩
  | .hbm, ⟨46, _⟩ => ⟨S_, .f32⟩
  | .hbm, ⟨47, _⟩ => ⟨S256x256x512, .f32⟩
  | .hbm, ⟨48, _⟩ => ⟨S256x256x512, .f32⟩
  | .hbm, ⟨49, _⟩ => ⟨S256x256x512, .f32⟩
  | .hbm, ⟨50, _⟩ => ⟨S256x256x512, .f32⟩
  | .hbm, ⟨51, _⟩ => ⟨S256x256x512, .f32⟩
  | .hbm, ⟨52, _⟩ => ⟨S256x256x2048, .f32⟩
  | .hbm, ⟨53, _⟩ => ⟨S65536x2048, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel6.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x6144, .f32⟩
  | .hbm, ⟨4, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel8.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel9.lean ====
abbrev S8192x2048 : Shape := ⟨2, ![8192, 2048]⟩
abbrev S8192x6144 : Shape := ⟨2, ![8192, 6144]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x6144, .bf16⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x2048 : Shape := ⟨2, ![8192, 2048]⟩
abbrev S8192x6144 : Shape := ⟨2, ![8192, 6144]⟩
abbrev S2048 : Shape := ⟨1, ![2048]⟩
abbrev S8192x8x256 : Shape := ⟨3, ![8192, 8, 256]⟩
abbrev S_ : Shape := ⟨0, ![]⟩
abbrev S8192x8 : Shape := ⟨2, ![8192, 8]⟩
abbrev S8192x8x1 : Shape := ⟨3, ![8192, 8, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x6144, .bf16⟩
  | .hbm, ⟨3, _⟩ => ⟨S2048, .f32⟩
  | .hbm, ⟨4, _⟩ => ⟨S8192x2048, .f32⟩
  | .hbm, ⟨5, _⟩ => ⟨S8192x8x256, .f32⟩
  | .hbm, ⟨6, _⟩ => ⟨S8192x8x256, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x256, .f32⟩
  | .hbm, ⟨18, _⟩ => ⟨S8192x8x256, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel10.lean ====
abbrev S8192x2048 : Shape := ⟨2, ![8192, 2048]⟩
abbrev S8192x6144 : Shape := ⟨2, ![8192, 6144]⟩
abbrev S8192x32 : Shape := ⟨2, ![8192, 32]⟩
abbrev S32x8192 : Shape := ⟨2, ![32, 8192]⟩
abbrev S32x1x32 : Shape := ⟨3, ![32, 1, 32]⟩
abbrev S256x2048 : Shape := ⟨2, ![256, 2048]⟩
abbrev S256x32 : Shape := ⟨2, ![256, 32]⟩
abbrev S32x256 : Shape := ⟨2, ![32, 256]⟩
abbrev S1x1x32 : Shape := ⟨3, ![1, 1, 32]⟩
abbrev S16x128x256 : Shape := ⟨3, ![16, 128, 256]⟩
abbrev S16x1x128 : Shape := ⟨3, ![16, 1, 128]⟩
abbrev S256x128 : Shape := ⟨2, ![256, 128]⟩
abbrev S256x256 : Shape := ⟨2, ![256, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S1x128x256 : Shape := ⟨3, ![1, 128, 256]⟩
abbrev S128x256 : Shape := ⟨2, ![128, 256]⟩
abbrev S1x1x128 : Shape := ⟨3, ![1, 1, 128]⟩
abbrev S1x128 : Shape := ⟨2, ![1, 128]⟩
abbrev S256 : Shape := ⟨1, ![256]⟩
abbrev S128 : Shape := ⟨1, ![128]⟩

abbrev nBuf : Space → Nat
  | .hbm => 7
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S8192x32, .f32⟩
  | .hbm, ⟨3, _⟩ => ⟨S32x8192, .f32⟩
  | .hbm, ⟨4, _⟩ => ⟨S32x1x32, .f32⟩
  | .hbm, ⟨5, _⟩ => ⟨S8192x2048, .f32⟩
  | .hbm, ⟨6, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x32, .f32⟩
  | .local _ .vmem, ⟨9, _⟩ => ⟨S256x32, .f32⟩
  | .local _ .vmem, ⟨10, _⟩ => ⟨S256x32, .f32⟩
  | .local _ .vmem, ⟨11, _⟩ => ⟨S256x32, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S1x1x32, .f32⟩
  | .local _ .vmem, ⟨17, _⟩ => ⟨S1x1x32, .f32⟩
  | .local _ .vmem, ⟨18, _⟩ => ⟨S1x1x32, .f32⟩
  | .local _ .vmem, ⟨19, _⟩ => ⟨S1x1x32, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S16x128x256, .f32⟩
  | .local _ .vmem, ⟨25, _⟩ => ⟨S16x1x128, .f32⟩
  | .local _ .vmem, ⟨26, _⟩ => ⟨S16x1x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel11.lean ====
abbrev S8192x6144 : Shape := ⟨2, ![8192, 6144]⟩
abbrev S3x2048 : Shape := ⟨2, ![3, 2048]⟩
abbrev S2048 : Shape := ⟨1, ![2048]⟩
abbrev S1x2048 : Shape := ⟨2, ![1, 2048]⟩
abbrev S8192x2048 : Shape := ⟨2, ![8192, 2048]⟩
abbrev S512x512 : Shape := ⟨2, ![512, 512]⟩
abbrev S16x512 : Shape := ⟨2, ![16, 512]⟩
abbrev S3x512 : Shape := ⟨2, ![3, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S8192x6144 : Shape := ⟨2, ![8192, 6144]⟩
abbrev S3x2048 : Shape := ⟨2, ![3, 2048]⟩
abbrev S2048 : Shape := ⟨1, ![2048]⟩
abbrev S8192x2048 : Shape := ⟨2, ![8192, 2048]⟩
abbrev S_ : Shape := ⟨0, ![]⟩
abbrev S8194x2048 : Shape := ⟨2, ![8194, 2048]⟩
abbrev S1x2048 : Shape := ⟨2, ![1, 2048]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S2048, .f32⟩
  | .hbm, ⟨3, _⟩ => ⟨S8192x2048, .bf16⟩
  | .hbm, ⟨4, _⟩ => ⟨S8192x2048, .f32⟩
  | .hbm, ⟨5, _⟩ => ⟨S_, .i32⟩
  | .hbm, ⟨6, _⟩ => ⟨S_, .f32⟩
  | .hbm, ⟨7, _⟩ => ⟨S8194x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x2048, .f32⟩
  | .hbm, ⟨46, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel12.lean ====
abbrev S8192x6144 : Shape := ⟨2, ![8192, 6144]⟩
abbrev S3x6144 : Shape := ⟨2, ![3, 6144]⟩
abbrev S6144 : Shape := ⟨1, ![6144]⟩
abbrev S1x6144 : Shape := ⟨2, ![1, 6144]⟩
abbrev S8192x2048 : Shape := ⟨2, ![8192, 2048]⟩
abbrev S512x512 : Shape := ⟨2, ![512, 512]⟩
abbrev S16x512 : Shape := ⟨2, ![16, 512]⟩
abbrev S3x512 : Shape := ⟨2, ![3, 512]⟩
abbrev S1x512 : Shape := ⟨2, ![1, 512]⟩

abbrev nBuf : Space → Nat
  | .hbm => 6
  | .vmem => 34
  | .smem => 0
  | _ => 0

abbrev bufTy : (tb : Table) → Fin (tcTables nBuf tb) → BufTy
  | .hbm, ⟨0, _⟩ => ⟨S8192x6144, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S8192x2048, .bf16⟩
  | .hbm, ⟨5, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.addi c4_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c8_i32 : BitVec 32 := 8#32
  let v3 : BitVec 32 := Scalar.addi c8_i32 arg1
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference12Ideal.lean ====
abbrev S8192x6144 : Shape := ⟨2, ![8192, 6144]⟩
abbrev S3x6144 : Shape := ⟨2, ![3, 6144]⟩
abbrev S6144 : Shape := ⟨1, ![6144]⟩
abbrev S_ : Shape := ⟨0, ![]⟩
abbrev S8194x6144 : Shape := ⟨2, ![8194, 6144]⟩
abbrev S1x6144 : Shape := ⟨2, ![1, 6144]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x6144, .f32⟩
  | .hbm, ⟨2, _⟩ => ⟨S6144, .f32⟩
  | .hbm, ⟨3, _⟩ => ⟨S8192x6144, .f32⟩
  | .hbm, ⟨4, _⟩ => ⟨S_, .i32⟩
  | .hbm, ⟨5, _⟩ => ⟨S_, .f32⟩
  | .hbm, ⟨6, _⟩ => ⟨S8194x6144, .f32⟩
  | .hbm, ⟨7, _⟩ => ⟨S8192x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S8192x6144, .f32⟩
  | .hbm, ⟨12, _⟩ => ⟨S8192x6144, .f32⟩
  | .hbm, ⟨13, _⟩ => ⟨S8192x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S8192x6144, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S1x6144, .f32⟩
  | .hbm, ⟨22, _⟩ => ⟨S6144, .f32⟩
  | .hbm, ⟨23, _⟩ => ⟨S1x6144, .f32⟩
  | .hbm, ⟨24, _⟩ => ⟨S8192x6144, .f32⟩
  | .hbm, ⟨25, _⟩ => ⟨S8192x6144, .f32⟩
  | .hbm, ⟨26, _⟩ => ⟨S8192x6144, .f32⟩
  | .hbm, ⟨27, _⟩ => ⟨S1x6144, .f32⟩
  | .hbm, ⟨28, _⟩ => ⟨S8192x6144, .f32⟩
  | .hbm, ⟨29, _⟩ => ⟨S8192x6144, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | .hbm, ⟨35, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel13.lean ====
abbrev S8192x2048 : Shape := ⟨2, ![8192, 2048]⟩
abbrev S2048x32 : Shape := ⟨2, ![2048, 32]⟩
abbrev S32 : Shape := ⟨1, ![32]⟩
abbrev S32x2048 : Shape := ⟨2, ![32, 2048]⟩
abbrev S1x32 : Shape := ⟨2, ![1, 32]⟩
abbrev S32x1 : Shape := ⟨2, ![32, 1]⟩
abbrev S8192x32 : Shape := ⟨2, ![8192, 32]⟩
abbrev S32x8192 : Shape := ⟨2, ![32, 8192]⟩
abbrev S32x1x32 : Shape := ⟨3, ![32, 1, 32]⟩
abbrev S256x2048 : Shape := ⟨2, ![256, 2048]⟩
abbrev S256x32 : Shape := ⟨2, ![256, 32]⟩
abbrev S32x256 : Shape := ⟨2, ![32, 256]⟩
abbrev S1x1x32 : Shape := ⟨3, ![1, 1, 32]⟩
abbrev S256x256 : Shape := ⟨2, ![256, 256]⟩
abbrev S256x8 : Shape := ⟨2, ![256, 8]⟩
abbrev S8 : Shape := ⟨1, ![8]⟩
abbrev S1x8 : Shape := ⟨2, ![1, 8]⟩
abbrev S8x256 : Shape := ⟨2, ![8, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x32, .f32⟩
  | .hbm, ⟨2, _⟩ => ⟨S32, .f32⟩
  | .hbm, ⟨3, _⟩ => ⟨S32x2048, .f32⟩
  | .hbm, ⟨4, _⟩ => ⟨S1x32, .f32⟩
  | .hbm, ⟨5, _⟩ => ⟨S32x1, .f32⟩
  | .hbm, ⟨6, _⟩ => ⟨S8192x32, .f32⟩
  | .hbm, ⟨7, _⟩ => ⟨S32x8192, .f32⟩
  | .hbm, ⟨8, _⟩ => ⟨S32x1x32, .f32⟩
  | .local _ .vmem, ⟨0, _⟩ => ⟨S256x2048, .bf16⟩
  | .local _ .vmem, ⟨1, _⟩ => ⟨S256x2048, .bf16⟩
  | .local _ .vmem, ⟨2, _⟩ => ⟨S2048x32, .f32⟩
  | .local _ .vmem, ⟨3, _⟩ => ⟨S32x2048, .f32⟩
  | .local _ .vmem, ⟨4, _⟩ => ⟨S1x32, .f32⟩
  | .local _ .vmem, ⟨5, _⟩ => ⟨S32x1, .f32⟩
  | .local _ .vmem, ⟨6, _⟩ => ⟨S256x32, .f32⟩
  | .local _ .vmem, ⟨7, _⟩ => ⟨S256x32, .f32⟩
  | .local _ .vmem, ⟨8, _⟩ => ⟨S32x256, .f32⟩
  | .local _ .vmem, ⟨9, _⟩ => ⟨S32x256, .f32⟩
  | .local _ .vmem, ⟨10, _⟩ => ⟨S1x1x32, .f32⟩
  | .local _ .vmem, ⟨11, _⟩ => ⟨S1x1x32, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14.lean ====
abbrev S8192x128 : Shape := ⟨2, ![8192, 128]⟩
abbrev S128x64 : Shape := ⟨2, ![128, 64]⟩
abbrev S64 : Shape := ⟨1, ![64]⟩
abbrev S64x64 : Shape := ⟨2, ![64, 64]⟩
abbrev S64x4096 : Shape := ⟨2, ![64, 4096]⟩
abbrev S1x2048 : Shape := ⟨2, ![1, 2048]⟩
abbrev S1x64 : Shape := ⟨2, ![1, 64]⟩
abbrev S8192x4096 : Shape := ⟨2, ![8192, 4096]⟩
abbrev S256x128 : Shape := ⟨2, ![256, 128]⟩
abbrev S256x4096 : Shape := ⟨2, ![256, 4096]⟩
abbrev S256x64 : Shape := ⟨2, ![256, 64]⟩
abbrev S256x1 : Shape := ⟨2, ![256, 1]⟩
abbrev S256x2048 : Shape := ⟨2, ![256, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x4096, .f32⟩
  | .hbm, ⟨9, _⟩ => ⟨S1x2048, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S8192x4096, .bf16⟩
  | .local _ .vmem, ⟨0, _⟩ => ⟨S256x128, .f32⟩
  | .local _ .vmem, ⟨1, _⟩ => ⟨S256x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x4096, .f32⟩
  | .local _ .vmem, ⟨10, _⟩ => ⟨S1x2048, .f32⟩
  | .local _ .vmem, ⟨11, _⟩ => ⟨S256x4096, .bf16⟩
  | .local _ .vmem, ⟨12, _⟩ => ⟨S256x4096, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S8192x128 : Shape := ⟨2, ![8192, 128]⟩
abbrev S128x64 : Shape := ⟨2, ![128, 64]⟩
abbrev S64 : Shape := ⟨1, ![64]⟩
abbrev S64x64 : Shape := ⟨2, ![64, 64]⟩
abbrev S64x4096 : Shape := ⟨2, ![64, 4096]⟩
abbrev S1x2048 : Shape := ⟨2, ![1, 2048]⟩
abbrev S8192x64 : Shape := ⟨2, ![8192, 64]⟩
abbrev S1x64 : Shape := ⟨2, ![1, 64]⟩
abbrev S8192x4096 : Shape := ⟨2, ![8192, 4096]⟩
abbrev S8192 : Shape := ⟨1, ![8192]⟩
abbrev S8192x1 : Shape := ⟨2, ![8192, 1]⟩
abbrev S_ : Shape := ⟨0, ![]⟩
abbrev S8192x2048 : Shape := ⟨2, ![8192, 2048]⟩
abbrev S8191x2048 : Shape := ⟨2, ![8191, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x4096, .f32⟩
  | .hbm, ⟨9, _⟩ => ⟨S1x2048, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S1x64, .f32⟩
  | .hbm, ⟨28, _⟩ => ⟨S8192x64, .f32⟩
  | .hbm, ⟨29, _⟩ => ⟨S8192x64, .f32⟩
  | .hbm, ⟨30, _⟩ => ⟨S1x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x4096, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S1x2048, .f32⟩
  | .hbm, ⟨51, _⟩ => ⟨S8191x2048, .f32⟩
  | .hbm, ⟨52, _⟩ => ⟨S8192x2048, .f32⟩
  | .hbm, ⟨53, _⟩ => ⟨S8192x4096, .f32⟩
  | .hbm, ⟨54, _⟩ => ⟨S8192x4096, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel15.lean ====
abbrev S2048 : Shape := ⟨1, ![2048]⟩
abbrev S2x2048x12288 : Shape := ⟨3, ![2, 2048, 12288]⟩
abbrev S2x12288 : Shape := ⟨2, ![2, 12288]⟩
abbrev S2048x1 : Shape := ⟨2, ![2048, 1]⟩
abbrev S2x1x12288 : Shape := ⟨3, ![2, 1, 12288]⟩
abbrev S1x2048x1024 : Shape := ⟨3, ![1, 2048, 1024]⟩
abbrev S1x1x1024 : Shape := ⟨3, ![1, 1, 1024]⟩
abbrev S8x1024 : Shape := ⟨2, ![8, 1024]⟩
abbrev S1x256x1024 : Shape := ⟨3, ![1, 256, 1024]⟩
abbrev S256x1024 : Shape := ⟨2, ![256, 1024]⟩
abbrev S256x1 : Shape := ⟨2, ![256, 1]⟩
abbrev S32x8x1024 : Shape := ⟨3, ![32, 8, 1024]⟩
abbrev S1024 : Shape := ⟨1, ![1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048, .f32⟩
  | .hbm, ⟨1, _⟩ => ⟨S2x2048x12288, .f32⟩
  | .hbm, ⟨2, _⟩ => ⟨S2x12288, .f32⟩
  | .hbm, ⟨3, _⟩ => ⟨S2048x1, .f32⟩
  | .hbm, ⟨4, _⟩ => ⟨S2x1x12288, .f32⟩
  | .hbm, ⟨5, _⟩ => ⟨S2x1x12288, .f32⟩
  | .local _ .vmem, ⟨0, _⟩ => ⟨S2048x1, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2048x1, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  v18
def k0_off1 (k0_t1 : Fin k0_t1_loop.trips) : Fin 3 → Nat :=
  let c0_11 : Index := 0#32
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  let v19 : BitVec 32 := v18
  let v20 : Index := Scalar.indexCast v19
  let c0_12 : Index := 0#32
  ![0, v20.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  let v19 : BitVec 32 := v18
  let v23 : Index := Scalar.indexCast v19
  let c0_13 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S12288 : Shape := ⟨1, ![12288]⟩
abbrev S1x12288 : Shape := ⟨2, ![1, 12288]⟩
abbrev S2x1x12288 : Shape := ⟨3, ![2, 1, 12288]⟩

abbrev nBuf : Space → Nat
  | .hbm => 28
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2x2048x12288, .f32⟩
  | .hbm, ⟨2, _⟩ => ⟨S2x12288, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048x12288, .f32⟩
  | .hbm, ⟨13, _⟩ => ⟨S2048x12288, .f32⟩
  | .hbm, ⟨14, _⟩ => ⟨S12288, .f32⟩
  | .hbm, ⟨15, _⟩ => ⟨S1x12288, .f32⟩
  | .hbm, ⟨16, _⟩ => ⟨S12288, .f32⟩
  | .hbm, ⟨17, _⟩ => ⟨S12288, .f32⟩
  | .hbm, ⟨18, _⟩ => ⟨S1x2048x12288, .f32⟩
  | .hbm, ⟨19, _⟩ => ⟨S2048x12288, .f32⟩
  | .hbm, ⟨20, _⟩ => ⟨S12288, .f32⟩
  | .hbm, ⟨21, _⟩ => ⟨S1x12288, .f32⟩
  | .hbm, ⟨22, _⟩ => ⟨S12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S2x12288, .f32⟩
  | .hbm, ⟨27, _⟩ => ⟨S2x1x12288, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Ffn.lean ====
/-
  The gated linear unit of the feed-forward blocks, over the extended reals.
-/
module

public import Idealize.ShloMosaic.Lib.Pointwise

@[expose] public section

noncomputable section

namespace Cert.Ffn

open Idealize.ShloMosaic

/-- One hidden unit: the gate's value times its logistic, times the up-projection's value. -/
def hidden (g u : Ideal .f32) : Ideal .f32 := g * Ideal.logistic g * u

end Cert.Ffn

end
-- ==== Proof.SharedExpert.lean ====
/-
  The shared expert: what the kernel's result array holds after the run, as a formula in its four arguments.
  The kernel walks the 16 row blocks; the first point rounds the three weight matrices into scratches, which every point
  then multiplies by.
-/
module

public import proofs.«01_k».proof.Proof.Ffn
public import proofs.«01_k».proof.Proof.Gen.Kernel2Ideal.Value
public import proofs.«01_k».proof.Proof.Gen.Reference2Ideal.Read
public import Idealize.ShloMosaic.Lib.Pipeline.Value
public import Idealize.ShloMosaic.Lib.MatmulPlain
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.SharedExpert

open Cert.Kernel2Ideal Cert.Kernel2Ideal.Gen

theorem hz : (![0, 0] : Fin 2 → Nat) = fun _ => 0 := funext fun a => by fin_cases a <;> rfl

section Cases
variable {F : FTy → Type} [FloatOps F]

/-- The first point leaves the rounded gate weights in their scratch. -/
theorem gate_open (c : Dev nD) (i : grid0.Coords) (a1 : Memref sig .tc .vmem S512x2048 .f32) (h1 : a1.IsWhole)
    (a2 : Memref sig .tc .vmem S2048x512 .f32) (h2 : a2.IsWhole) (a3 : Memref sig .tc .vmem S2048x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S2048x512 .bf16) (h6 : a6.IsWhole) (a7 : Memref sig .tc .vmem S2048x512 .bf16) (h7 : a7.IsWhole)
    (a8 : Memref sig .tc .vmem S512x2048 .bf16) (h8 : a8.IsWhole) (hc : cond0_0 i)
    (x0 : Vec F S512x2048 .f32) (x1 x2 : Vec F S2048x512 .f32) (x3 : Vec F S512x2048 .f32) : sout0_A_0 c i a1 h1 a2 h2 a3 h3 a4 h4 a5 h5 a6 h6 a7 h7 a8 h8 hc x0 x1 x2 x3 = k0_pay1 x1 := by
  unfold sout0_A_0
  rw [View.read_writes_eq_canon _ _ _ (scover0_A_0 c i a1 h1 a2 h2 a3 h3 a4 h4 a5 h5 a6 h6 a7 h7 a8 h8 hc x0 x1 x2 x3)]
  unfold kernelRun0_A
  dsimp only
  sl_unfold_words
  rw [View.canon_unit_zero hz]
  simp only [View.readAt_eq_ld, h2.read_unread, View.ld_unit_zero (S := S2048x512) hz]

/-- The first point leaves the rounded up weights in their scratch. -/
theorem up_open (c : Dev nD) (i : grid0.Coords) (a1 : Memref sig .tc .vmem S512x2048 .f32) (h1 : a1.IsWhole)
    (a2 : Memref sig .tc .vmem S2048x512 .f32) (h2 : a2.IsWhole) (a3 : Memref sig .tc .vmem S2048x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S2048x512 .bf16) (h6 : a6.IsWhole) (a7 : Memref sig .tc .vmem S2048x512 .bf16) (h7 : a7.IsWhole)
    (a8 : Memref sig .tc .vmem S512x2048 .bf16) (h8 : a8.IsWhole) (hc : cond0_0 i)
    (x0 : Vec F S512x2048 .f32) (x1 x2 : Vec F S2048x512 .f32) (x3 : Vec F S512x2048 .f32) : sout0_A_1 c i a1 h1 a2 h2 a3 h3 a4 h4 a5 h5 a6 h6 a7 h7 a8 h8 hc x0 x1 x2 x3 = k0_pay2 x2 := by
  unfold sout0_A_1
  rw [View.read_writes_eq_canon _ _ _ (scover0_A_1 c i a1 h1 a2 h2 a3 h3 a4 h4 a5 h5 a6 h6 a7 h7 a8 h8 hc x0 x1 x2 x3)]
  unfold kernelRun0_A
  dsimp only
  sl_unfold_words
  rw [View.canon_unit_zero hz]
  simp only [View.readAt_eq_ld, h3.read_unread, View.ld_unit_zero (S := S2048x512) hz]

/-- The first point leaves the rounded down weights in their scratch. -/
theorem down_open (c : Dev nD) (i : grid0.Coords) (a1 : Memref sig .tc .vmem S512x2048 .f32) (h1 : a1.IsWhole)
    (a2 : Memref sig .tc .vmem S2048x512 .f32) (h2 : a2.IsWhole) (a3 : Memref sig .tc .vmem S2048x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S2048x512 .bf16) (h6 : a6.IsWhole) (a7 : Memref sig .tc .vmem S2048x512 .bf16) (h7 : a7.IsWhole)
    (a8 : Memref sig .tc .vmem S512x2048 .bf16) (h8 : a8.IsWhole) (hc : cond0_0 i)
    (x0 : Vec F S512x2048 .f32) (x1 x2 : Vec F S2048x512 .f32) (x3 : Vec F S512x2048 .f32) : sout0_A_2 c i a1 h1 a2 h2 a3 h3 a4 h4 a5 h5 a6 h6 a7 h7 a8 h8 hc x0 x1 x2 x3 = k0_pay3 x3 := by
  unfold sout0_A_2
  rw [View.read_writes_eq_canon _ _ _ (scover0_A_2 c i a1 h1 a2 h2 a3 h3 a4 h4 a5 h5 a6 h6 a7 h7 a8 h8 hc x0 x1 x2 x3)]
  unfold kernelRun0_A
  dsimp only
  sl_unfold_words
  rw [View.canon_unit_zero hz]
  simp only [View.readAt_eq_ld, h4.read_unread, View.ld_unit_zero (S := S512x2048) hz]

/-- … and in the output's block the feed-forward with the weights it has just rounded. -/
theorem out_open (c : Dev nD) (i : grid0.Coords) (a1 : Memref sig .tc .vmem S512x2048 .f32) (h1 : a1.IsWhole)
    (a2 : Memref sig .tc .vmem S2048x512 .f32) (h2 : a2.IsWhole) (a3 : Memref sig .tc .vmem S2048x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S2048x512 .bf16) (h6 : a6.IsWhole) (a7 : Memref sig .tc .vmem S2048x512 .bf16) (h7 : a7.IsWhole)
    (a8 : Memref sig .tc .vmem S512x2048 .bf16) (h8 : a8.IsWhole) (hc : cond0_0 i)
    (x0 : Vec F S512x2048 .f32) (x1 x2 : Vec F S2048x512 .f32) (x3 : Vec F S512x2048 .f32) : out0_A_4 c i a1 h1 a2 h2 a3 h3 a4 h4 a5 h5 a6 h6 a7 h7 a8 h8 hc x0 x1 x2 x3 = k0_pay4 x0 (k0_pay1 x1) (k0_pay2 x2) (k0_pay3 x3) := by
  unfold out0_A_4
  rw [View.read_writes_eq_canon _ _ _ (cover0_A_4 c i a1 h1 a2 h2 a3 h3 a4 h4 a5 h5 a6 h6 a7 h7 a8 h8 hc x0 x1 x2 x3)]
  unfold kernelRun0_A
  dsimp only
  sl_unfold_words
  rw [View.canon_unit_zero hz]
  simp only [View.readAt_eq_ld, h1.read_unread, h2.read_unread, h3.read_unread, h4.read_unread,
    View.readCov_unit_zero (S := S2048x512) _ hz, View.readCov_unit_zero (S := S512x2048) _ hz,
    View.ld_unit_zero (S := S2048x512) hz, View.ld_unit_zero (S := S512x2048) hz]

/-- Every other point multiplies by what the scratches hold. -/
theorem out_rest (c : Dev nD) (i : grid0.Coords) (a1 : Memref sig .tc .vmem S512x2048 .f32) (h1 : a1.IsWhole)
    (a2 : Memref sig .tc .vmem S2048x512 .f32) (h2 : a2.IsWhole) (a3 : Memref sig .tc .vmem S2048x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S2048x512 .bf16) (h6 : a6.IsWhole) (a7 : Memref sig .tc .vmem S2048x512 .bf16) (h7 : a7.IsWhole)
    (a8 : Memref sig .tc .vmem S512x2048 .bf16) (h8 : a8.IsWhole) (hc : ¬cond0_0 i)
    (x0 : Vec F S512x2048 .f32) (x1 x2 : Vec F S2048x512 .f32) (x3 : Vec F S512x2048 .f32) (g u : Vec F S2048x512 .bf16) (d : Vec F S512x2048 .bf16) :
    out0_B_4 c i a1 h1 a2 h2 a3 h3 a4 h4 a5 h5 a6 h6 a7 h7 a8 h8 hc x0 x1 x2 x3 g u d = k0_pay4 x0 g u d := by
  unfold out0_B_4
  rw [View.read_writes_eq_canon _ _ _ (cover0_B_4 c i a1 h1 a2 h2 a3 h3 a4 h4 a5 h5 a6 h6 a7 h7 a8 h8 hc x0 x1 x2 x3 g u d)]
  unfold kernelRun0_B
  dsimp only
  sl_unfold_words
  rw [View.canon_unit_zero hz]
  simp only [View.readAt_eq_ld, h1.read_unread, h6.read_unread, h7.read_unread, h8.read_unread,
    View.ld_unit_zero (S := S2048x512) hz, View.ld_unit_zero (S := S512x2048) hz]

end Cases

section Run
variable {F : FTy → Type} [FloatOps F]
variable (m : (ℓ : Loc nD τ sig) → Buf (Elt F) ℓ)

/-- Where the windows stand at point `t`: row block `t` of the rows and of the result, the whole of each weight matrix. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- The gate weights stand whole in their window at every point. -/
theorem gate_at (c : Dev nD) (t : Fin cfg0.N) : (iblk m c 1 t : Vec F S2048x512 .f32) = m ((c : Thread nD τ).loc main_arg1) := by
  obtain ⟨-, ⟨p, q⟩, -⟩ := places t
  refine funext fun (j : S2048x512.Idx) => ?_
  unfold iblk
  rw [View.read_apply]
  show V m c main_arg1 _ = m (c.tc.loc main_arg1) _
  unfold V
  congr 1
  funext a
  apply Fin.ext
  match a with
  | ⟨0, _⟩ => show win0_1.index t 0 * 2048 + 1 * (j 0).val = (j 0).val; rw [p]; omega
  | ⟨1, _⟩ => show win0_1.index t 1 * 512 + 1 * (j 1).val = (j 1).val; rw [q]; omega

/-- The up weights stand whole in their window at every point. -/
theorem up_at (c : Dev nD) (t : Fin cfg0.N) : (iblk m c 2 t : Vec F S2048x512 .f32) = m ((c : Thread nD τ).loc main_arg2) := by
  obtain ⟨-, -, ⟨p, q⟩, -⟩ := places t
  refine funext fun (j : S2048x512.Idx) => ?_
  unfold iblk
  rw [View.read_apply]
  show V m c main_arg2 _ = m (c.tc.loc main_arg2) _
  unfold V
  congr 1
  funext a
  apply Fin.ext
  match a with
  | ⟨0, _⟩ => show win0_2.index t 0 * 2048 + 1 * (j 0).val = (j 0).val; rw [p]; omega
  | ⟨1, _⟩ => show win0_2.index t 1 * 512 + 1 * (j 1).val = (j 1).val; rw [q]; omega

/-- The down weights stand whole in their window at every point. -/
theorem down_at (c : Dev nD) (t : Fin cfg0.N) : (iblk m c 3 t : Vec F S512x2048 .f32) = m ((c : Thread nD τ).loc main_arg3) := by
  obtain ⟨-, -, -, ⟨p, q⟩, -⟩ := places t
  refine funext fun (j : S512x2048.Idx) => ?_
  unfold iblk
  rw [View.read_apply]
  show V m c main_arg3 _ = m (c.tc.loc main_arg3) _
  unfold V
  congr 1
  funext a
  apply Fin.ext
  match a with
  | ⟨0, _⟩ => show win0_3.index t 0 * 512 + 1 * (j 0).val = (j 0).val; rw [p]; omega
  | ⟨1, _⟩ => show win0_3.index t 1 * 2048 + 1 * (j 1).val = (j 1).val; rw [q]; omega

/-- The row block at point `t`. -/
theorem rows_at (c : Dev nD) (t : Fin cfg0.N) (r : Fin 512) (k : Fin 2048) :
    (iblk m c 0 t : Vec F S512x2048 .f32) (ix2 r k)
      = m ((c : Thread nD τ).loc main_arg0) (ix2 ⟨t.val * 512 + r.val, by have := t.isLt; have h : cfg0.N = 16 := N_0; omega⟩ k) := by
  obtain ⟨⟨p, q⟩, -⟩ := places t
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [p]; omega
  | ⟨1, _⟩ => show win0_0.index t 1 * 2048 + 1 * k.val = k.val; rw [q]; omega

/-- After every point the scratches hold the rounded weights. -/
theorem scratch_after (c : Dev nD) (n : ℕ) : ∀ h : n < cfg0.N, (outsAt0 m c n h).2
    = (k0_pay1 (F := F) (m ((c : Thread nD τ).loc main_arg1)), k0_pay2 (F := F) (m ((c : Thread nD τ).loc main_arg2)),
        k0_pay3 (F := F) (m ((c : Thread nD τ).loc main_arg3))) := by
  induction n with
  | zero =>
    intro h
    rw [outsAt0_A m c ⟨0, h⟩ rfl]
    dsimp only
    rw [gate_open, up_open, down_open, gate_at, up_at, down_at]
  | succ n ih =>
    intro h
    have hN : cfg0.N = 16 := N_0
    have h0 : ¬(n + 1) % 16 = 0 := by omega
    rw [outsAt0_B m c ⟨n + 1, h⟩ h0, ← ih (Nat.lt_of_succ_lt h)]
    unfold sout0_B_0 sout0_B_1 sout0_B_2
    rfl

/-- What every point leaves in the output's block. -/
theorem out_after (c : Dev nD) (t : Fin cfg0.N) : (outsAt0 m c t.val t.isLt).1
    = k0_pay4 (F := F) (iblk m c 0 t) (k0_pay1 (F := F) (m ((c : Thread nD τ).loc main_arg1)))
        (k0_pay2 (F := F) (m ((c : Thread nD τ).loc main_arg2))) (k0_pay3 (F := F) (m ((c : Thread nD τ).loc main_arg3))) := by
  by_cases h0 : t.val % 16 = 0
  · rw [outsAt0_A m c t h0]; dsimp only; rw [out_open, gate_at, up_at, down_at]
  · rw [outsAt0_B m c t h0]
    dsimp only
    rw [out_rest, scratch_after m c (t.val - 1)]

end Run

/-! ## Over the extended reals -/

/-- The gated linear unit's inner product with the down weights, at row `r` and column `l`. -/
def formula (x : FVec Ideal S8192x2048 .f32) (wg wu : FVec Ideal S2048x512 .f32) (wd : FVec Ideal S512x2048 .f32) :
    FVec Ideal S8192x2048 .f32 := fun i =>
  ∑ f : Fin 512, Cert.Ffn.hidden (∑ k : Fin 2048, x (ix2 (i 0) k) * wg (ix2 k f)) (∑ k : Fin 2048, x (ix2 (i 0) k) * wu (ix2 k f)) * wd (ix2 f (i 1))

/-- One element of what a point computes. -/
theorem block_at (x : FVec Ideal S512x2048 .f32) (wg wu : FVec Ideal S2048x512 .f32) (wd : FVec Ideal S512x2048 .f32)
    (r : Fin 512) (l : Fin 2048) : k0_pay4 (F := Ideal) x (k0_pay1 (F := Ideal) wg) (k0_pay2 (F := Ideal) wu) (k0_pay3 (F := Ideal) wd) (ix2 r l)
      = ∑ f : Fin 512, Cert.Ffn.hidden (∑ k : Fin 2048, x (ix2 r k) * wg (ix2 k f)) (∑ k : Fin 2048, x (ix2 r k) * wu (ix2 k f)) * wd (ix2 f l) := by
  pointwise [k0_pay4, k0_pay1, k0_pay2, k0_pay3]
  rfl

variable (m : (ℓ : Loc nD τ sig) → Buf (Elt Ideal) ℓ)

/-- After the run the result array is the formula of the arguments. -/
theorem final (c : Dev nD) : Value.G4 m c = formula (m ((c : Thread nD τ).loc main_arg0)) (m ((c : Thread nD τ).loc main_arg1))
    (m ((c : Thread nD τ).loc main_arg2)) (m ((c : Thread nD τ).loc main_arg3)) := by
  rw [← Value.final4]
  refine (dats m 0 c).arrAt_eq_of_cover 4 _ (fun t _ => ?_) (fun i => (Value.covered_iff4 i).2 (by
    have h0 : (i 0).val < 8192 := (i 0).isLt; have h1 : (i 1).val < 2048 := (i 1).isLt; omega))
  rw [Value.flushed4, out_after]
  obtain ⟨-, -, -, -, p, q⟩ := places t
  funext y
  rw [View.read_apply]
  have hy : y = ix2 (y 0) (y 1) := eq_ix2 y
  have ht : t.val < 16 := lt_of_lt_of_eq t.isLt (show cfg0.N = 16 from N_0)
  have h0 : (y 0).val < 512 := (y 0).isLt
  have h1 : (y 1).val < 2048 := (y 1).isLt
  have hi : ((cfg0.win 4).blk t).view.emb y
      = (ix2 (⟨t.val * 512 + (y 0).val, by omega⟩ : Fin 8192) (⟨(y 1).val, h1⟩ : Fin 2048) : S8192x2048.Idx) := by
    funext a
    apply Fin.ext
    match a with
    | ⟨0, _⟩ => show win0_4.index t 0 * 512 + 1 * (y 0).val = t.val * 512 + (y 0).val; rw [p]; omega
    | ⟨1, _⟩ => show win0_4.index t 1 * 2048 + 1 * (y 1).val = (y 1).val; rw [q]; omega
  refine Eq.trans (b := k0_pay4 (F := Ideal) (iblk m c 0 t) (k0_pay1 (F := Ideal) (m ((c : Thread nD τ).loc main_arg1)))
        (k0_pay2 (F := Ideal) (m ((c : Thread nD τ).loc main_arg2))) (k0_pay3 (F := Ideal) (m ((c : Thread nD τ).loc main_arg3)))
        (ix2 (y 0) (y 1))) (congrArg _ hy) ?_
  refine (block_at _ _ _ _ (y 0) (y 1)).trans ?_
  refine Eq.trans ?_ (congrArg (formula (m ((c : Thread nD τ).loc main_arg0)) (m ((c : Thread nD τ).loc main_arg1))
    (m ((c : Thread nD τ).loc main_arg2)) (m ((c : Thread nD τ).loc main_arg3))) hi).symm
  unfold formula
  refine Finset.sum_congr rfl fun f _ => congrArg₂ (· * ·) (congrArg₂ Cert.Ffn.hidden ?_ ?_) rfl
  · exact Finset.sum_congr rfl fun k _ => congrArg₂ (· * ·) (rows_at m c t (y 0) k) rfl
  · exact Finset.sum_congr rfl fun k _ => congrArg₂ (· * ·) (rows_at m c t (y 0) k) rfl

end Cert.SharedExpert

namespace Cert.SharedExpert.Host
open Cert.Reference2Ideal Cert.Reference2Ideal.Read

/-- The reference is the same formula. -/
theorem reads (x : FVec Ideal S8192x2048 .f32) (wg wu : FVec Ideal S2048x512 .f32) (wd : FVec Ideal S512x2048 .f32) :
    val_main_v4 (F := Ideal) x wg wu wd = Cert.SharedExpert.formula x wg wu wd := by
  funext i
  rw [val_main_v4_apply]
  unfold Cert.SharedExpert.formula
  refine Finset.sum_congr rfl fun f _ => ?_
  have er : ridx_main_v4 i f = ix2 f (i 1) := funext fun b => by match b with | ⟨0, _⟩ => rfl | ⟨1, _⟩ => rfl
  rw [er]
  refine congrArg₂ (· * ·) ?_ rfl
  have lg : ∀ k : Fin 2048, lidx_main_v0 (lidx_main_v4 i f) k = ix2 (i 0) k := fun k => funext fun b => by match b with | ⟨0, _⟩ => rfl | ⟨1, _⟩ => rfl
  have rg : ∀ k : Fin 2048, ridx_main_v0 (lidx_main_v4 i f) k = ix2 k f := fun k => funext fun b => by match b with | ⟨0, _⟩ => rfl | ⟨1, _⟩ => rfl
  have lu : ∀ k : Fin 2048, lidx_main_v2 (lidx_main_v4 i f) k = ix2 (i 0) k := fun k => funext fun b => by match b with | ⟨0, _⟩ => rfl | ⟨1, _⟩ => rfl
  have ru : ∀ k : Fin 2048, ridx_main_v2 (lidx_main_v4 i f) k = ix2 k f := fun k => funext fun b => by match b with | ⟨0, _⟩ => rfl | ⟨1, _⟩ => rfl
  rw [val_main_v3_apply, val_main_v2_apply, val_main_v1_apply, val_main_call0_v5_apply, val_main_call0_v4_apply, val_main_call0_cst_0_apply,
    val_main_call0_v3_apply, val_main_call0_v2_apply, val_main_call0_cst_apply, val_main_call0_v1_apply, val_main_call0_v0_apply, val_main_v0_apply]
  simp only [lg, rg, lu, ru]
  show (_ : EReal) * Ideal.div (Ideal.ofBits .f32 1065353216#32) (Ideal.ofBits .f32 1065353216#32 + Ideal.exp (-_)) * _ = _
  rw [Ideal.ofBits_one_f32]
  rfl

end Cert.SharedExpert.Host

end
-- ==== Proof.InProj.lean ====
/-
  The in-projection: what the kernel's result array holds after the run, as a formula in its two arguments.
  The kernel walks the first 12 column blocks of the weights, and under each of them the 8 row blocks; the first point of a
  column block rounds the weights' column block into a scratch, and every point multiplies its row block by the scratch.
-/
module

public import proofs.«01_k».proof.Proof.Gen.Kernel3Ideal.Value
public import proofs.«01_k».proof.Proof.Gen.Reference3Ideal.Read
public import Idealize.ShloMosaic.Lib.Pipeline.Value
public import Idealize.ShloMosaic.Lib.MatmulPlain
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen

theorem hz : (![0, 0] : Fin 2 → Nat) = fun _ => 0 := funext fun a => by fin_cases a <;> rfl

section Cases
variable {F : FTy → Type} [FloatOps F]

/-- A point that opens a column block leaves the rounded weights in the scratch. -/
theorem scratch_open (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec F S1024x2048 .bf16) (x1 : Vec F S2048x512 .f32) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S2048x512) hz]

/-- … and in the output's block the product with the weights it has just rounded. -/
theorem out_open (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec F S1024x2048 .bf16) (x1 : Vec F S2048x512 .f32) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.readCov_unit_zero (S := S2048x512) _ hz,
    View.ld_unit_zero (S := S2048x512) hz, View.ld_unit_zero (S := S1024x2048) hz]

/-- Every other point multiplies by what the scratch holds. -/
theorem out_rest (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (a5 : Memref sig .tc .vmem S2048x512 .bf16) (h5 : a5.IsWhole) (hc : ¬cond0_0 i)
    (x0 : Vec F S1024x2048 .bf16) (x1 : Vec F S2048x512 .f32) (w : Vec F S2048x512 .bf16) : out0_B_2 c i a2 h2 a3 h3 a4 h4 a5 h5 hc x0 x1 w = k0_pay2 x0 w := by
  unfold out0_B_2
  rw [View.read_writes_eq_canon _ _ _ (cover0_B_2 c i a2 h2 a3 h3 a4 h4 a5 h5 hc x0 x1 w)]
  unfold kernelRun0_B
  dsimp only
  sl_unfold_words
  rw [View.canon_unit_zero hz]
  simp only [View.readAt_eq_ld, h2.read_unread, h5.read_unread,
    View.ld_unit_zero (S := S2048x512) hz, View.ld_unit_zero (S := S1024x2048) hz]

end Cases

section Run
variable {F : FTy → Type} [FloatOps F]
variable (m : (ℓ : Loc nD τ sig) → Buf (Elt F) ℓ)

/-- Where the windows stand at point `t`: row block `t % 8`, column block `t / 8`. -/
theorem places : ∀ t : Fin cfg0.N,
    (win0_0.index t (0 : Fin 2) = t.val % 8 ∧ win0_0.index t (1 : Fin 2) = 0)
    ∧ (win0_1.index t (0 : Fin 2) = 0 ∧ win0_1.index t (1 : Fin 2) = t.val / 8)
    ∧ (win0_2.index t (0 : Fin 2) = t.val % 8 ∧ win0_2.index t (1 : Fin 2) = t.val / 8) :=
  (by decide +kernel : ∀ t : Fin grid0.N, _)

/-- The weights' column block at point `t`, element by element. -/
theorem weights_at (c : Dev nD) (t : Fin cfg0.N) (k : Fin 2048) (l : Fin 512) :
    (X0_1 m c t : Vec F S2048x512 .f32) (ix2 k l)
      = m ((c : Thread nD τ).loc main_arg1) (ix2 k ⟨t.val / 8 * 512 + l.val, by have := t.isLt; have h : cfg0.N = 96 := N_0; omega⟩) := by
  obtain ⟨-, ⟨p, q⟩, -⟩ := places t
  unfold X0_1 Pipeline.Window.fill
  rw [dif_pos (moved0_1 t _)]
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [p]; omega
  | ⟨1, _⟩ => show win0_1.index t 1 * 512 + 1 * l.val = t.val / 8 * 512 + l.val; rw [q]; omega

/-- The row block of the left operand at point `t`. -/
theorem rows_at (c : Dev nD) (t : Fin cfg0.N) (r : Fin 1024) (k : Fin 2048) :
    (iblk m c 0 t : Vec F S1024x2048 .bf16) (ix2 r k)
      = m ((c : Thread nD τ).loc main_arg0) (ix2 ⟨t.val % 8 * 1024 + r.val, by omega⟩ k) := by
  obtain ⟨⟨p, q⟩, -⟩ := places t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val % 8 * 1024 + r.val; rw [p]; omega
  | ⟨1, _⟩ => show win0_0.index t 1 * 2048 + 1 * k.val = k.val; rw [q]; omega

/-- Points of one column block see the same weights. -/
theorem weights_same (c : Dev nD) (t u : Fin cfg0.N) (h : t.val / 8 = u.val / 8) :
    (X0_1 m c t : Vec F S2048x512 .f32) = X0_1 m c u := by
  refine funext fun (j : S2048x512.Idx) => ?_
  have e : j = ix2 (j 0) (j 1) := eq_ix2 j
  rw [e]
  refine (weights_at m c t (j 0) (j 1)).trans (Eq.trans ?_ (weights_at m c u (j 0) (j 1)).symm)
  simp only [h]

/-- After every point the scratch holds the rounded weights of the point's column block. -/
theorem scratch_after (c : Dev nD) : ∀ (n : ℕ) (h : n < cfg0.N), (outsAt0 m c n h).2 = k0_pay1 (F := F) (X0_1 m c ⟨n, h⟩)
  | 0, h => by rw [outsAt0_A m c ⟨0, h⟩ rfl]; dsimp only; rw [scratch_open]
  | n + 1, h => by
    by_cases h0 : (n + 1) % 8 = 0
    · rw [outsAt0_A m c ⟨n + 1, h⟩ h0]; dsimp only; rw [scratch_open]
    · rw [outsAt0_B m c ⟨n + 1, h⟩ h0]
      show (outsAt0 m c n _).2 = _
      rw [scratch_after c n, weights_same m c ⟨n, Nat.lt_of_succ_lt h⟩ ⟨n + 1, h⟩ (by show n / 8 = (n + 1) / 8; omega)]

/-- What every point leaves in the output's block. -/
theorem out_after (c : Dev nD) (t : Fin cfg0.N) : (outsAt0 m c t.val t.isLt).1
    = k0_pay2 (F := F) (iblk m c 0 t) (k0_pay1 (F := F) (X0_1 m c t)) := by
  by_cases h0 : t.val % 8 = 0
  · rw [outsAt0_A m c t h0]; dsimp only; rw [out_open]
  · rw [outsAt0_B m c t h0]
    dsimp only
    have e := weights_same m c ⟨t.val - 1, Nat.lt_of_le_of_lt (Nat.sub_le _ _) t.isLt⟩ t (by show (t.val - 1) / 8 = t.val / 8; omega)
    rw [out_rest, scratch_after m c (t.val - 1), e]

end Run

/-! ## Over the extended reals -/

/-- The product with the first 6144 columns of the weights. -/
def formula (a : FVec Ideal S8192x2048 .bf16) (w : FVec Ideal S2048x6176 .f32) : FVec Ideal S8192x6144 .bf16 := fun i =>
  ∑ k : Fin 2048, a (ix2 (i 0) k) * w (ix2 k ⟨(i 1).val, lt_trans (i 1).isLt (by decide : 6144 < 6176)⟩)

/-- One element of what a point computes. -/
theorem block_at (a : FVec Ideal S1024x2048 .bf16) (w : FVec Ideal S2048x512 .f32)
    (r : Fin 1024) (l : Fin 512) : k0_pay2 (F := Ideal) a (k0_pay1 (F := Ideal) w) (ix2 r l)
      = ∑ k : Fin 2048, a (ix2 r k) * w (ix2 k l) := by
  pointwise [k0_pay2, k0_pay1]

variable (m : (ℓ : Loc nD τ sig) → Buf (Elt Ideal) ℓ)

/-- After the run the result array is the formula of the arguments. -/
theorem final (c : Dev nD) : Value.G2 m c = formula (m ((c : Thread nD τ).loc main_arg0)) (m ((c : Thread nD τ).loc main_arg1)) := by
  rw [← Value.final2]
  refine (dats m 0 c).arrAt_eq_of_cover 2 _ (fun t _ => ?_) (fun i => (Value.covered_iff2 i).2 (by
    have h0 : (i 0).val < 8192 := (i 0).isLt; have h1 : (i 1).val < 6144 := (i 1).isLt; omega))
  rw [Value.flushed2, out_after]
  obtain ⟨-, -, p, q⟩ := places t
  funext y
  rw [View.read_apply]
  have hy : y = ix2 (y 0) (y 1) := eq_ix2 y
  have ht : t.val < 96 := lt_of_lt_of_eq t.isLt (show cfg0.N = 96 from N_0)
  have h0 : (y 0).val < 1024 := (y 0).isLt
  have h1 : (y 1).val < 512 := (y 1).isLt
  have hi : ((cfg0.win 2).blk t).view.emb y
      = (ix2 (⟨t.val % 8 * 1024 + (y 0).val, by omega⟩ : Fin 8192) (⟨t.val / 8 * 512 + (y 1).val, by omega⟩ : Fin 6144) : S8192x6144.Idx) := by
    funext a
    apply Fin.ext
    match a with
    | ⟨0, _⟩ => show win0_2.index t 0 * 1024 + 1 * (y 0).val = t.val % 8 * 1024 + (y 0).val; rw [p]; omega
    | ⟨1, _⟩ => show win0_2.index t 1 * 512 + 1 * (y 1).val = t.val / 8 * 512 + (y 1).val; rw [q]; omega
  refine Eq.trans (b := k0_pay2 (F := Ideal) (iblk m c 0 t) (k0_pay1 (F := Ideal) (X0_1 m c t)) (ix2 (y 0) (y 1))) (congrArg _ hy) ?_
  refine (block_at _ _ (y 0) (y 1)).trans ?_
  refine Eq.trans ?_ (congrArg (formula (m ((c : Thread nD τ).loc main_arg0)) (m ((c : Thread nD τ).loc main_arg1))) hi).symm
  unfold formula
  refine Finset.sum_congr rfl fun k _ => ?_
  exact congrArg₂ (· * ·) (rows_at m c t (y 0) k) (weights_at m c t k (y 1))

end Cert.InProj

namespace Cert.InProj.Host
open Cert.Reference3Ideal Cert.Reference3Ideal.Read

/-- The reference is the same formula. -/
theorem reads (a : FVec Ideal S8192x2048 .bf16) (w : FVec Ideal S2048x6176 .f32) :
    val_main_v3 (F := Ideal) a w = Cert.InProj.formula a w := by
  funext i
  rw [val_main_v3_apply, val_main_v2_apply, val_main_v1_apply]
  have hlt : (i 1).val < 6176 := lt_trans (i 1).isLt (by decide : 6144 < 6176)
  have el : ∀ k : Fin 2048, lidx_main_v1 (idx_main_v2 i) k = ix2 (i 0) k := fun k => funext fun b => by
    match b with
    | ⟨0, _⟩ => rfl
    | ⟨1, _⟩ => rfl
  have er : ∀ k : Fin 2048, ridx_main_v1 (idx_main_v2 i) k = ix2 k ⟨(i 1).val, hlt⟩ := fun k => funext fun b => by
    match b with
    | ⟨0, _⟩ => rfl
    | ⟨1, _⟩ => rfl
  simp only [el, er]
  rfl

end Cert.InProj.Host

end
-- ==== Proof.OutProj.lean ====
/-
  The residual out-projection: what the kernel's result array holds after the run, as a formula in its four arguments.
  The kernel walks the 4 column blocks of the weights, and under each of them the 8 row blocks; the first point of a
  column block rounds the weights' column block into a scratch, and every point multiplies its row block by the scratch.
-/
module

public import proofs.«01_k».proof.Proof.Gen.Kernel4Ideal.Value
public import proofs.«01_k».proof.Proof.Gen.Reference4Ideal.Read
public import Idealize.ShloMosaic.Lib.Pipeline.Value
public import Idealize.ShloMosaic.Lib.MatmulPlain
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutProj

open Cert.Kernel4Ideal Cert.Kernel4Ideal.Gen

theorem hz : (![0, 0] : Fin 2 → Nat) = fun _ => 0 := funext fun a => by fin_cases a <;> rfl

section Cases
variable {F : FTy → Type} [FloatOps F]

/-- A point that opens a column block leaves the rounded weights in the scratch. -/
theorem scratch_open (c : Dev nD) (i : grid0.Coords) (a2 : Memref sig .tc .vmem S1024x2048 .bf16) (h2 : a2.IsWhole)
    (a3 : Memref sig .tc .vmem S1024x512 .f32) (h3 : a3.IsWhole) (a4 : Memref sig .tc .vmem S1x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S2048x512 .bf16) (h7 : a7.IsWhole) (hc : cond0_0 i)
    (x0 : Vec F S1024x2048 .bf16) (x1 : Vec F S1024x512 .f32) (x2 : Vec F S1x512 .f32) (x3 : Vec F S2048x512 .f32) :
    sout0_A_0 c i a2 h2 a3 h3 a4 h4 a5 h5 a6 h6 a7 h7 hc x0 x1 x2 x3 = k0_pay1 x3 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h5.read_unread, View.ld_unit_zero (S := S2048x512) hz]

/-- … and in the output's block the product with the weights it has just rounded. -/
theorem out_open (c : Dev nD) (i : grid0.Coords) (a2 : Memref sig .tc .vmem S1024x2048 .bf16) (h2 : a2.IsWhole)
    (a3 : Memref sig .tc .vmem S1024x512 .f32) (h3 : a3.IsWhole) (a4 : Memref sig .tc .vmem S1x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S2048x512 .bf16) (h7 : a7.IsWhole) (hc : cond0_0 i)
    (x0 : Vec F S1024x2048 .bf16) (x1 : Vec F S1024x512 .f32) (x2 : Vec F S1x512 .f32) (x3 : Vec F S2048x512 .f32) :
    out0_A_4 c i a2 h2 a3 h3 a4 h4 a5 h5 a6 h6 a7 h7 hc x0 x1 x2 x3 = k0_pay2 x0 (k0_pay1 x3) x1 x2 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, h3.read_unread, h4.read_unread, h5.read_unread, View.readCov_unit_zero (S := S2048x512) _ hz,
    View.ld_unit_zero (S := S2048x512) hz, View.ld_unit_zero (S := S1024x2048) hz, View.ld_unit_zero (S := S1024x512) hz,
    View.ld_unit_zero (S := S1x512) hz]

/-- Every other point multiplies by what the scratch holds. -/
theorem out_rest (c : Dev nD) (i : grid0.Coords) (a2 : Memref sig .tc .vmem S1024x2048 .bf16) (h2 : a2.IsWhole)
    (a3 : Memref sig .tc .vmem S1024x512 .f32) (h3 : a3.IsWhole) (a4 : Memref sig .tc .vmem S1x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S2048x512 .bf16) (h7 : a7.IsWhole) (hc : ¬cond0_0 i)
    (x0 : Vec F S1024x2048 .bf16) (x1 : Vec F S1024x512 .f32) (x2 : Vec F S1x512 .f32) (x3 : Vec F S2048x512 .f32) (w : Vec F S2048x512 .bf16) :
    out0_B_4 c i a2 h2 a3 h3 a4 h4 a5 h5 a6 h6 a7 h7 hc x0 x1 x2 x3 w = k0_pay2 x0 w x1 x2 := by
  unfold out0_B_4
  rw [View.read_writes_eq_canon _ _ _ (cover0_B_4 c i a2 h2 a3 h3 a4 h4 a5 h5 a6 h6 a7 h7 hc x0 x1 x2 x3 w)]
  unfold kernelRun0_B
  dsimp only
  sl_unfold_words
  rw [View.canon_unit_zero hz]
  simp only [View.readAt_eq_ld, h2.read_unread, h3.read_unread, h4.read_unread, h7.read_unread,
    View.ld_unit_zero (S := S2048x512) hz, View.ld_unit_zero (S := S1024x2048) hz, View.ld_unit_zero (S := S1024x512) hz,
    View.ld_unit_zero (S := S1x512) hz]

end Cases

section Run
variable {F : FTy → Type} [FloatOps F]
variable (m : (ℓ : Loc nD τ sig) → Buf (Elt F) ℓ)

/-- Where the windows stand at point `t`: row block `t % 8`, column block `t / 8`. -/
theorem places : ∀ t : Fin cfg0.N,
    (win0_0.index t (0 : Fin 2) = t.val % 8 ∧ win0_0.index t (1 : Fin 2) = 0)
    ∧ (win0_1.index t (0 : Fin 2) = t.val % 8 ∧ win0_1.index t (1 : Fin 2) = t.val / 8)
    ∧ (win0_2.index t (0 : Fin 2) = 0 ∧ win0_2.index t (1 : Fin 2) = t.val / 8)
    ∧ (win0_3.index t (0 : Fin 2) = 0 ∧ win0_3.index t (1 : Fin 2) = t.val / 8)
    ∧ (win0_4.index t (0 : Fin 2) = t.val % 8 ∧ win0_4.index t (1 : Fin 2) = t.val / 8) :=
  (by decide +kernel : ∀ t : Fin grid0.N, _)

/-- The weights' column block at point `t`, element by element. -/
theorem weights_at (c : Dev nD) (t : Fin cfg0.N) (k : Fin 2048) (l : Fin 512) :
    (iblk m c 3 t : Vec F S2048x512 .f32) (ix2 k l)
      = m ((c : Thread nD τ).loc main_arg3) (ix2 k ⟨t.val / 8 * 512 + l.val, by have := t.isLt; have h : cfg0.N = 32 := N_0; omega⟩) := by
  obtain ⟨-, -, -, ⟨p, q⟩, -⟩ := places t
  unfold iblk
  rw [View.read_apply]
  show V m c main_arg3 _ = m (c.tc.loc main_arg3) _
  unfold V
  congr 1
  funext a
  apply Fin.ext
  match a with
  | ⟨0, _⟩ => show win0_3.index t 0 * 2048 + 1 * k.val = k.val; rw [p]; omega
  | ⟨1, _⟩ => show win0_3.index t 1 * 512 + 1 * l.val = t.val / 8 * 512 + l.val; rw [q]; omega

/-- The row block of the left operand at point `t`. -/
theorem rows_at (c : Dev nD) (t : Fin cfg0.N) (r : Fin 1024) (k : Fin 2048) :
    (iblk m c 0 t : Vec F S1024x2048 .bf16) (ix2 r k)
      = m ((c : Thread nD τ).loc main_arg0) (ix2 ⟨t.val % 8 * 1024 + r.val, by omega⟩ k) := by
  obtain ⟨⟨p, q⟩, -⟩ := places t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val % 8 * 1024 + r.val; rw [p]; omega
  | ⟨1, _⟩ => show win0_0.index t 1 * 2048 + 1 * k.val = k.val; rw [q]; omega

/-- The block of the residual at point `t`. -/
theorem residual_at (c : Dev nD) (t : Fin cfg0.N) (r : Fin 1024) (l : Fin 512) :
    (iblk m c 1 t : Vec F S1024x512 .f32) (ix2 r l)
      = m ((c : Thread nD τ).loc main_arg1) (ix2 ⟨t.val % 8 * 1024 + r.val, by omega⟩
          ⟨t.val / 8 * 512 + l.val, by have := t.isLt; have h : cfg0.N = 32 := N_0; omega⟩) := by
  obtain ⟨-, ⟨p, q⟩, -⟩ := places t
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val % 8 * 1024 + r.val; rw [p]; omega
  | ⟨1, _⟩ => show win0_1.index t 1 * 512 + 1 * l.val = t.val / 8 * 512 + l.val; rw [q]; omega

/-- The block of the gate at point `t`. -/
theorem gate_at (c : Dev nD) (t : Fin cfg0.N) (l : Fin 512) :
    (iblk m c 2 t : Vec F S1x512 .f32) (ix2 (0 : Fin 1) l)
      = m ((c : Thread nD τ).loc main_arg2) (ix2 (0 : Fin 1)
          ⟨t.val / 8 * 512 + l.val, by have := t.isLt; have h : cfg0.N = 32 := N_0; omega⟩) := by
  obtain ⟨-, -, ⟨p, q⟩, -⟩ := places t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [p]
  | ⟨1, _⟩ => show win0_2.index t 1 * 512 + 1 * l.val = t.val / 8 * 512 + l.val; rw [q]; omega

/-- Points of one column block see the same weights. -/
theorem weights_same (c : Dev nD) (t u : Fin cfg0.N) (h : t.val / 8 = u.val / 8) :
    (iblk m c 3 t : Vec F S2048x512 .f32) = iblk m c 3 u := by
  refine funext fun (j : S2048x512.Idx) => ?_
  have e : j = ix2 (j 0) (j 1) := eq_ix2 j
  rw [e]
  refine (weights_at m c t (j 0) (j 1)).trans (Eq.trans ?_ (weights_at m c u (j 0) (j 1)).symm)
  simp only [h]

/-- After every point the scratch holds the rounded weights of the point's column block. -/
theorem scratch_after (c : Dev nD) : ∀ (n : ℕ) (h : n < cfg0.N), (outsAt0 m c n h).2 = k0_pay1 (F := F) (iblk m c 3 ⟨n, h⟩)
  | 0, h => by rw [outsAt0_A m c ⟨0, h⟩ rfl]; dsimp only; rw [scratch_open]
  | n + 1, h => by
    by_cases h0 : (n + 1) % 8 = 0
    · rw [outsAt0_A m c ⟨n + 1, h⟩ h0]; dsimp only; rw [scratch_open]
    · rw [outsAt0_B m c ⟨n + 1, h⟩ h0]
      show (outsAt0 m c n _).2 = _
      rw [scratch_after c n, weights_same m c ⟨n, Nat.lt_of_succ_lt h⟩ ⟨n + 1, h⟩ (by show n / 8 = (n + 1) / 8; omega)]

/-- What every point leaves in the output's block. -/
theorem out_after (c : Dev nD) (t : Fin cfg0.N) : (outsAt0 m c t.val t.isLt).1
    = k0_pay2 (F := F) (iblk m c 0 t) (k0_pay1 (F := F) (iblk m c 3 t)) (iblk m c 1 t) (iblk m c 2 t) := by
  by_cases h0 : t.val % 8 = 0
  · rw [outsAt0_A m c t h0]; dsimp only; rw [out_open]
  · rw [outsAt0_B m c t h0]
    dsimp only
    have e := weights_same m c ⟨t.val - 1, Nat.lt_of_le_of_lt (Nat.sub_le _ _) t.isLt⟩ t (by show (t.val - 1) / 8 = t.val / 8; omega)
    rw [out_rest, scratch_after m c (t.val - 1), e]

end Run

/-! ## Over the extended reals -/

/-- The residual plus the gated product. -/
def formula (a : FVec Ideal S8192x2048 .bf16) (x : FVec Ideal S8192x2048 .f32) (g : FVec Ideal S1x2048 .f32) (w : FVec Ideal S2048x2048 .f32) :
    FVec Ideal S8192x2048 .f32 := fun i =>
  x i + g (ix2 (0 : Fin 1) (i 1)) * ∑ k : Fin 2048, a (ix2 (i 0) k) * w (ix2 k (i 1))

/-- One element of what a point computes. -/
theorem block_at (a : FVec Ideal S1024x2048 .bf16) (w : FVec Ideal S2048x512 .f32) (x : FVec Ideal S1024x512 .f32) (g : FVec Ideal S1x512 .f32)
    (r : Fin 1024) (l : Fin 512) : k0_pay2 (F := Ideal) a (k0_pay1 (F := Ideal) w) x g (ix2 r l)
      = x (ix2 r l) + g (ix2 (0 : Fin 1) l) * ∑ k : Fin 2048, a (ix2 r k) * w (ix2 k l) := by
  pointwise [k0_pay2, k0_pay1]

variable (m : (ℓ : Loc nD τ sig) → Buf (Elt Ideal) ℓ)

theorem final (c : Dev nD) : Value.G4 m c = formula (m ((c : Thread nD τ).loc main_arg0)) (m ((c : Thread nD τ).loc main_arg1))
    (m ((c : Thread nD τ).loc main_arg2)) (m ((c : Thread nD τ).loc main_arg3)) := by
  rw [← Value.final4]
  refine (dats m 0 c).arrAt_eq_of_cover 4 _ (fun t _ => ?_) (fun i => (Value.covered_iff4 i).2 (by
    have h0 : (i 0).val < 8192 := (i 0).isLt; have h1 : (i 1).val < 2048 := (i 1).isLt; omega))
  rw [Value.flushed4, out_after]
  obtain ⟨-, -, -, -, p, q⟩ := places t
  funext y
  rw [View.read_apply]
  have hy : y = ix2 (y 0) (y 1) := eq_ix2 y
  have ht : t.val < 32 := lt_of_lt_of_eq t.isLt (show cfg0.N = 32 from N_0)
  have h0 : (y 0).val < 1024 := (y 0).isLt
  have h1 : (y 1).val < 512 := (y 1).isLt
  have hi : ((cfg0.win 4).blk t).view.emb y
      = (ix2 (⟨t.val % 8 * 1024 + (y 0).val, by omega⟩ : Fin 8192) (⟨t.val / 8 * 512 + (y 1).val, by omega⟩ : Fin 2048) : S8192x2048.Idx) := by
    funext a
    apply Fin.ext
    match a with
    | ⟨0, _⟩ => show win0_4.index t 0 * 1024 + 1 * (y 0).val = t.val % 8 * 1024 + (y 0).val; rw [p]; omega
    | ⟨1, _⟩ => show win0_4.index t 1 * 512 + 1 * (y 1).val = t.val / 8 * 512 + (y 1).val; rw [q]; omega
  refine Eq.trans (b := k0_pay2 (F := Ideal) (iblk m c 0 t) (k0_pay1 (F := Ideal) (iblk m c 3 t)) (iblk m c 1 t) (iblk m c 2 t) (ix2 (y 0) (y 1))) (congrArg _ hy) ?_
  refine (block_at _ _ _ _ (y 0) (y 1)).trans ?_
  refine Eq.trans ?_ (congrArg (formula (m ((c : Thread nD τ).loc main_arg0)) (m ((c : Thread nD τ).loc main_arg1))
    (m ((c : Thread nD τ).loc main_arg2)) (m ((c : Thread nD τ).loc main_arg3))) hi).symm
  unfold formula
  refine congrArg₂ (· + ·) (residual_at m c t (y 0) (y 1)) (congrArg₂ (· * ·) (gate_at m c t (y 1)) (Finset.sum_congr rfl fun k _ => ?_))
  exact congrArg₂ (· * ·) (rows_at m c t (y 0) k) (weights_at m c t k (y 1))

end Cert.OutProj

namespace Cert.OutProj.Host
open Cert.Reference4Ideal Cert.Reference4Ideal.Read

theorem reads (a : FVec Ideal S8192x2048 .bf16) (x : FVec Ideal S8192x2048 .f32) (g : FVec Ideal S1x2048 .f32) (w : FVec Ideal S2048x2048 .f32) :
    val_main_v4 (F := Ideal) a x g w = Cert.OutProj.formula a x g w := by
  funext i
  rw [val_main_v4_apply, val_main_v3_apply, val_main_v2_apply, val_main_v1_apply]
  have e2 : idx_main_v2 i = ix2 (0 : Fin 1) (i 1) := funext fun b => by match b with | ⟨0, _⟩ => rfl | ⟨1, _⟩ => rfl
  have el : ∀ k : Fin 2048, lidx_main_v1 i k = ix2 (i 0) k := fun k => funext fun b => by match b with | ⟨0, _⟩ => rfl | ⟨1, _⟩ => rfl
  have er : ∀ k : Fin 2048, ridx_main_v1 i k = ix2 k (i 1) := fun k => funext fun b => by match b with | ⟨0, _⟩ => rfl | ⟨1, _⟩ => rfl
  simp only [e2, el, er]
  rfl

end Cert.OutProj.Host

end
-- ==== Proof.Experts.Tables.lean ====
/- The routed experts' call: its two prefetched tables — the expert of every block and the number of active blocks —
   as unknowns in their ranges, and what the grid does at them. Block `b` is active when it lies below the number of
   active blocks; its weights are its expert's; the row block in use is the last active one from there on, so the
   output block is written back after every active block but the last, and after the last point. -/
module

public import proofs.«01_k».proof.Proof.Gen.KernelIdeal.Launch
public import Idealize.ShloMosaic.Lib.Pipeline.TableIdle
public import Idealize.ShloMosaic.Lib.Pipeline.FrameBody
public import Idealize.ShloMosaic.Lib.Exec
public import Idealize.ShloMosaic.Lib.Ring
public import Idealize.ShloMosaic.Lib.Tactic
public import Idealize.ShloMosaic.Lib.Pointwise

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic

/-- The tables in their ranges: every block's expert one of the 64, at least one active block and at most all 256. -/
structure Tables where
  e : S256.Idx → BitVec 32
  n : S1.Idx → BitVec 32
  he : ∀ j, (e j).toNat < 64
  hn1 : 1 ≤ (n (ix1 0)).toNat
  hn2 : (n (ix1 0)).toNat ≤ 256

/-- The tables as the program is handed them, whole. -/
abbrev tb0 : Memref sig .tc .smem S256 .i32 := Memref.whole main_arg0
abbrev tb1 : Memref sig .tc .smem S1 .i32 := Memref.whole main_arg1

/-! ## Where the body and the index maps read the tables -/

theorem coord_lt (i : grid0.Coords) : (i 0).val < 256 := (i 0).isLt

theorem off1_eq (i : grid0.Coords) : k0_off1 i = ![(i 0).val] := by
  have h := coord_lt i
  unfold k0_off1
  simp only [Scalar.indexCast, BitVec.toNat_ofNat]
  rw [Nat.mod_eq_of_lt (by omega)]

theorem off2_eq (i : grid0.Coords) : k0_off2 i = ![(i 0).val - 1] := by
  have h : ∀ b : Fin 256, (Scalar.indexCast (Scalar.maxsi (Scalar.subi (BitVec.ofNat 32 b.val) 1#32) 0#32)).toNat = b.val - 1 := by
    decide +kernel
  unfold k0_off2
  exact congrArg (fun k : ℕ => (![k] : Fin 1 → ℕ)) (h ⟨(i 0).val, coord_lt i⟩)

/-- The block before, the first block standing before itself. -/
def before (b : Fin 256) : Fin 256 := ⟨b.val - 1, by omega⟩

/-- The grid point's block. -/
abbrev blockOf (i : grid0.Coords) : Fin 256 := ⟨(i 0).val, coord_lt i⟩

theorem idx1_eq {n : ℕ} (x : (⟨1, ![n]⟩ : Shape).Idx) (a : Fin n) (h : (x 0).val = a.val) : x = ix1 a := by
  funext k
  match k with
  | ⟨0, _⟩ => exact Fin.ext h

theorem read_n (T : S1.Idx → BitVec 32) :
    View.readAt (Elt Ideal) tb1.view (Rect.unit (s := S1) ![0] S1.size inb_S1_S1_0).toLoadRect T (Shape.Idx.first (numel1_S1.symm ▸ Nat.one_pos))
      = T (ix1 0) :=
  congrArg T (idx1_eq _ 0 rfl)

theorem read_e (T : S256.Idx → BitVec 32) (i : grid0.Coords) :
    View.readAt (Elt Ideal) tb0.view (Rect.unit (s := S256) (k0_off1 i) S1.size (k0_off1_inb i)).toLoadRect T (Shape.Idx.first (numel1_S1.symm ▸ Nat.one_pos))
      = T (ix1 (blockOf i)) := by
  refine congrArg T (idx1_eq _ _ ?_)
  show k0_off1 i 0 + 1 * 0 = (i 0).val
  rw [off1_eq]; rfl

theorem read_p (T : S256.Idx → BitVec 32) (i : grid0.Coords) :
    View.readAt (Elt Ideal) tb0.view (Rect.unit (s := S256) (k0_off2 i) S1.size (k0_off2_inb i)).toLoadRect T (Shape.Idx.first (numel1_S1.symm ▸ Nat.one_pos))
      = T (ix1 (before (blockOf i))) := by
  refine congrArg T (idx1_eq _ _ ?_)
  show k0_off2 i 0 + 1 * 0 = (i 0).val - 1
  rw [off2_eq]; rfl

/-! ## The conditions -/

theorem slt_iff (b : ℕ) (hb : b < 256) (v : BitVec 32) (hv : v.toNat ≤ 256) : (BitVec.ofNat 32 b).slt v = true ↔ b < v.toNat := by
  rw [BitVec.slt_iff_toInt_lt, BitVec.toInt_eq_toNat_of_lt (by rw [BitVec.toNat_ofNat]; omega), BitVec.toInt_eq_toNat_of_lt (by omega),
    BitVec.toNat_ofNat, Nat.mod_eq_of_lt (by omega)]
  omega

theorem widened (b : Bool) : Scalar.cmpi .ne (Scalar.extui (BitVec.ofBool b)) 0#32 = BitVec.ofBool b := by cases b <;> rfl
theorem ofBool_one (b : Bool) : BitVec.ofBool b = 1#1 ↔ b = true := by cases b <;> decide

/-- The number of active blocks. -/
def Tables.count (T : Tables) : ℕ := (T.n (ix1 0)).toNat
theorem Tables.count_pos (T : Tables) : 1 ≤ T.count := T.hn1
theorem Tables.count_le (T : Tables) : T.count ≤ 256 := T.hn2

theorem active_iff (T : Tables) (i : grid0.Coords) : k0_cond2 i (T.n (ix1 0)) = 1#1 ↔ (i 0).val < T.count := by
  unfold k0_cond2
  exact ((congrArg (· = 1#1) (widened _)).to_iff.trans (ofBool_one _)).trans (slt_iff _ (coord_lt i) _ T.hn2)

/-- The condition under which a point converts its expert's weights, over the words it reads. -/
abbrev loadWord (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32

/-- It converts them when the block is active and it is the first one or the block before had another expert. -/
theorem load_iff (T : Tables) (i : grid0.Coords) :
    loadWord i (T.n (ix1 0)) (T.e (ix1 (blockOf i))) (T.e (ix1 (before (blockOf i)))) = 1#1
      ↔ (i 0).val < T.count ∧ ((i 0).val = 0 ∨ T.e (ix1 (blockOf i)) ≠ T.e (ix1 (before (blockOf i)))) := by
  have hb : ∀ x y z : Bool, Scalar.andi (BitVec.ofBool x) (Scalar.ori (BitVec.ofBool y) (BitVec.ofBool z)) = BitVec.ofBool (x && (y || z)) := by
    decide
  have hz : ((BitVec.ofNat 32 (i 0).val) == 0#32) = true ↔ (i 0).val = 0 := by
    rw [beq_iff_eq, ← BitVec.toNat_inj, BitVec.toNat_ofNat, Nat.mod_eq_of_lt (by have := coord_lt i; omega)]; rfl
  unfold loadWord
  show Scalar.cmpi .ne (Scalar.extui (Scalar.andi (BitVec.ofBool _) (Scalar.ori (BitVec.ofBool _) (BitVec.ofBool _)))) 0#32 = 1#1 ↔ _
  rw [hb, widened, ofBool_one, Bool.and_eq_true, Bool.or_eq_true, hz, bne_iff_ne, slt_iff _ (coord_lt i) _ T.hn2]; rfl

/-! ## The index maps at the tables -/

set_option backward.proofsInPublic true in
/-- The tables' contents. -/
def Tables.pf (T : Tables) : pre0.Contents (Elt Ideal) := fun | ⟨0, _⟩ => T.e | ⟨1, _⟩ => T.n | ⟨_ + 2, h⟩ => absurd h (by simp)

theorem at_n (T : Tables) : T.pf.at 1 (Rect.unit (s := S1) ![0] S1.size inb_S1_S1_0) numel1_S1 = T.n (ix1 0) :=
  congrArg T.n (idx1_eq _ 0 rfl)

theorem at_e (T : Tables) (i : grid0.Coords) :
    T.pf.at 0 (Rect.unit (s := S256) (k0_off1 i) S1.size (k0_off1_inb i)) numel1_S1 = T.e (ix1 (blockOf i)) := by
  refine congrArg T.e (idx1_eq _ _ ?_)
  show k0_off1 i 0 + 1 * 0 = (i 0).val
  rw [off1_eq]; rfl

/-- The row block in use at block `b`: `b` while active, the last active one after. -/
def Tables.row (T : Tables) (b : ℕ) : ℕ := min b (T.count - 1)

theorem row_word (T : Tables) (b : ℕ) (hb : b < 256) :
    (Scalar.minsi (BitVec.ofNat 32 b) (Scalar.subi (T.n (ix1 0)) 1#32)).toNat = T.row b := by
  have h1 := T.count_pos; have h2 := T.count_le
  have hn : (T.n (ix1 0)).toNat = T.count := rfl
  have hs : (T.n (ix1 0) - 1#32).toNat = T.count - 1 := by
    rw [BitVec.toNat_sub_of_le (by rw [BitVec.le_def]; exact h1), hn]; rfl
  have hl := slt_iff b hb (T.n (ix1 0) - 1#32) (by omega)
  rw [hs] at hl
  unfold Tables.row
  show (if (BitVec.ofNat 32 b).slt (T.n (ix1 0) - 1#32) then BitVec.ofNat 32 b else T.n (ix1 0) - 1#32).toNat = _
  by_cases h : (BitVec.ofNat 32 b).slt (T.n (ix1 0) - 1#32) = true
  · rw [if_pos h, BitVec.toNat_ofNat, Nat.mod_eq_of_lt (by omega)]; have := hl.1 h; omega
  · rw [if_neg h, hs]; have := mt hl.2 h; omega

theorem map0_eq (T : Tables) (i : grid0.Coords) : cc0_transform_0 inb_S1_S1_0 numel1_S1 T.pf i = ![T.row (i 0).val, 0] := by
  unfold cc0_transform_0
  dsimp only
  rw [at_n, row_word T _ (coord_lt i)]; rfl

theorem map4_eq (T : Tables) (i : grid0.Coords) : cc0_transform_4 inb_S1_S1_0 numel1_S1 T.pf i = ![T.row (i 0).val, 0] := by
  unfold cc0_transform_4
  dsimp only
  rw [at_n, row_word T _ (coord_lt i)]; rfl

theorem map1_eq (T : Tables) (i : grid0.Coords) :
    cc0_transform_1 k0_off1_inb numel1_S1 T.pf i = ![0, (T.e (ix1 (blockOf i))).toNat, 0, 0] := by
  unfold cc0_transform_1
  dsimp only
  exact congrArg (fun k : BitVec 32 => (![0, k.toNat, 0, 0] : Fin 4 → ℕ)) (at_e T i)

theorem map2_eq (T : Tables) (i : grid0.Coords) :
    cc0_transform_2 k0_off1_inb numel1_S1 T.pf i = ![0, (T.e (ix1 (blockOf i))).toNat, 0, 0] := by
  unfold cc0_transform_2
  dsimp only
  exact congrArg (fun k : BitVec 32 => (![0, k.toNat, 0, 0] : Fin 4 → ℕ)) (at_e T i)

theorem map3_eq (T : Tables) (i : grid0.Coords) :
    cc0_transform_3 k0_off1_inb numel1_S1 T.pf i = ![0, (T.e (ix1 (blockOf i))).toNat, 0, 0] := by
  unfold cc0_transform_3
  dsimp only
  exact congrArg (fun k : BitVec 32 => (![0, k.toNat, 0, 0] : Fin 4 → ℕ)) (at_e T i)

/-- Every block lies inside its array. -/
theorem ok_pf (T : Tables) : ok0 (F := Ideal) T.pf := by
  have hr : ∀ b, T.row b < 256 := fun b => by have h1 := T.count_pos; have h2 := T.count_le; unfold Tables.row; omega
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · rw [map0_eq]
    match a with
    | ⟨0, _⟩ => have := hr (i 0).val; show (T.row (i 0).val + 1) * 256 ≤ 65536; omega
    | ⟨1, _⟩ => show (0 + 1) * 2048 ≤ 2048; omega
  · rw [map1_eq]
    have := T.he (ix1 (blockOf i))
    match a with
    | ⟨0, _⟩ => show (0 + 1) * 1 ≤ 2; omega
    | ⟨1, _⟩ => show ((T.e (ix1 (blockOf i))).toNat + 1) * 1 ≤ 64; omega
    | ⟨2, _⟩ => show (0 + 1) * 2048 ≤ 2048; omega
    | ⟨3, _⟩ => show (0 + 1) * 512 ≤ 512; omega
  · rw [map2_eq]
    have := T.he (ix1 (blockOf i))
    match a with
    | ⟨0, _⟩ => show (0 + 1) * 1 ≤ 2; omega
    | ⟨1, _⟩ => show ((T.e (ix1 (blockOf i))).toNat + 1) * 1 ≤ 64; omega
    | ⟨2, _⟩ => show (0 + 1) * 2048 ≤ 2048; omega
    | ⟨3, _⟩ => show (0 + 1) * 512 ≤ 512; omega
  · rw [map3_eq]
    have := T.he (ix1 (blockOf i))
    match a with
    | ⟨0, _⟩ => show (0 + 1) * 1 ≤ 2; omega
    | ⟨1, _⟩ => show ((T.e (ix1 (blockOf i))).toNat + 1) * 1 ≤ 64; omega
    | ⟨2, _⟩ => show (0 + 1) * 512 ≤ 512; omega
    | ⟨3, _⟩ => show (0 + 1) * 2048 ≤ 2048; omega
  · rw [map4_eq]
    match a with
    | ⟨0, _⟩ => have := hr (i 0).val; show (T.row (i 0).val + 1) * 256 ≤ 65536; omega
    | ⟨1, _⟩ => show (0 + 1) * 2048 ≤ 2048; omega

/-! ## The pipeline at the tables, and its schedule -/

/-- The admissible contents, and the pipeline at them. -/
def adm (T : Tables) : (pcfg0 (F := Ideal)).Adm := ⟨T.pf, ok_pf T⟩
abbrev cfgA (T : Tables) : Pipeline.Cfg sig Λ₀ := cfg0 (F := Ideal) (adm T)
abbrev pcs (T : Tables) : Fin 1 → Pipeline.Cfg sig Λ₀ := Pipeline.pin (pcfgs (F := Ideal)) fun _ => adm T

variable (T : Tables)

abbrev crd (t : Fin (cfgA T).N) : (cfgA T).grid.Coords := (cfgA T).grid.coords t

theorem points : (cfgA T).N = 256 := N_0

theorem coords_val : ∀ t : Fin grid0.N, (grid0.coords t 0).val = t.val := by decide +kernel
theorem crd_val (t : Fin (cfgA T).N) : (crd T t 0).val = t.val := coords_val t

theorem index4 (t : Fin (cfgA T).N) : ((cfgA T).win (4 : Fin 5)).index t = ![T.row t.val, 0] := by
  have h := map4_eq T (crd T t)
  rw [crd_val] at h
  exact h

theorem index0 (t : Fin (cfgA T).N) : ((cfgA T).win (0 : Fin 5)).index t = ![T.row t.val, 0] := by
  have h := map0_eq T (crd T t)
  rw [crd_val] at h
  exact h

/-- The output is left alone exactly at the points that are not active. -/
theorem idle4 (t : Fin (cfgA T).N) : (cfgA T).idle (4 : Fin 5) (crd T t) = decide (T.count ≤ t.val) := by
  have h := active_iff T (crd T t)
  rw [crd_val] at h
  have hd : T.pf.atD 1 ![0] = T.n (ix1 0) := by
    unfold Pipeline.Prefetch.Contents.atD
    rw [dif_pos (by decide)]
    exact congrArg T.n (idx1_eq _ 0 rfl)
  show (!(k0_cond2 (crd T t) (T.pf.atD 1 ![0]) == 1#1)) = _
  rw [hd]
  by_cases hc : t.val < T.count
  · rw [h.2 hc]; simp; omega
  · have : ¬ k0_cond2 (crd T t) (T.n (ix1 0)) = 1#1 := mt h.1 hc
    rw [beq_eq_false_iff_ne.2 this]; simp; omega

/-- The output block is written back after the last point and after every active block but the last. -/
theorem flush4 (t : Fin (cfgA T).N) : ((cfgA T).win (4 : Fin 5)).flush t = decide (t.val + 1 = 256 ∨ t.val + 1 < T.count) := by
  have h1 := T.count_pos; have h2 := T.count_le
  have hi : ∀ (h : t.val + 1 < (cfgA T).N), ((cfgA T).win (4 : Fin 5)).index ⟨t.val + 1, h⟩ ≠ ((cfgA T).win (4 : Fin 5)).index t ↔ t.val + 1 < T.count := by
    intro h
    rw [index4, index4]
    constructor
    · intro hne
      by_contra hc
      refine hne (congrArg (fun k : ℕ => (![k, 0] : Fin 2 → ℕ)) ?_)
      unfold Tables.row; show min (t.val + 1) _ = _; omega
    · intro hc he
      have := congrFun he 0
      change T.row (t.val + 1) = T.row t.val at this
      unfold Tables.row at this; omega
  have ht : t.val < 256 := t.isLt
  unfold Pipeline.Window.flush
  show (true && _) = _
  rw [Bool.true_and]
  by_cases hl : t.val + 1 = 256
  · rw [decide_eq_true (show t.val + 1 = (cfgA T).grid.N from hl), Bool.true_or, decide_eq_true (Or.inl hl)]
  · have hlt : t.val + 1 < (cfgA T).N := by show t.val + 1 < 256; omega
    rw [show (decide (t.val + 1 = (cfgA T).grid.N)) = false from decide_eq_false hl, Bool.false_or, decide_eq_decide]
    constructor
    · rintro ⟨h, hne⟩; exact Or.inr ((hi h).1 hne)
    · rintro (h | h)
      · exact absurd h hl
      · exact ⟨hlt, (hi hlt).2 h⟩

/-- Before an active point the output's buffer holds nothing yet; before any other it holds the last active block's rows. -/
theorem fresh4 (n : ℕ) (h : n < 256) : (cfgA T).fresh (4 : Fin 5) n = decide (n < T.count) := by
  have h1 := T.count_pos; have h2 := T.count_le
  induction n with
  | zero => rw [Pipeline.Cfg.fresh_zero]; exact (decide_eq_true (by omega)).symm
  | succ n ih =>
    rw [Pipeline.Cfg.fresh_succ (cfgA T) (4 : Fin 5) n (show n < 256 by omega), flush4, ih (by omega)]
    have hi := idle4 T ⟨n, show n < 256 by omega⟩
    rw [show (cfgA T).idle (4 : Fin 5) ((cfgA T).grid.coords ⟨n, show n < 256 by omega⟩) = decide (T.count ≤ n) from hi]
    rw [← Bool.decide_and, ← Bool.decide_or, decide_eq_decide]
    show ((n + 1 = 256 ∨ n + 1 < T.count) ∨ (T.count ≤ n ∧ n < T.count)) ↔ _
    omega

end Cert.KernelIdeal.Experts

end
-- ==== Proof.Experts.Runs.lean ====
/- The routed experts' call: the body at one grid point, in the three cases its two conditions leave. An active block whose
   expert is new rounds the expert's weights into the scratches and multiplies by them; an active block whose expert is the
   one before's multiplies by what the scratches hold; a block that is not active touches nothing. -/
module

public import proofs.«01_k».proof.Proof.Gen.KernelIdeal.Skeleton
public import proofs.«01_k».proof.Proof.Experts.Tables

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-- The scratches, whole. -/
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The words a point reads of the tables: the number of active blocks, its block's expert, the expert of the block before. -/
abbrev nWord (T1 : S1.Idx → Elt Ideal .i32) : BitVec 32 :=
  View.readAt (Elt Ideal) tb1.view (Rect.unit (s := S1) ![0] S1.size inb_S1_S1_0).toLoadRect T1 (Shape.Idx.first (numel1_S1.symm ▸ Nat.one_pos))
abbrev eWord (i : grid0.Coords) (T0 : S256.Idx → Elt Ideal .i32) : BitVec 32 :=
  View.readAt (Elt Ideal) tb0.view (Rect.unit (s := S256) (k0_off1 i) S1.size (k0_off1_inb i)).toLoadRect T0 (Shape.Idx.first (numel1_S1.symm ▸ Nat.one_pos))
abbrev pWord (i : grid0.Coords) (T0 : S256.Idx → Elt Ideal .i32) : BitVec 32 :=
  View.readAt (Elt Ideal) tb0.view (Rect.unit (s := S256) (k0_off2 i) S1.size (k0_off2_inb i)).toLoadRect T0 (Shape.Idx.first (numel1_S1.symm ▸ Nat.one_pos))

/-- The body at a point, on its buffers. -/
abbrev bodyOn (i : grid0.Coords) (arg3 : Memref sig .tc .vmem S256x2048 .f32) (harg3 : arg3.IsWhole) (arg4 : Memref sig .tc .vmem S1x1x2048x512 .f32) (harg4 : arg4.IsWhole)
    (arg5 : Memref sig .tc .vmem S1x1x2048x512 .f32) (harg5 : arg5.IsWhole) (arg6 : Memref sig .tc .vmem S1x1x512x2048 .f32) (harg6 : arg6.IsWhole)
    (arg7 : Memref sig .tc .vmem S256x2048 .f32) (harg7 : arg7.IsWhole) : Prog (TpuEff nD τ sig (Elt Ideal) Λ₀ .tc) PUnit :=
  cc0_moe_experts i tb0 (Memref.isWhole_whole _) tb1 (Memref.isWhole_whole _) arg3 harg3 arg4 harg4 arg5 harg5 arg6 harg6 arg7 harg7
    sc0 (Memref.isWhole_whole _) sc1 (Memref.isWhole_whole _) sc2 (Memref.isWhole_whole _)

set_option backward.proofsInPublic true in
set_option maxHeartbeats 8000000 in
/-- An active block of a new expert: the pieces it stores in the output's buffer and what it leaves in the scratches, found by
    running the body. -/
noncomputable def runLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) :
    Σ' (out0 : List (View.Piece (Elt Ideal) S256x2048 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out0)
              ∗ (sc0.view.loc (c : Thread nD τ) ↦{fullShare} out1)
              ∗ (sc1.view.loc (c : Thread nD τ) ↦{fullShare} out2)
              ∗ (sc2.view.loc (c : Thread nD τ) ↦{fullShare} out3)) -∗ K ⟨⟩))
          ⊢ wp frame (wpE (defs₀ (F := Ideal)) Variants.none c none) Set.univ (bodyOn i arg3 harg3 arg4 harg4 arg5 harg5 arg6 harg6 arg7 harg7) K } :=
  ⟨_, _, _, _, fun xa0 xa1 xa2 K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = Scalar.cmpi = _; exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An active block of the expert before: the pieces it stores in the output's buffer; the scratches keep what they hold. -/
noncomputable def runKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) :
    { out0 : List (View.Piece (Elt Ideal) S256x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out0)
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Ideal)) Variants.none c none) Set.univ (bodyOn i arg3 harg3 arg4 harg4 arg5 harg5 arg6 harg6 arg7 harg7) K } :=
  ⟨_, fun K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A block that is not active: every buffer keeps what it holds. -/
theorem runSkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (y4 : S256x2048.Idx → Elt Ideal .f32)
    (hl : ¬ loadWord i (nWord T1) (eWord i T0) (pWord i T0) = 1#1) (ha : ¬ k0_cond2 i (nWord T1) = 1#1) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ owns (c : Thread nD τ) arg7 fullShare y4
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Ideal)) Variants.none c none) Set.univ (bodyOn i arg3 harg3 arg4 harg4 arg5 harg5 arg6 harg6 arg7 harg7) K := by
    unfold owns bodyOn
    rw [cc0_moe_experts_eq_skeleton]; unfold cc0_moe_experts_skel
    iintro ⟨H0, H1, H2, H3, HT0, HT1, ⟨%f4, %hf4, HO4⟩, HS0, HS1, HS2, Hk⟩
    obtain rfl := harg7.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = ¬(k0_cond2 _ _ = _); exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    iexact HS2

end Cert.KernelIdeal.Experts

end
-- ==== Proof.Experts.Body.lean ====
/- The routed experts' call: what the body's runs leave, as values — the feed-forward of the row block in the output's buffer, the
   rounded weights in the scratches — and the body's triples at those values. -/
module

public import proofs.«01_k».proof.Proof.Experts.Runs

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-! ## What the runs leave -/

/-- The output's buffer, through which stored pieces are read back. -/
abbrev VO : View sig .tc .vmem S256x2048 .f32 := (Memref.whole cc0_stg4_0 : Memref sig .tc .vmem S256x2048 .f32).view

theorem hz : (![0, 0] : Fin 2 → Nat) = fun _ => 0 := funext fun a => by fin_cases a <;> rfl
theorem hz4 : (![0, 0, 0, 0] : Fin 4 → Nat) = fun _ => 0 := funext fun a => by fin_cases a <;> rfl

/-- A scratch read whole is its contents, -/
theorem read0 (f : S2048x512.Idx → Elt Ideal .bf16) : View.read (Elt Ideal) (View.whole cc0_scratch0) f = f := rfl
theorem read1 (f : S2048x512.Idx → Elt Ideal .bf16) : View.read (Elt Ideal) (View.whole cc0_scratch1) f = f := rfl
theorem read2 (f : S512x2048.Idx → Elt Ideal .bf16) : View.read (Elt Ideal) (View.whole cc0_scratch2) f = f := rfl

/-- … and stored whole it holds what was stored. -/
theorem stored0 (w : S2048x512.Idx → Elt Ideal .bf16) (inb : ∀ a, (![0, 0] : Fin 2 → Nat) a + S2048x512.size a ≤ S2048x512.size a) :
    (View.whole cc0_scratch0).writes (Elt Ideal) (View.whole cc0_scratch0).junk [(⟨Rect.unit (s := S2048x512) ![0, 0] S2048x512.size inb, w⟩ : View.Piece (Elt Ideal) S2048x512 .bf16)] = w :=
  (read0 _).symm.trans ((View.read_writes_eq_canon _ _ _ (View.cover_of_tiledL [(⟨Rect.unit (s := S2048x512) ![0, 0] S2048x512.size inb, w⟩ : View.Piece (Elt Ideal) S2048x512 .bf16)] S2048x512.size (by sl_kernel_rfl))).trans
    (View.canon_unit_zero hz inb w))

theorem stored1 (w : S2048x512.Idx → Elt Ideal .bf16) (inb : ∀ a, (![0, 0] : Fin 2 → Nat) a + S2048x512.size a ≤ S2048x512.size a) :
    (View.whole cc0_scratch1).writes (Elt Ideal) (View.whole cc0_scratch1).junk [(⟨Rect.unit (s := S2048x512) ![0, 0] S2048x512.size inb, w⟩ : View.Piece (Elt Ideal) S2048x512 .bf16)] = w :=
  (read1 _).symm.trans ((View.read_writes_eq_canon _ _ _ (View.cover_of_tiledL [(⟨Rect.unit (s := S2048x512) ![0, 0] S2048x512.size inb, w⟩ : View.Piece (Elt Ideal) S2048x512 .bf16)] S2048x512.size (by sl_kernel_rfl))).trans
    (View.canon_unit_zero hz inb w))

theorem stored2 (w : S512x2048.Idx → Elt Ideal .bf16) (inb : ∀ a, (![0, 0] : Fin 2 → Nat) a + S512x2048.size a ≤ S512x2048.size a) :
    (View.whole cc0_scratch2).writes (Elt Ideal) (View.whole cc0_scratch2).junk [(⟨Rect.unit (s := S512x2048) ![0, 0] S512x2048.size inb, w⟩ : View.Piece (Elt Ideal) S512x2048 .bf16)] = w :=
  (read2 _).symm.trans ((View.read_writes_eq_canon _ _ _ (View.cover_of_tiledL [(⟨Rect.unit (s := S512x2048) ![0, 0] S512x2048.size inb, w⟩ : View.Piece (Elt Ideal) S512x2048 .bf16)] S512x2048.size (by sl_kernel_rfl))).trans
    (View.canon_unit_zero hz inb w))

theorem coverLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) (y : S256x2048.Idx) :
    ∃ pc ∈ (runLoad c i arg3 harg3 arg4 harg4 arg5 harg5 arg6 harg6 arg7 harg7 T0 T1 x0 x1 x2 x3 hl ha).1, y ∈ pc.1.set :=
  View.cover_of_tiledL (runLoad c i arg3 harg3 arg4 harg4 arg5 harg5 arg6 harg6 arg7 harg7 T0 T1 x0 x1 x2 x3 hl ha).1 S256x2048.size (by sl_kernel_rfl) y

theorem coverKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) (y : S256x2048.Idx) :
    ∃ pc ∈ (runKeep c i arg3 harg3 arg4 harg4 arg5 harg5 arg6 harg6 arg7 harg7 T0 T1 x0 x1 x2 x3 xa0 xa1 xa2 hl ha).1, y ∈ pc.1.set :=
  View.cover_of_tiledL (runKeep c i arg3 harg3 arg4 harg4 arg5 harg5 arg6 harg6 arg7 harg7 T0 T1 x0 x1 x2 x3 xa0 xa1 xa2 hl ha).1 S256x2048.size (by sl_kernel_rfl) y

theorem outLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) :
    VO.read (Elt Ideal) (VO.writes (Elt Ideal) VO.junk (runLoad c i arg3 harg3 arg4 harg4 arg5 harg5 arg6 harg6 arg7 harg7 T0 T1 x0 x1 x2 x3 hl ha).1) = k0_pay4 x0 (k0_pay1 x1) (k0_pay2 x2) (k0_pay3 x3) := by
  rw [View.read_writes_eq_canon _ _ _ (coverLoad c i arg3 harg3 arg4 harg4 arg5 harg5 arg6 harg6 arg7 harg7 T0 T1 x0 x1 x2 x3 hl ha)]
  unfold runLoad
  dsimp only
  sl_unfold_words
  rw [View.canon_unit_zero hz]
  simp only [View.readAt_eq_ld, View.read_rep,
    View.readCov_unit_zero (S := S2048x512) _ hz, View.readCov_unit_zero (S := S512x2048) _ hz,
    View.ld_unit_zero (S := S2048x512) hz, View.ld_unit_zero (S := S512x2048) hz, View.ld_unit_zero (S := S256x2048) hz,
    View.ld_unit_zero (S := S1x1x2048x512) hz4, View.ld_unit_zero (S := S1x1x512x2048) hz4]

theorem outKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) :
    VO.read (Elt Ideal) (VO.writes (Elt Ideal) VO.junk (runKeep c i arg3 harg3 arg4 harg4 arg5 harg5 arg6 harg6 arg7 harg7 T0 T1 x0 x1 x2 x3 xa0 xa1 xa2 hl ha).1) = k0_pay4 x0 xa0 xa1 xa2 := by
  rw [View.read_writes_eq_canon _ _ _ (coverKeep c i arg3 harg3 arg4 harg4 arg5 harg5 arg6 harg6 arg7 harg7 T0 T1 x0 x1 x2 x3 xa0 xa1 xa2 hl ha)]
  unfold runKeep
  dsimp only
  sl_unfold_words
  rw [View.canon_unit_zero hz]
  simp only [View.readAt_eq_ld, View.read_rep,
    View.ld_unit_zero (S := S2048x512) hz, View.ld_unit_zero (S := S512x2048) hz, View.ld_unit_zero (S := S256x2048) hz]
  rw [read0, read1, read2]

theorem gateLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.1 = k0_pay1 x1 := by
  unfold runLoad
  dsimp only
  sl_unfold_words
  simp only [View.readAt_eq_ld, View.read_rep, View.ld_unit_zero (S := S1x1x2048x512) hz4]
  rw [stored0]

theorem upLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.1 = k0_pay2 x2 := by
  unfold runLoad
  dsimp only
  sl_unfold_words
  simp only [View.readAt_eq_ld, View.read_rep, View.ld_unit_zero (S := S1x1x2048x512) hz4]
  rw [stored1]

theorem downLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.2.1 = k0_pay3 x3 := by
  unfold runLoad
  dsimp only
  sl_unfold_words
  simp only [View.readAt_eq_ld, View.read_rep, View.ld_unit_zero (S := S1x1x512x2048) hz4]
  rw [stored2]

end Cert.KernelIdeal.Experts

end
-- ==== Proof.Experts.Triples.lean ====
/- The routed experts' call: the body's triple at one grid point, in each of its three cases. -/
module

public import proofs.«01_k».proof.Proof.Experts.Body

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-! ## The body's triples -/

set_option maxHeartbeats 4000000 in
/-- An active block of a new expert. -/
theorem bodyLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (∃ a : Buf (Elt Ideal) ((c : Thread nD τ).loc cc0_scratch0), sc0.view.loc (c : Thread nD τ) ↦{fullShare} a)
      ∗ (∃ a : Buf (Elt Ideal) ((c : Thread nD τ).loc cc0_scratch1), sc1.view.loc (c : Thread nD τ) ↦{fullShare} a)
      ∗ (∃ a : Buf (Elt Ideal) ((c : Thread nD τ).loc cc0_scratch2), sc2.view.loc (c : Thread nD τ) ↦{fullShare} a)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 (k0_pay1 x1) (k0_pay2 x2) (k0_pay3 x3))
          ∗ (sc0.view.loc (c : Thread nD τ) ↦{fullShare} k0_pay1 x1)
          ∗ (sc1.view.loc (c : Thread nD τ) ↦{fullShare} k0_pay2 x2)
          ∗ (sc2.view.loc (c : Thread nD τ) ↦{fullShare} k0_pay3 x3)) -∗ K ⟨⟩))
      ⊢ wp frame (wpE (defs₀ (F := Ideal)) Variants.none c none) Set.univ (bodyOn i arg3 harg3 arg4 harg4 arg5 harg5 arg6 harg6 arg7 harg7) K := by
  have hg := gateLoad c i arg3 harg3 arg4 harg4 arg5 harg5 arg6 harg6 arg7 harg7 T0 T1 x0 x1 x2 x3 hl ha
  have hu := upLoad c i arg3 harg3 arg4 harg4 arg5 harg5 arg6 harg6 arg7 harg7 T0 T1 x0 x1 x2 x3 hl ha
  have hd := downLoad c i arg3 harg3 arg4 harg4 arg5 harg5 arg6 harg6 arg7 harg7 T0 T1 x0 x1 x2 x3 hl ha
  have ho := outLoad c i arg3 harg3 arg4 harg4 arg5 harg5 arg6 harg6 arg7 harg7 T0 T1 x0 x1 x2 x3 hl ha
  have hv := coverLoad c i arg3 harg3 arg4 harg4 arg5 harg5 arg6 harg6 arg7 harg7 T0 T1 x0 x1 x2 x3 hl ha
  generalize runLoad c i arg3 harg3 arg4 harg4 arg5 harg5 arg6 harg6 arg7 harg7 T0 T1 x0 x1 x2 x3 hl ha = r at hg hu hd ho hv
  obtain ⟨o0, o1, o2, o3, run⟩ := r
  dsimp only at hg hu hd ho hv
  subst hg hu hd
  iintro ⟨H0, H1, H2, H3, HT0, HT1, H4, ⟨%a0, HS0⟩, ⟨%a1, HS1⟩, ⟨%a2, HS2⟩, Hk⟩
  iapply (run a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- An active block of the expert before. -/
theorem bodyKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 xa0 xa1 xa2)
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Ideal)) Variants.none c none) Set.univ (bodyOn i arg3 harg3 arg4 harg4 arg5 harg5 arg6 harg6 arg7 harg7) K := by
  have ho := outKeep c i arg3 harg3 arg4 harg4 arg5 harg5 arg6 harg6 arg7 harg7 T0 T1 x0 x1 x2 x3 xa0 xa1 xa2 hl ha
  have hv := coverKeep c i arg3 harg3 arg4 harg4 arg5 harg5 arg6 harg6 arg7 harg7 T0 T1 x0 x1 x2 x3 xa0 xa1 xa2 hl ha
  generalize runKeep c i arg3 harg3 arg4 harg4 arg5 harg5 arg6 harg6 arg7 harg7 T0 T1 x0 x1 x2 x3 xa0 xa1 xa2 hl ha = r at ho hv
  obtain ⟨o0, run⟩ := r
  dsimp only at ho hv
  iintro ⟨H0, H1, H2, H3, HT0, HT1, H4, HS0, HS1, HS2, Hk⟩
  iapply (run K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- A block that is not active. -/
theorem bodySkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (y4 : S256x2048.Idx → Elt Ideal .f32)
    (hl : ¬ loadWord i (nWord T1) (eWord i T0) (pWord i T0) = 1#1) (ha : ¬ k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare y4
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Ideal)) Variants.none c none) Set.univ (bodyOn i arg3 harg3 arg4 harg4 arg5 harg5 arg6 harg6 arg7 harg7) K := by
  iintro ⟨H0, H1, H2, H3, HT0, HT1, H4, HS0, HS1, HS2, Hk⟩
  iapply (runSkip c i arg3 harg3 arg4 harg4 arg5 harg5 arg6 harg6 arg7 harg7 T0 T1 x0 x1 x2 x3 xa0 xa1 xa2 y4 hl ha K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · iexact H4
  isplitl [HS0]; · iexact HS0
  isplitl [HS1]; · iexact HS1
  iexact HS2

end Cert.KernelIdeal.Experts

end
-- ==== Proof.Experts.Frame.lean ====
/- The routed experts' call: the pipeline's data in closed form — after point `n` the scratches hold the rounded weights of the
   last active block up to `n`, the output's buffer its feed-forward — the body's obligation from the three triples, and the
   launch: at tables in their ranges every execution ends, nothing faults, and the arguments end unchanged. -/
module

public import proofs.«01_k».proof.Proof.Experts.Triples
public import Idealize.ShloMosaic.Lib.Pipeline.Quiescent
public import Idealize.ShloMosaic.Lib.Claim

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (T : Tables) (m : (ℓ : Loc nD τ sig) → Buf (Elt Ideal) ℓ) (ρ : Dev nD → PrngReg)

/-- The launch memory holds the tables. -/
def Holds : Prop :=
  (∀ c : Dev nD, m ((c : Thread nD τ).loc main_arg0) = T.e) ∧ (∀ c : Dev nD, m ((c : Thread nD τ).loc main_arg1) = T.n)

/-! ## Staging buffers and blocks -/

abbrev ms0 (t : Fin (cfgA T).N) : Memref sig .tc .vmem S256x2048 .f32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1x2048x512 .f32 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1x2048x512 .f32 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1x512x2048 .f32 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S256x2048 .f32 := spec0_4.stage ((cfgA T).slots t (4 : Fin 5))
abbrev hs4 (t : Fin (cfgA T).N) : (ms4 T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The expert of block `n`, as an index of the weights. -/
def Tables.expert (T : Tables) (b : Fin 256) : Fin 64 := ⟨(T.e (ix1 b)).toNat, T.he _⟩

/-- The grid point's block. -/
abbrev blk (t : Fin (cfgA T).N) : Fin 256 := ⟨t.val, t.isLt⟩

theorem index1 (t : Fin (cfgA T).N) : ((cfgA T).win (1 : Fin 5)).index t = ![0, (T.expert (blk T t)).val, 0, 0] := by
  have h := map1_eq T (crd T t)
  rw [show blockOf (crd T t) = blk T t from Fin.ext (crd_val T t)] at h
  exact h
theorem index2 (t : Fin (cfgA T).N) : ((cfgA T).win (2 : Fin 5)).index t = ![0, (T.expert (blk T t)).val, 0, 0] := by
  have h := map2_eq T (crd T t)
  rw [show blockOf (crd T t) = blk T t from Fin.ext (crd_val T t)] at h
  exact h
theorem index3 (t : Fin (cfgA T).N) : ((cfgA T).win (3 : Fin 5)).index t = ![0, (T.expert (blk T t)).val, 0, 0] := by
  have h := map3_eq T (crd T t)
  rw [show blockOf (crd T t) = blk T t from Fin.ext (crd_val T t)] at h
  exact h

/-- The gate weights' window at a point: its block's expert's. -/
theorem gate_at (c : Dev nD) (t : Fin (cfgA T).N) (j : S1x1x2048x512.Idx) : (iblk T m ρ c (1 : Fin 5) t : S1x1x2048x512.Idx → Elt Ideal .f32) j
    = (m ((c : Thread nD τ).loc main_arg3) : S2x64x2048x512.Idx → Elt Ideal .f32) (ix4 (0 : Fin 2) (T.expert (blk T t)) (j 2 : Fin 2048) (j 3 : Fin 512)) := by
  have p := index1 T t
  unfold iblk
  rw [View.read_apply]
  show m ((c : Thread nD τ).loc main_arg3) _ = m ((c : Thread nD τ).loc main_arg3) _
  congr 1
  funext a
  apply Fin.ext
  have h0 : (j 0).val < 1 := (j 0).isLt
  have h1 : (j 1).val < 1 := (j 1).isLt
  match a with
  | ⟨0, _⟩ => show ((cfgA T).win (1 : Fin 5)).index t (0 : Fin 4) * 1 + 1 * (j 0).val = 0; rw [p]; show 0 * 1 + 1 * (j 0).val = 0; omega
  | ⟨1, _⟩ => show ((cfgA T).win (1 : Fin 5)).index t (1 : Fin 4) * 1 + 1 * (j 1).val = (T.expert (blk T t)).val; rw [p]; show (T.expert (blk T t)).val * 1 + 1 * (j 1).val = _; omega
  | ⟨2, _⟩ => show ((cfgA T).win (1 : Fin 5)).index t (2 : Fin 4) * 2048 + 1 * (j 2).val = (j 2).val; rw [p]; show 0 * 2048 + 1 * (j 2).val = _; omega
  | ⟨3, _⟩ => show ((cfgA T).win (1 : Fin 5)).index t (3 : Fin 4) * 512 + 1 * (j 3).val = (j 3).val; rw [p]; show 0 * 512 + 1 * (j 3).val = _; omega

/-- The up weights' window at a point: its block's expert's. -/
theorem up_at (c : Dev nD) (t : Fin (cfgA T).N) (j : S1x1x2048x512.Idx) : (iblk T m ρ c (2 : Fin 5) t : S1x1x2048x512.Idx → Elt Ideal .f32) j
    = (m ((c : Thread nD τ).loc main_arg4) : S2x64x2048x512.Idx → Elt Ideal .f32) (ix4 (0 : Fin 2) (T.expert (blk T t)) (j 2 : Fin 2048) (j 3 : Fin 512)) := by
  have p := index2 T t
  unfold iblk
  rw [View.read_apply]
  show m ((c : Thread nD τ).loc main_arg4) _ = m ((c : Thread nD τ).loc main_arg4) _
  congr 1
  funext a
  apply Fin.ext
  have h0 : (j 0).val < 1 := (j 0).isLt
  have h1 : (j 1).val < 1 := (j 1).isLt
  match a with
  | ⟨0, _⟩ => show ((cfgA T).win (2 : Fin 5)).index t (0 : Fin 4) * 1 + 1 * (j 0).val = 0; rw [p]; show 0 * 1 + 1 * (j 0).val = 0; omega
  | ⟨1, _⟩ => show ((cfgA T).win (2 : Fin 5)).index t (1 : Fin 4) * 1 + 1 * (j 1).val = (T.expert (blk T t)).val; rw [p]; show (T.expert (blk T t)).val * 1 + 1 * (j 1).val = _; omega
  | ⟨2, _⟩ => show ((cfgA T).win (2 : Fin 5)).index t (2 : Fin 4) * 2048 + 1 * (j 2).val = (j 2).val; rw [p]; show 0 * 2048 + 1 * (j 2).val = _; omega
  | ⟨3, _⟩ => show ((cfgA T).win (2 : Fin 5)).index t (3 : Fin 4) * 512 + 1 * (j 3).val = (j 3).val; rw [p]; show 0 * 512 + 1 * (j 3).val = _; omega

/-- The down weights' window at a point: its block's expert's. -/
theorem down_at (c : Dev nD) (t : Fin (cfgA T).N) (j : S1x1x512x2048.Idx) : (iblk T m ρ c (3 : Fin 5) t : S1x1x512x2048.Idx → Elt Ideal .f32) j
    = (m ((c : Thread nD τ).loc main_arg5) : S2x64x512x2048.Idx → Elt Ideal .f32) (ix4 (0 : Fin 2) (T.expert (blk T t)) (j 2 : Fin 512) (j 3 : Fin 2048)) := by
  have p := index3 T t
  unfold iblk
  rw [View.read_apply]
  show m ((c : Thread nD τ).loc main_arg5) _ = m ((c : Thread nD τ).loc main_arg5) _
  congr 1
  funext a
  apply Fin.ext
  have h0 : (j 0).val < 1 := (j 0).isLt
  have h1 : (j 1).val < 1 := (j 1).isLt
  match a with
  | ⟨0, _⟩ => show ((cfgA T).win (3 : Fin 5)).index t (0 : Fin 4) * 1 + 1 * (j 0).val = 0; rw [p]; show 0 * 1 + 1 * (j 0).val = 0; omega
  | ⟨1, _⟩ => show ((cfgA T).win (3 : Fin 5)).index t (1 : Fin 4) * 1 + 1 * (j 1).val = (T.expert (blk T t)).val; rw [p]; show (T.expert (blk T t)).val * 1 + 1 * (j 1).val = _; omega
  | ⟨2, _⟩ => show ((cfgA T).win (3 : Fin 5)).index t (2 : Fin 4) * 512 + 1 * (j 2).val = (j 2).val; rw [p]; show 0 * 512 + 1 * (j 2).val = _; omega
  | ⟨3, _⟩ => show ((cfgA T).win (3 : Fin 5)).index t (3 : Fin 4) * 2048 + 1 * (j 3).val = (j 3).val; rw [p]; show 0 * 2048 + 1 * (j 3).val = _; omega

/-! ## What the buffers hold after each point -/

/-- The last active point up to `n`. -/
def last (n : ℕ) : Fin (cfgA T).N := ⟨T.row n, by have h := T.count_pos; have h' := T.count_le; show T.row n < 256; unfold Tables.row; omega⟩

def gateAfter (c : Dev nD) (n : ℕ) : S2048x512.Idx → Elt Ideal .bf16 := k0_pay1 (iblk T m ρ c (1 : Fin 5) (last T n))
def upAfter (c : Dev nD) (n : ℕ) : S2048x512.Idx → Elt Ideal .bf16 := k0_pay2 (iblk T m ρ c (2 : Fin 5) (last T n))
def downAfter (c : Dev nD) (n : ℕ) : S512x2048.Idx → Elt Ideal .bf16 := k0_pay3 (iblk T m ρ c (3 : Fin 5) (last T n))
def outAfter (c : Dev nD) (n : ℕ) : S256x2048.Idx → Elt Ideal .f32 :=
  k0_pay4 (iblk T m ρ c (0 : Fin 5) (last T n)) (gateAfter T m ρ c n) (upAfter T m ρ c n) (downAfter T m ρ c n)

/-- An active point is its own last active one; -/
theorem last_active (t : Fin (cfgA T).N) (h : t.val < T.count) : last T t.val = t :=
  Fin.ext (by show T.row t.val = t.val; unfold Tables.row; omega)

/-- one that is not shares the point before's. -/
theorem last_idle (n : ℕ) (h : T.count ≤ n) : last T n = last T (n - 1) :=
  Fin.ext (by have := T.count_pos; show T.row n = T.row (n - 1); unfold Tables.row; omega)

theorem outAfter_idle (c : Dev nD) (n : ℕ) (h : T.count ≤ n) : outAfter T m ρ c n = outAfter T m ρ c (n - 1) := by
  unfold outAfter gateAfter upAfter downAfter; rw [last_idle T n h]
theorem gateAfter_idle (c : Dev nD) (n : ℕ) (h : T.count ≤ n) : gateAfter T m ρ c n = gateAfter T m ρ c (n - 1) := by
  unfold gateAfter; rw [last_idle T n h]
theorem upAfter_idle (c : Dev nD) (n : ℕ) (h : T.count ≤ n) : upAfter T m ρ c n = upAfter T m ρ c (n - 1) := by
  unfold upAfter; rw [last_idle T n h]
theorem downAfter_idle (c : Dev nD) (n : ℕ) (h : T.count ≤ n) : downAfter T m ρ c n = downAfter T m ρ c (n - 1) := by
  unfold downAfter; rw [last_idle T n h]

/-- A point of the expert before finds its weights in the scratches. -/
theorem same_expert (t : Fin (cfgA T).N) (h : t.val < T.count) (h0 : t.val ≠ 0) (he : T.e (ix1 (blk T t)) = T.e (ix1 (before (blk T t)))) :
    T.expert (blk T (last T t.val)) = T.expert (blk T (last T (t.val - 1))) := by
  rw [last_active T t h]
  have hb : blk T (last T (t.val - 1)) = before (blk T t) :=
    Fin.ext (by show T.row (t.val - 1) = t.val - 1; unfold Tables.row; omega)
  rw [hb]; unfold Tables.expert
  exact Fin.ext (congrArg BitVec.toNat he)

theorem gateAfter_same (c : Dev nD) (t : Fin (cfgA T).N) (h : t.val < T.count) (h0 : t.val ≠ 0) (he : T.e (ix1 (blk T t)) = T.e (ix1 (before (blk T t)))) :
    gateAfter T m ρ c t.val = gateAfter T m ρ c (t.val - 1) := by
  have hx : (iblk T m ρ c (1 : Fin 5) (last T t.val) : S1x1x2048x512.Idx → Elt Ideal .f32) = iblk T m ρ c (1 : Fin 5) (last T (t.val - 1)) :=
    funext fun j => by rw [gate_at, gate_at, same_expert T t h h0 he]
  exact congrArg k0_pay1 hx

theorem upAfter_same (c : Dev nD) (t : Fin (cfgA T).N) (h : t.val < T.count) (h0 : t.val ≠ 0) (he : T.e (ix1 (blk T t)) = T.e (ix1 (before (blk T t)))) :
    upAfter T m ρ c t.val = upAfter T m ρ c (t.val - 1) := by
  have hx : (iblk T m ρ c (2 : Fin 5) (last T t.val) : S1x1x2048x512.Idx → Elt Ideal .f32) = iblk T m ρ c (2 : Fin 5) (last T (t.val - 1)) :=
    funext fun j => by rw [up_at, up_at, same_expert T t h h0 he]
  exact congrArg k0_pay2 hx

theorem downAfter_same (c : Dev nD) (t : Fin (cfgA T).N) (h : t.val < T.count) (h0 : t.val ≠ 0) (he : T.e (ix1 (blk T t)) = T.e (ix1 (before (blk T t)))) :
    downAfter T m ρ c t.val = downAfter T m ρ c (t.val - 1) := by
  have hx : (iblk T m ρ c (3 : Fin 5) (last T t.val) : S1x1x512x2048.Idx → Elt Ideal .f32) = iblk T m ρ c (3 : Fin 5) (last T (t.val - 1)) :=
    funext fun j => by rw [down_at, down_at, same_expert T t h h0 he]
  exact congrArg k0_pay3 hx

/-! ## The pipeline's data -/

/-- Before point `t`: each scratch at what the point before leaves (anything before the first), and the body's share of the tables. -/
def Phi (c : Dev nD) (t : Fin ((cfgA T).N + 1)) : sProp 𝕄 :=
  iprop((∃ a, ⌜t.val ≠ 0 → a = gateAfter T m ρ c (t.val - 1)⌝ ∗ (sc0.view.loc (c : Thread nD τ) ↦{fullShare} a))
    ∗ (∃ a, ⌜t.val ≠ 0 → a = upAfter T m ρ c (t.val - 1)⌝ ∗ (sc1.view.loc (c : Thread nD τ) ↦{fullShare} a))
    ∗ (∃ a, ⌜t.val ≠ 0 → a = downAfter T m ρ c (t.val - 1)⌝ ∗ (sc2.view.loc (c : Thread nD τ) ↦{fullShare} a))
    ∗ (tb0.view.loc (c : Thread nD τ) ↦{fullShare.right} T.e) ∗ (tb1.view.loc (c : Thread nD τ) ↦{fullShare.right} T.n))

/-- The data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAfter T m ρ c t.val
  Φ t := Phi T m ρ c t
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = outAfter T m ρ c t.val := rfl

/-- An input's window holds its block. -/
theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's window, at a point that is not active, holds the last active block's feed-forward. -/
theorem before4 (c : Dev nD) (t : Fin (cfgA T).N) (h : T.count ≤ t.val) (d) :
    (dats T m ρ 0 c).before (4 : Fin 5) t d = outAfter T m ρ c (t.val - 1) := by
  have hc : ∀ (t : Fin (cfgA T).N) (ht : t.val ≠ 0), (cfgA T).idle (4 : Fin 5) ((cfgA T).grid.coords t) = true → (cfgA T).fresh (4 : Fin 5) t.val = false →
      (dats T m ρ 0 c).after (4 : Fin 5) t = (dats T m ρ 0 c).after (4 : Fin 5) ⟨t.val - 1, by omega⟩ := by
    intro t ht hi _
    rw [show (cfgA T).idle (4 : Fin 5) ((cfgA T).grid.coords t) = decide (T.count ≤ t.val) from idle4 T t] at hi
    rw [after4, after4]
    exact outAfter_idle T m ρ c t.val (of_decide_eq_true hi)
  have h0 : t.val ≠ 0 := by have := T.count_pos; omega
  have hf : (cfgA T).fresh (4 : Fin 5) t.val = false := (fresh4 T t.val t.isLt).trans (decide_eq_false (by omega))
  rw [(dats T m ρ 0 c).before_out_traj (4 : Fin 5) rfl (fun _ _ => rfl) hc t.val t rfl d]
  simp only [hf, Bool.false_eq_true, ↓reduceIte, after4]
  try rw [dif_neg h0]

/-! ## The body's obligation -/

/-- The conditions at a point, from the tables. -/
theorem loads_iff (t : Fin (cfgA T).N) : loadWord (crd T t) (nWord T.n) (eWord (crd T t) T.e) (pWord (crd T t) T.e) = 1#1
    ↔ t.val < T.count ∧ (t.val = 0 ∨ T.e (ix1 (blk T t)) ≠ T.e (ix1 (before (blk T t)))) := by
  have h := load_iff T (crd T t)
  rw [show blockOf (crd T t) = blk T t from Fin.ext (crd_val T t), crd_val] at h
  have hn : nWord T.n = T.n (ix1 0) := read_n T.n
  have he : eWord (crd T t) T.e = T.e (ix1 (blk T t)) := (read_e T.e (crd T t)).trans (congrArg (fun b => T.e (ix1 b)) (Fin.ext (crd_val T t)))
  have hp : pWord (crd T t) T.e = T.e (ix1 (before (blk T t))) := (read_p T.e (crd T t)).trans (congrArg (fun b => T.e (ix1 (before b))) (Fin.ext (crd_val T t)))
  rw [hn, he, hp]
  exact h

theorem actives_iff (t : Fin (cfgA T).N) : k0_cond2 (crd T t) (nWord T.n) = 1#1 ↔ t.val < T.count := by
  have h := active_iff T (crd T t)
  rw [crd_val] at h
  have hn : nWord T.n = T.n (ix1 0) := read_n T.n
  rw [hn]; exact h

abbrev bodyAt (t : Fin (cfgA T).N) : Prog (TpuEff nD τ sig (Elt Ideal) Λ₀ .tc) PUnit :=
  bodyOn (crd T t) (ms0 T t) (hs0 T t) (ms1 T t) (hs1 T t) (ms2 T t) (hs2 T t) (ms3 T t) (hs3 T t) (ms4 T t) (hs4 T t)

/-- The body takes point `t`'s buffers from what they hold before the point to what the data say they hold after it. -/
def SoundAt (c : Dev nD) (t : Fin (cfgA T).N) : Prop :=
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t))

set_option maxHeartbeats 4000000 in
/-- At an active block of a new expert. -/
theorem sound_load (c : Dev nD) (t : Fin (cfgA T).N) (hl : loadWord (crd T t) (nWord T.n) (eWord (crd T t) T.e) (pWord (crd T t) T.e) = 1#1) :
    SoundAt T m ρ c t := by
  unfold SoundAt
  have hlt : t.val < T.count := ((loads_iff T t).1 hl).1
  have i4 : (cfgA T).idle (4 : Fin 5) ((cfgA T).grid.coords t) = false := (idle4 T t).trans (decide_eq_false (by omega))
  have hg : k0_pay1 (iblk T m ρ c (1 : Fin 5) t) = gateAfter T m ρ c t.val := by unfold gateAfter; rw [last_active T t hlt]
  have hu : k0_pay2 (iblk T m ρ c (2 : Fin 5) t) = upAfter T m ρ c t.val := by unfold upAfter; rw [last_active T t hlt]
  have hd : k0_pay3 (iblk T m ρ c (3 : Fin 5) t) = downAfter T m ρ c t.val := by unfold downAfter; rw [last_active T t hlt]
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyLoad c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) hl ((actives_iff T t).2 hlt)
  rw [hg, hu, hd, ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexists _; iexact HS0
  isplitl [HS1]; · iexists _; iexact HS1
  isplitl [HS2]; · iexists _; iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At an active block of the expert before. -/
theorem sound_keep (c : Dev nD) (t : Fin (cfgA T).N) (hl : ¬ loadWord (crd T t) (nWord T.n) (eWord (crd T t) T.e) (pWord (crd T t) T.e) = 1#1)
    (hlt : t.val < T.count) :
    SoundAt T m ρ c t := by
  unfold SoundAt
  have hn := mt (loads_iff T t).2 hl
  have h0 : t.val ≠ 0 := fun h => hn ⟨hlt, Or.inl h⟩
  have he : T.e (ix1 (blk T t)) = T.e (ix1 (before (blk T t))) := by
    by_contra h; exact hn ⟨hlt, Or.inr h⟩
  have i4 : (cfgA T).idle (4 : Fin 5) ((cfgA T).grid.coords t) = false := (idle4 T t).trans (decide_eq_false (by omega))
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyKeep c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) hl ((actives_iff T t).2 hlt)
  rw [ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_same T m ρ c t hlt h0 he, ← upAfter_same T m ρ c t hlt h0 he, ← downAfter_same T m ρ c t hlt h0 he]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At a block that is not active. -/
theorem sound_skip (c : Dev nD) (t : Fin (cfgA T).N) (hge : T.count ≤ t.val) :
    SoundAt T m ρ c t := by
  unfold SoundAt
  have h0 : t.val ≠ 0 := by have := T.count_pos; omega
  have hl : ¬ loadWord (crd T t) (nWord T.n) (eWord (crd T t) T.e) (pWord (crd T t) T.e) = 1#1 :=
    fun h => absurd ((loads_iff T t).1 h).1 (by omega)
  have ha : ¬ k0_cond2 (crd T t) (nWord T.n) = 1#1 := fun h => absurd ((actives_iff T t).1 h) (by omega)
  have i4 : (cfgA T).idle (4 : Fin 5) ((cfgA T).grid.coords t) = true := (idle4 T t).trans (decide_eq_true hge)
  have run := bodySkip c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) (outAfter T m ρ c t.val) hl ha
  rw [bigSep_W0]
  rewrite [i4]
  simp only [before0, before1, before2, before3, before4 T m ρ c t hge, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_idle T m ρ c t.val hge, ← upAfter_idle T m ρ c t.val hge, ← downAfter_idle T m ρ c t.val hge, ← outAfter_idle T m ρ c t.val hge]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  cases f4 : ((cfgA T).win (4 : Fin 5)).flush t
  · iexists d4; iexact H4
  · iexact H4

/-- The body's obligation, at every point. -/
theorem body_obligation (c : Dev nD) : BodyObligation (dats T m ρ 0 c) (defs₀ (F := Ideal)) Variants.none () Set.univ := fun t => by
  rw [bigSep_W0]
  by_cases hl : loadWord (crd T t) (nWord T.n) (eWord (crd T t) T.e) (pWord (crd T t) T.e) = 1#1
  · exact sound_load T m ρ c t hl
  · by_cases hlt : t.val < T.count
    · exact sound_keep T m ρ c t hl hlt
    · exact sound_skip T m ρ c t (by omega)

/-! ## The launch -/

/-- The launch's ghost element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches as the launch hands them; -/
theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- at the last it gives the scratches back. -/
theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The final states: every window's array at what the data compute, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory holding the tables, with zero counters: every weakly fair execution ends in such a state, its counters at zero. -/
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- The arguments end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- The frame: every weakly fair execution ends, nothing faults, the arguments end unchanged and every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.KernelIdeal.Experts

end
-- ==== Proof.Experts.Value.lean ====
/- The routed experts' call: what the result array holds after the run, over the extended reals. Every row of an active block
   holds the feed-forward of the same row of the input by its block's expert; the rows of the other blocks are never written. -/
module

public import proofs.«01_k».proof.Proof.Ffn
public import proofs.«01_k».proof.Proof.Experts.Frame
public import Idealize.ShloMosaic.Lib.Pipeline.Value
public import Idealize.ShloMosaic.Lib.MatmulPlain
public import Idealize.ShloMosaic.Lib.Pointwise
public import Idealize.ShloMosaic.Lib.Tactic

@[expose] public section

set_option maxRecDepth 16384

noncomputable section

namespace Cert.KernelIdeal.Experts

open Cert.KernelIdeal Cert.KernelIdeal.Gen
open Idealize.ShloMosaic Idealize.ShloMosaic.TcCoe
open Idealize.SL.Sem
open Idealize.ShloMosaic.Pipeline (Dat)

/-- The block a row of the result lies in. -/
def rowBlock (i : S65536x2048.Idx) : Fin 256 := ⟨(i 0).val / 256, by have h : (i 0).val < 65536 := (i 0).isLt; omega⟩

/-- The gated linear unit of row `i 0` by its block's expert, times column `i 1` of that expert's down weights. -/
def formula (expert : Fin 256 → Fin 64) (x : FVec Ideal S65536x2048 .f32) (wg wu : FVec Ideal S2x64x2048x512 .f32)
    (wd : FVec Ideal S2x64x512x2048 .f32) : FVec Ideal S65536x2048 .f32 := fun i =>
  ∑ f : Fin 512, Cert.Ffn.hidden (∑ k : Fin 2048, x (ix2 (i 0) k) * wg (ix4 (0 : Fin 2) (expert (rowBlock i)) k f))
    (∑ k : Fin 2048, x (ix2 (i 0) k) * wu (ix4 (0 : Fin 2) (expert (rowBlock i)) k f)) * wd (ix4 (0 : Fin 2) (expert (rowBlock i)) f (i 1))

/-- One element of what an active point computes. -/
theorem block_at (x : FVec Ideal S256x2048 .f32) (wg wu : FVec Ideal S1x1x2048x512 .f32) (wd : FVec Ideal S1x1x512x2048 .f32)
    (r : Fin 256) (l : Fin 2048) : k0_pay4 (F := Ideal) x (k0_pay1 (F := Ideal) wg) (k0_pay2 (F := Ideal) wu) (k0_pay3 (F := Ideal) wd) (ix2 r l)
      = ∑ f : Fin 512, Cert.Ffn.hidden (∑ k : Fin 2048, x (ix2 r k) * wg (ix4 (0 : Fin 1) (0 : Fin 1) k f))
          (∑ k : Fin 2048, x (ix2 r k) * wu (ix4 (0 : Fin 1) (0 : Fin 1) k f)) * wd (ix4 (0 : Fin 1) (0 : Fin 1) f l) := by
  pointwise [k0_pay4, k0_pay1, k0_pay2, k0_pay3]
  rfl

variable (T : Tables) (m : (ℓ : Loc nD τ sig) → Buf (Elt Ideal) ℓ) (ρ : Dev nD → PrngReg)

theorem row_lt (n : ℕ) : T.row n < 256 := by
  have h1 := T.count_pos; have h2 := T.count_le; unfold Tables.row; omega

theorem row_row (n : ℕ) : T.row (T.row n) = T.row n := by unfold Tables.row; omega

/-- The row block at the last active point up to `n`. -/
theorem rows_at (c : Dev nD) (n : ℕ) (r : Fin 256) (k : Fin 2048) :
    (iblk T m ρ c (0 : Fin 5) (last T n) : S256x2048.Idx → Elt Ideal .f32) (ix2 r k)
      = (m ((c : Thread nD τ).loc main_arg2) : S65536x2048.Idx → Elt Ideal .f32)
          (ix2 (⟨T.row n * 256 + r.val, by have := row_lt T n; omega⟩ : Fin 65536) k) := by
  have p := index0 T (last T n)
  rw [show (last T n).val = T.row n from rfl, row_row] at p
  unfold iblk
  rw [View.read_apply]
  show m ((c : Thread nD τ).loc main_arg2) _ = m ((c : Thread nD τ).loc main_arg2) _
  congr 1
  funext a
  apply Fin.ext
  match a with
  | ⟨0, _⟩ => show ((cfgA T).win (0 : Fin 5)).index (last T n) (0 : Fin 2) * 256 + 1 * r.val = T.row n * 256 + r.val; rw [p]; show T.row n * 256 + 1 * r.val = _; omega
  | ⟨1, _⟩ => show ((cfgA T).win (0 : Fin 5)).index (last T n) (1 : Fin 2) * 2048 + 1 * k.val = k.val; rw [p]; show 0 * 2048 + 1 * k.val = _; omega

/-- An element of the output's block at point `t`, in the array. -/
theorem place4 (t : Fin (cfgA T).N) (y : S256x2048.Idx) : ((((cfgA T).win (4 : Fin 5)).blk t).view.emb y : S65536x2048.Idx)
    = ix2 (⟨T.row t.val * 256 + (y 0).val, by have := row_lt T t.val; have h : (y 0).val < 256 := (y 0).isLt; omega⟩ : Fin 65536) (y 1 : Fin 2048) := by
  have p := index4 T t
  funext a
  apply Fin.ext
  match a with
  | ⟨0, _⟩ => show ((cfgA T).win (4 : Fin 5)).index t (0 : Fin 2) * 256 + 1 * (y 0).val = T.row t.val * 256 + (y 0).val; rw [p]; show T.row t.val * 256 + 1 * (y 0).val = _; omega
  | ⟨1, _⟩ => show ((cfgA T).win (4 : Fin 5)).index t (1 : Fin 2) * 2048 + 1 * (y 1).val = (y 1).val; rw [p]; show 0 * 2048 + 1 * (y 1).val = _; omega

/-- The formula at the arguments. -/
abbrev result (c : Dev nD) : S65536x2048.Idx → Elt Ideal .f32 :=
  formula T.expert (m ((c : Thread nD τ).loc main_arg2)) (m ((c : Thread nD τ).loc main_arg3)) (m ((c : Thread nD τ).loc main_arg4)) (m ((c : Thread nD τ).loc main_arg5))

/-- What a point leaves in the output's buffer is the block of the formula it stands at. -/
theorem out_at (c : Dev nD) (n : ℕ) (y : S256x2048.Idx) : outAfter T m ρ c n y
    = result T m c (ix2 (⟨T.row n * 256 + (y 0).val, by have := row_lt T n; have h : (y 0).val < 256 := (y 0).isLt; omega⟩ : Fin 65536) (y 1 : Fin 2048)) := by
  have h0 : (y 0).val < 256 := (y 0).isLt
  have hb : rowBlock (ix2 (⟨T.row n * 256 + (y 0).val, by have := row_lt T n; omega⟩ : Fin 65536) (y 1 : Fin 2048)) = blk T (last T n) :=
    Fin.ext (by show (T.row n * 256 + (y 0).val) / 256 = T.row n; omega)
  unfold outAfter gateAfter upAfter downAfter result formula
  rw [hb]
  refine (congrArg _ (eq_ix2 y)).trans ((block_at _ _ _ _ (y 0) (y 1)).trans ?_)
  refine Finset.sum_congr rfl fun f _ => congrArg₂ (· * ·) (congrArg₂ Cert.Ffn.hidden ?_ ?_) ?_
  · exact Finset.sum_congr rfl fun k _ => congrArg₂ (· * ·) (rows_at T m ρ c n (y 0) k) (gate_at T m ρ c (last T n) _)
  · exact Finset.sum_congr rfl fun k _ => congrArg₂ (· * ·) (rows_at T m ρ c n (y 0) k) (up_at T m ρ c (last T n) _)
  · exact down_at T m ρ c (last T n) _

/-- After the run every row of an active block holds the formula. -/
theorem final (c : Dev nD) (i : S65536x2048.Idx) (hi : (i 0).val < T.count * 256) :
    ((dats T m ρ 0 c).arrAt (4 : Fin 5) (cfgA T).N : S65536x2048.Idx → Elt Ideal .f32) i = result T m c i := by
  have h1 := T.count_pos
  have h2 := T.count_le
  have hr : (i 0).val < 65536 := (i 0).isLt
  have hG : ∀ t, ((cfgA T).win (4 : Fin 5)).flush t = true →
      (dats T m ρ 0 c).flushed (4 : Fin 5) t = (((cfgA T).win (4 : Fin 5)).blk t).view.read (Elt Ideal) (result T m c) := fun t _ => by
    funext (y : S256x2048.Idx)
    rw [View.read_apply]
    exact (out_at T m ρ c t.val y).trans (congrArg (result T m c) (place4 T t y)).symm
  obtain ⟨t, hf, ht⟩ : ∃ t : Fin (cfgA T).N, ((cfgA T).win (4 : Fin 5)).flush t = true ∧ T.row t.val = (i 0).val / 256 := by
    by_cases h : (i 0).val / 256 + 1 < T.count
    · refine ⟨⟨(i 0).val / 256, show (i 0).val / 256 < 256 by omega⟩, (flush4 T _).trans (decide_eq_true (Or.inr h)), ?_⟩
      unfold Tables.row; show min ((i 0).val / 256) _ = _; omega
    · refine ⟨⟨255, show 255 < 256 by omega⟩, (flush4 T _).trans (decide_eq_true (Or.inl rfl)), ?_⟩
      unfold Tables.row; show min 255 _ = _; omega
  have he : i = (((cfgA T).win (4 : Fin 5)).blk t).view.emb (ix2 (⟨(i 0).val % 256, by omega⟩ : Fin 256) (i 1 : Fin 2048) : S256x2048.Idx) := by
    refine Eq.trans ?_ (place4 T t _).symm
    funext a
    apply Fin.ext
    match a with
    | ⟨0, _⟩ => show (i 0).val = T.row t.val * 256 + (i 0).val % 256; rw [ht]; omega
    | ⟨1, _⟩ => rfl
  refine (dats T m ρ 0 c).arrAt_apply_of_mem (4 : Fin 5) (result T m c) hG (cfgA T).N t i t.isLt hf ?_
  rw [he]
  exact View.emb_mem_set _ _

/-- The run, read: the rows of the active blocks at the formula, the arguments unchanged. -/
theorem value (hp : Holds T m) :
    θ_run (defs (F := Ideal)) (onTc (τ := τ) (main (F := Ideal))) ⟨m, fun _ => 0, ρ⟩ (fun r => ∀ c : Dev nD,
      (∀ i : S65536x2048.Idx, (i 0).val < T.count * 256 → r.2.mem ((c.tc : Thread nD τ).loc main_v0) i = result T m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun i hi => (congrFun ((h.1 c).1 (4 : Fin 5)) i).trans (final T m ρ c i hi), h.2 c⟩)
    (θ_run_and (run_main T m ρ hp) (unchanged T m ρ hp))

end Cert.KernelIdeal.Experts

end
-- ==== Proof.Experts.Gather.lean ====
/- Rows of a table of matrices: `table[idx]` over the first axis of a three-dimensional table, read at one element. -/
module

public import Idealize.ShloMosaic.Lib.StableHlo
public import Idealize.ShloMosaic.Lib.ValueIdx
public import Idealize.ShloMosaic.Lib.Pointwise

@[expose] public section

namespace Cert.Gather

open Idealize.ShloMosaic

variable {nb A B n : ℕ}

abbrev Sh3 (a b c : ℕ) : Shape := ⟨3, ![a, b, c]⟩
abbrev Sh2 (a b : ℕ) : Shape := ⟨2, ![a, b]⟩

/-- Where `idx` holds the number `b` of a matrix of the table, the result holds that matrix. -/
theorem matrix {α : Type} (d : GatherDims (Sh3 nb A B) (Sh2 n 1) (Sh3 n A B)) (hoff : d.offsetDims = [1, 2])
    (hcoll : d.collapsedSliceDims = [0]) (hob : d.operandBatchingDims = []) (hsim : d.startIndexMap = [0]) (hivd : d.indexVectorDim = 1)
    (x : (Sh3 nb A B).Idx → α) (idx : IVec (Sh2 n 1) 32) (c : Fin n) (k : Fin A) (l : Fin B) (b : Fin nb)
    (hb : (idx (ix2 c (0 : Fin 1))).toNat = b.val) (hnb : nb < 2 ^ 31) : Host.gather d x idx (ix3 c k l) = x (ix3 b k l) := by
  have hbl := b.isLt
  have hss : d.sliceSizes 0 = 1 := d.slice_collapsed 0 (by rw [hcoll]; exact List.mem_singleton.2 rfl)
  obtain ⟨off, coll, ob, sib, sim, ivd, ss, wf⟩ := d
  subst hoff hcoll hob hsim hivd
  unfold Host.gather
  refine congrArg x (funext fun a => Fin.ext ?_)
  match a with
  | ⟨0, _⟩ =>
    show GatherDims.start _ (ix3 c k l) idx 0 + GatherDims.batchCoord _ (ix3 c k l) 0 + GatherDims.offCoord _ (ix3 c k l) 0 = b.val
    rw [GatherDims.batchCoord_eq_zero _ _ _ (by simp), GatherDims.offCoord_eq_zero _ _ _ (fun h => by have := ((GatherDims.mem_sKept _ _).1 h).1; simp at this)]
    unfold GatherDims.start
    rw [dif_pos (by simp)]
    have hsi : ∀ h, GatherDims.siIdx (⟨[1, 2], [0], [], sib, [0], 1, ss, wf⟩ : GatherDims (Sh3 nb A B) (Sh2 n 1) (Sh3 n A B)) (ix3 c k l) ⟨0, h⟩
        = ix2 c (0 : Fin 1) := fun h => by
      funext q
      apply Fin.ext
      match q with
      | ⟨0, _⟩ => rfl
      | ⟨1, _⟩ => rfl
    refine Eq.trans (b := min (idx (ix2 c (0 : Fin 1))).toInt.toNat (nb - ss 0))
      (congrArg (fun q => min (idx q).toInt.toNat (nb - ss 0)) (hsi (by simp))) ?_
    rw [BitVec.toInt_eq_toNat_of_lt (by omega), hb, show ss 0 = 1 from hss]
    show min ((b.val : ℤ)).toNat (nb - 1) = b.val
    omega
  | ⟨1, _⟩ =>
    show GatherDims.start _ (ix3 c k l) idx 1 + GatherDims.batchCoord _ (ix3 c k l) 1 + GatherDims.offCoord _ (ix3 c k l) 1 = k.val
    rw [GatherDims.batchCoord_eq_zero _ _ _ (by simp)]
    unfold GatherDims.start
    rw [dif_neg (by simp), Nat.zero_add]
    rfl
  | ⟨2, _⟩ =>
    show GatherDims.start _ (ix3 c k l) idx 2 + GatherDims.batchCoord _ (ix3 c k l) 2 + GatherDims.offCoord _ (ix3 c k l) 2 = l.val
    rw [GatherDims.batchCoord_eq_zero _ _ _ (by simp)]
    unfold GatherDims.start
    rw [dif_neg (by simp), Nat.zero_add]
    rfl

end Cert.Gather
-- ==== Proof.Experts.Host.lean ====
/- The experts' reference, read as the formula. -/
module

public import proofs.«01_k».proof.Proof.Experts.Value
public import proofs.«01_k».proof.Proof.Experts.Gather
public import proofs.«01_k».proof.Proof.Gen.ReferenceIdeal.Read
public import Idealize.ShloMosaic.Lib.Routing.OpsPair
public import Idealize.ShloMosaic.Lib.IdealHost

@[expose] public section

set_option maxRecDepth 16384

noncomputable section

namespace Cert.KernelIdeal.Experts.Host

open Cert.ReferenceIdeal Cert.ReferenceIdeal.Gen Cert.ReferenceIdeal.Read
open Idealize.ShloMosaic

variable (e : IVec S256 32) (expert : Fin 256 → Fin 64) (he : ∀ b, (e (ix1 b)).toNat = (expert b).val)
include he

/-- The index the gate weights are taken at: an expert's number is not negative, so it stays. -/
theorem gate_index (b : Fin 256) : (val_main_v8 (F := Ideal) e (ix2 b (0 : Fin 1))).toNat = (expert b).val := by
  have hx := (expert b).isLt
  rw [val_main_v8_apply, val_main_v7_apply, val_main_v4_apply, val_main_v3_apply, val_main_c_apply,
    Routing.wrap_of_lt _ _ (by rw [show idx_main_v8 (ix2 b (0 : Fin 1)) = ix1 b from funext fun a => by match a with | ⟨0, _⟩ => rfl]; rw [he]; omega)]
  rw [show idx_main_v8 (ix2 b (0 : Fin 1)) = ix1 b from funext fun a => by match a with | ⟨0, _⟩ => rfl]
  exact he b

/-- The index the up weights are taken at. -/
theorem up_index (b : Fin 256) : (val_main_v17 (F := Ideal) e (ix2 b (0 : Fin 1))).toNat = (expert b).val :=
  gate_index e expert he b

/-- The index the down weights are taken at. -/
theorem down_index (b : Fin 256) : (val_main_v26 (F := Ideal) e (ix2 b (0 : Fin 1))).toNat = (expert b).val :=
  gate_index e expert he b

/-- A block's gate weights. -/
theorem gate_at (wg : FVec Ideal S2x64x2048x512 .f32) (b : Fin 256) (k : Fin 2048) (f : Fin 512) :
    val_main_v9 (F := Ideal) e wg (ix3 b k f) = wg (ix4 (0 : Fin 2) (expert b) k f) := by
  have hx := (expert b).isLt
  unfold val_main_v9
  rw [Cert.Gather.matrix _ rfl rfl rfl rfl rfl _ _ b k f (expert b) (gate_index e expert he b) (by norm_num), val_main_v2_apply, val_main_v1_apply]
  congr 1
  funext a
  apply Fin.ext
  match a with
  | ⟨0, _⟩ => rfl
  | ⟨1, _⟩ => show (((expert b).val * 2048 + k.val) * 512 + f.val) / 1048576 % 64 = (expert b).val; omega
  | ⟨2, _⟩ => show (((expert b).val * 2048 + k.val) * 512 + f.val) / 512 % 2048 = k.val; omega
  | ⟨3, _⟩ => show (((expert b).val * 2048 + k.val) * 512 + f.val) % 512 = f.val; omega

/-- A block's up weights. -/
theorem up_at (wu : FVec Ideal S2x64x2048x512 .f32) (b : Fin 256) (k : Fin 2048) (f : Fin 512) :
    val_main_v18 (F := Ideal) e wu (ix3 b k f) = wu (ix4 (0 : Fin 2) (expert b) k f) :=
  gate_at e expert he wu b k f

/-- A block's down weights. -/
theorem down_at (wd : FVec Ideal S2x64x512x2048 .f32) (b : Fin 256) (f : Fin 512) (l : Fin 2048) :
    val_main_v27 (F := Ideal) e wd (ix3 b f l) = wd (ix4 (0 : Fin 2) (expert b) f l) := by
  have hx := (expert b).isLt
  unfold val_main_v27
  rw [Cert.Gather.matrix _ rfl rfl rfl rfl rfl _ _ b f l (expert b) (down_index e expert he b) (by norm_num), val_main_v20_apply, val_main_v19_apply]
  congr 1
  funext a
  apply Fin.ext
  match a with
  | ⟨0, _⟩ => rfl
  | ⟨1, _⟩ => show (((expert b).val * 512 + f.val) * 2048 + l.val) / 1048576 % 64 = (expert b).val; omega
  | ⟨2, _⟩ => show (((expert b).val * 512 + f.val) * 2048 + l.val) / 2048 % 512 = f.val; omega
  | ⟨3, _⟩ => show (((expert b).val * 512 + f.val) * 2048 + l.val) % 2048 = l.val; omega

/-- A row of a block. -/
theorem row_at (x : FVec Ideal S65536x2048 .f32) (i : S65536x2048.Idx) (k : Fin 2048) :
    val_main_v0 (F := Ideal) x (ix3 (rowBlock i) (⟨(i 0).val % 256, by omega⟩ : Fin 256) k) = x (ix2 (i 0) k) := by
  have h0 : (i 0).val < 65536 := (i 0).isLt
  rw [val_main_v0_apply]
  congr 1
  funext a
  apply Fin.ext
  match a with
  | ⟨0, _⟩ => show (((i 0).val / 256 * 256 + (i 0).val % 256) * 2048 + k.val) / 2048 = (i 0).val; omega
  | ⟨1, _⟩ => show (((i 0).val / 256 * 256 + (i 0).val % 256) * 2048 + k.val) % 2048 = k.val; omega

/-- The reference is the formula. -/
theorem reads (x : FVec Ideal S65536x2048 .f32) (wg wu : FVec Ideal S2x64x2048x512 .f32) (wd : FVec Ideal S2x64x512x2048 .f32) :
    val_main_v33 (F := Ideal) e x wg wu wd = formula expert x wg wu wd := by
  funext (i : S65536x2048.Idx)
  have h0 : (i 0).val < 65536 := (i 0).isLt
  have h1 : (i 1).val < 2048 := (i 1).isLt
  obtain ⟨c, hc⟩ : ∃ c : Fin 2048, c = i 1 := ⟨i 1, rfl⟩
  obtain ⟨r, hr⟩ : ∃ r : Fin 256, r = ⟨(i 0).val % 256, by omega⟩ := ⟨_, rfl⟩
  have hi : idx_main_v33 i = ix3 (rowBlock i) r c := by
    rw [hr, hc]
    funext a
    apply Fin.ext
    match a with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => show ((i 0).val * 2048 + (i 1).val) % 2048 = (i 1).val; omega
  rw [val_main_v33_apply, hi, val_main_v32_apply]
  unfold formula
  rw [← hc]
  have hrow : ∀ k : Fin 2048, val_main_v0 (F := Ideal) x (ix3 (rowBlock i) r k) = x (ix2 (i 0) k) := fun k => by
    rw [hr]; exact row_at e expert he x i k
  refine Finset.sum_congr rfl fun f _ => ?_
  have el : lidx_main_v32 (ix3 (rowBlock i) r c) f = ix3 (rowBlock i) r f :=
    funext fun b => by match b with | ⟨0, _⟩ => rfl | ⟨1, _⟩ => rfl | ⟨2, _⟩ => rfl
  have er : ridx_main_v32 (ix3 (rowBlock i) r c) f = ix3 (rowBlock i) f c :=
    funext fun b => by match b with | ⟨0, _⟩ => rfl | ⟨1, _⟩ => rfl | ⟨2, _⟩ => rfl
  rw [el, er, down_at e expert he]
  refine congrArg₂ (· * ·) ?_ rfl
  have lg : ∀ k : Fin 2048, lidx_main_v28 (ix3 (rowBlock i) r f) k = ix3 (rowBlock i) r k :=
    fun k => funext fun b => by match b with | ⟨0, _⟩ => rfl | ⟨1, _⟩ => rfl | ⟨2, _⟩ => rfl
  have rg : ∀ k : Fin 2048, ridx_main_v28 (ix3 (rowBlock i) r f) k = ix3 (rowBlock i) k f :=
    fun k => funext fun b => by match b with | ⟨0, _⟩ => rfl | ⟨1, _⟩ => rfl | ⟨2, _⟩ => rfl
  have lu : ∀ k : Fin 2048, lidx_main_v30 (ix3 (rowBlock i) r f) k = ix3 (rowBlock i) r k :=
    fun k => funext fun b => by match b with | ⟨0, _⟩ => rfl | ⟨1, _⟩ => rfl | ⟨2, _⟩ => rfl
  have ru : ∀ k : Fin 2048, ridx_main_v30 (ix3 (rowBlock i) r f) k = ix3 (rowBlock i) k f :=
    fun k => funext fun b => by match b with | ⟨0, _⟩ => rfl | ⟨1, _⟩ => rfl | ⟨2, _⟩ => rfl
  rw [val_main_v31_apply, val_main_v30_apply, val_main_v29_apply, val_main_call0_v5_apply, val_main_call0_v4_apply, val_main_call0_cst_0_apply,
    val_main_call0_v3_apply, val_main_call0_v2_apply, val_main_call0_cst_apply, val_main_call0_v1_apply, val_main_call0_v0_apply, val_main_v28_apply]
  simp only [lg, rg, lu, ru, hrow, gate_at e expert he, up_at e expert he]
  show (_ : EReal) * Ideal.div (Ideal.ofBits .f32 1065353216#32) (Ideal.ofBits .f32 1065353216#32 + Ideal.exp (-_)) * _ = _
  rw [Ideal.ofBits_one_f32]
  rfl

end Cert.KernelIdeal.Experts.Host

end
-- ==== Proof.Experts.Ranges.lean ====
/- The experts' call: what its precondition says of the tables, and which rows its mask names. -/
module

public import proofs.«01_k».proof.Proof.Gen.Pre_in_range
public import proofs.«01_k».proof.Proof.Gen.On_active_rows
public import proofs.«01_k».proof.Pre_in_range
public import proofs.«01_k».proof.On_active_rows
public import Idealize.ShloMosaic.Lib.ReduceAll
public import Idealize.ShloMosaic.Lib.ValueIdx
public import Idealize.ShloMosaic.Lib.StableHlo
public import Idealize.ShloMosaic.Lib.Pointwise

@[expose] public section

noncomputable section

namespace Cert.ExpertsRanges

open Idealize.ShloMosaic

variable {F : FTy → Type} [FloatOps F]

theorem and_ones (a b : BitVec 1) : a &&& b = 1#1 → a = 1#1 ∧ b = 1#1 := by revert a b; decide

theorem ofBool_one (b : Bool) : BitVec.ofBool b = 1#1 → b = true := by cases b <;> decide

/-- A word at least zero and below 64, both signed, is below 64. -/
theorem lt_64 (x : BitVec 32) (h0 : IntOp.cmpi .sge x 0#32 = 1#1) (h1 : IntOp.cmpi .slt x 64#32 = 1#1) : x.toNat < 64 := by
  have a : (0#32).sle x = true := ofBool_one _ h0
  have b : x.slt 64#32 = true := ofBool_one _ h1
  rw [BitVec.sle_iff_toInt_le] at a
  rw [BitVec.slt_iff_toInt_lt] at b
  rw [show (0#32 : BitVec 32).toInt = 0 by decide] at a
  have e : x.toInt = x.toNat := by
    rw [BitVec.toInt_eq_toNat_cond] at a ⊢
    split at a
    · rename_i h; rw [if_pos h]
    · have := x.isLt; omega
  rw [e] at b
  have : (64#32 : BitVec 32).toInt = 64 := by decide
  omega

/-- A word from 1 to 256, both signed. -/
theorem in_1_256 (x : BitVec 32) (h0 : IntOp.cmpi .sge x 1#32 = 1#1) (h1 : IntOp.cmpi .sle x 256#32 = 1#1) : 1 ≤ x.toNat ∧ x.toNat ≤ 256 := by
  have a : (1#32).sle x = true := ofBool_one _ h0
  have b : x.sle 256#32 = true := ofBool_one _ h1
  rw [BitVec.sle_iff_toInt_le] at a b
  have e1 : (1#32 : BitVec 32).toInt = 1 := by decide
  have e2 : (256#32 : BitVec 32).toInt = 256 := by decide
  rw [e1] at a
  rw [e2] at b
  have e : x.toInt = x.toNat := by
    rw [BitVec.toInt_eq_toNat_cond] at a ⊢
    split at a
    · rename_i h; rw [if_pos h]
    · have := x.isLt; omega
  omega

instance : Subsingleton (⟨0, ![]⟩ : Shape).Idx := ⟨fun a b => funext fun k => k.elim0⟩

/-- What the precondition says. -/
theorem decode (e : IVec Cert.Pre_in_range.S256 32) (n : IVec Cert.Pre_in_range.S1 32) (x wg wu wd)
    (h : Cert.Pre_in_range.fn (F := F) e n x wg wu wd = fun _ => 1#1) :
    (∀ j, (e j).toNat < 64) ∧ 1 ≤ (n (ix1 0)).toNat ∧ (n (ix1 0)).toNat ≤ 256 := by
  have h' := congrFun h (fun k => k.elim0)
  obtain ⟨ha, hb⟩ := and_ones _ _ h'
  obtain ⟨hc, hd⟩ := and_ones _ _ hb
  refine ⟨fun j => ?_, ?_⟩
  · have hj := Host.reduce_andi_all _ _ _ _ _ ha j
    obtain ⟨p, q⟩ := and_ones _ _ hj
    exact lt_64 _ p q
  · have hs : ∀ k, shapeCast Cert.Pre_in_range.S_ n Cert.Pre_in_range.Facts.shapeCasts_S1_S_ k = n (ix1 0) := fun k =>
      shapeCast_apply n _ k (ix1 0) rfl
    exact in_1_256 _ ((congrArg (fun v => IntOp.cmpi .sge v 1#32) (hs _)).symm.trans hc) ((congrArg (fun v => IntOp.cmpi .sle v 256#32) (hs _)).symm.trans hd)

/-- The rows the mask names lie in active blocks. -/
theorem active (e : IVec Cert.On_active_rows.S256 32) (n : IVec Cert.On_active_rows.S1 32) (x wg wu wd) (hn : (n (ix1 0)).toNat ≤ 256)
    (i : Cert.On_active_rows.S65536x2048.Idx) (h : Cert.On_active_rows.fn (F := F) e n x wg wu wd i = 1#1) :
    (i 0).val < (n (ix1 0)).toNat * 256 := by
  have hi : (i 0).val < 65536 := (i 0).isLt
  have hs : ∀ k, shapeCast Cert.On_active_rows.S_ n Cert.On_active_rows.Facts.shapeCasts_S1_S_ k = n (ix1 0) := fun k =>
    shapeCast_apply n _ k (ix1 0) rfl
  have h2 : IntOp.cmpi .slt (BitVec.ofNat 32 (i 0).val) (n (ix1 0) * 256#32) = 1#1 :=
    (congrArg (fun v => IntOp.cmpi .slt (BitVec.ofNat 32 (i 0).val) (v * 256#32)) (hs _)).symm.trans h
  have h3 : (BitVec.ofNat 32 (i 0).val).slt (n (ix1 0) * 256#32) = true := ofBool_one _ h2
  have e1 : (n (ix1 0) * 256#32).toNat = (n (ix1 0)).toNat * 256 := by
    rw [BitVec.toNat_mul]
    show (n (ix1 0)).toNat * 256 % 4294967296 = _
    omega
  have e2 : (BitVec.ofNat 32 (i 0).val).toNat = (i 0).val := by rw [BitVec.toNat_ofNat]; omega
  rw [BitVec.slt_iff_toInt_lt, BitVec.toInt_eq_toNat_of_lt (by rw [e2]; omega), BitVec.toInt_eq_toNat_of_lt (by rw [e1]; omega), e1, e2] at h3
  omega

end Cert.ExpertsRanges

end
-- ==== Proof.ExpertsBits.Runs.lean ====
/- The routed experts' call: the body at one grid point, in the three cases its two conditions leave. An active block whose
   expert is new rounds the expert's weights into the scratches and multiplies by them; an active block whose expert is the
   one before's multiplies by what the scratches hold; a block that is not active touches nothing. -/
module

public import proofs.«01_k».proof.Proof.Gen.Kernel.Skeleton
public import proofs.«01_k».proof.Proof.ExpertsBits.Tables

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Bits) ℕ (UR sig nD τ) ℕ

/-- The scratches, whole. -/
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The words a point reads of the tables: the number of active blocks, its block's expert, the expert of the block before. -/
abbrev nWord (T1 : S1.Idx → Elt Bits .i32) : BitVec 32 :=
  View.readAt (Elt Bits) tb1.view (Rect.unit (s := S1) ![0] S1.size inb_S1_S1_0).toLoadRect T1 (Shape.Idx.first (numel1_S1.symm ▸ Nat.one_pos))
abbrev eWord (i : grid0.Coords) (T0 : S256.Idx → Elt Bits .i32) : BitVec 32 :=
  View.readAt (Elt Bits) tb0.view (Rect.unit (s := S256) (k0_off1 i) S1.size (k0_off1_inb i)).toLoadRect T0 (Shape.Idx.first (numel1_S1.symm ▸ Nat.one_pos))
abbrev pWord (i : grid0.Coords) (T0 : S256.Idx → Elt Bits .i32) : BitVec 32 :=
  View.readAt (Elt Bits) tb0.view (Rect.unit (s := S256) (k0_off2 i) S1.size (k0_off2_inb i)).toLoadRect T0 (Shape.Idx.first (numel1_S1.symm ▸ Nat.one_pos))

/-- The body at a point, on its buffers. -/
abbrev bodyOn (i : grid0.Coords) (arg3 : Memref sig .tc .vmem S256x2048 .f32) (harg3 : arg3.IsWhole) (arg4 : Memref sig .tc .vmem S1x1x2048x512 .f32) (harg4 : arg4.IsWhole)
    (arg5 : Memref sig .tc .vmem S1x1x2048x512 .f32) (harg5 : arg5.IsWhole) (arg6 : Memref sig .tc .vmem S1x1x512x2048 .f32) (harg6 : arg6.IsWhole)
    (arg7 : Memref sig .tc .vmem S256x2048 .f32) (harg7 : arg7.IsWhole) : Prog (TpuEff nD τ sig (Elt Bits) Λ₀ .tc) PUnit :=
  cc0_moe_experts i tb0 (Memref.isWhole_whole _) tb1 (Memref.isWhole_whole _) arg3 harg3 arg4 harg4 arg5 harg5 arg6 harg6 arg7 harg7
    sc0 (Memref.isWhole_whole _) sc1 (Memref.isWhole_whole _) sc2 (Memref.isWhole_whole _)

set_option backward.proofsInPublic true in
set_option maxHeartbeats 8000000 in
/-- An active block of a new expert: the pieces it stores in the output's buffer and what it leaves in the scratches, found by
    running the body. -/
noncomputable def runLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) :
    Σ' (out0 : List (View.Piece (Elt Bits) S256x2048 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out0)
              ∗ (sc0.view.loc (c : Thread nD τ) ↦{fullShare} out1)
              ∗ (sc1.view.loc (c : Thread nD τ) ↦{fullShare} out2)
              ∗ (sc2.view.loc (c : Thread nD τ) ↦{fullShare} out3)) -∗ K ⟨⟩))
          ⊢ wp frame (wpE (defs₀ (F := Bits)) Variants.none c none) Set.univ (bodyOn i arg3 harg3 arg4 harg4 arg5 harg5 arg6 harg6 arg7 harg7) K } :=
  ⟨_, _, _, _, fun xa0 xa1 xa2 K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = Scalar.cmpi = _; exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An active block of the expert before: the pieces it stores in the output's buffer; the scratches keep what they hold. -/
noncomputable def runKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) :
    { out0 : List (View.Piece (Elt Bits) S256x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out0)
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Bits)) Variants.none c none) Set.univ (bodyOn i arg3 harg3 arg4 harg4 arg5 harg5 arg6 harg6 arg7 harg7) K } :=
  ⟨_, fun K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A block that is not active: every buffer keeps what it holds. -/
theorem runSkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (y4 : S256x2048.Idx → Elt Bits .f32)
    (hl : ¬ loadWord i (nWord T1) (eWord i T0) (pWord i T0) = 1#1) (ha : ¬ k0_cond2 i (nWord T1) = 1#1) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ owns (c : Thread nD τ) arg7 fullShare y4
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Bits)) Variants.none c none) Set.univ (bodyOn i arg3 harg3 arg4 harg4 arg5 harg5 arg6 harg6 arg7 harg7) K := by
    unfold owns bodyOn
    rw [cc0_moe_experts_eq_skeleton]; unfold cc0_moe_experts_skel
    iintro ⟨H0, H1, H2, H3, HT0, HT1, ⟨%f4, %hf4, HO4⟩, HS0, HS1, HS2, Hk⟩
    obtain rfl := harg7.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = ¬(k0_cond2 _ _ = _); exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    iexact HS2

end Cert.Kernel.Experts

end
-- ==== Proof.ExpertsBits.Body.lean ====
/- The routed experts' call: what the body's runs leave, as values — the feed-forward of the row block in the output's buffer, the
   rounded weights in the scratches — and the body's triples at those values. -/
module

public import proofs.«01_k».proof.Proof.ExpertsBits.Runs

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Bits) ℕ (UR sig nD τ) ℕ

/-! ## What the runs leave -/

/-- The output's buffer, through which stored pieces are read back. -/
abbrev VO : View sig .tc .vmem S256x2048 .f32 := (Memref.whole cc0_stg4_0 : Memref sig .tc .vmem S256x2048 .f32).view

theorem hz : (![0, 0] : Fin 2 → Nat) = fun _ => 0 := funext fun a => by fin_cases a <;> rfl
theorem hz4 : (![0, 0, 0, 0] : Fin 4 → Nat) = fun _ => 0 := funext fun a => by fin_cases a <;> rfl

/-- A scratch read whole is its contents, -/
theorem read0 (f : S2048x512.Idx → Elt Bits .bf16) : View.read (Elt Bits) (View.whole cc0_scratch0) f = f := rfl
theorem read1 (f : S2048x512.Idx → Elt Bits .bf16) : View.read (Elt Bits) (View.whole cc0_scratch1) f = f := rfl
theorem read2 (f : S512x2048.Idx → Elt Bits .bf16) : View.read (Elt Bits) (View.whole cc0_scratch2) f = f := rfl

/-- … and stored whole it holds what was stored. -/
theorem stored0 (w : S2048x512.Idx → Elt Bits .bf16) (inb : ∀ a, (![0, 0] : Fin 2 → Nat) a + S2048x512.size a ≤ S2048x512.size a) :
    (View.whole cc0_scratch0).writes (Elt Bits) (View.whole cc0_scratch0).junk [(⟨Rect.unit (s := S2048x512) ![0, 0] S2048x512.size inb, w⟩ : View.Piece (Elt Bits) S2048x512 .bf16)] = w :=
  (read0 _).symm.trans ((View.read_writes_eq_canon _ _ _ (View.cover_of_tiledL [(⟨Rect.unit (s := S2048x512) ![0, 0] S2048x512.size inb, w⟩ : View.Piece (Elt Bits) S2048x512 .bf16)] S2048x512.size (by sl_kernel_rfl))).trans
    (View.canon_unit_zero hz inb w))

theorem stored1 (w : S2048x512.Idx → Elt Bits .bf16) (inb : ∀ a, (![0, 0] : Fin 2 → Nat) a + S2048x512.size a ≤ S2048x512.size a) :
    (View.whole cc0_scratch1).writes (Elt Bits) (View.whole cc0_scratch1).junk [(⟨Rect.unit (s := S2048x512) ![0, 0] S2048x512.size inb, w⟩ : View.Piece (Elt Bits) S2048x512 .bf16)] = w :=
  (read1 _).symm.trans ((View.read_writes_eq_canon _ _ _ (View.cover_of_tiledL [(⟨Rect.unit (s := S2048x512) ![0, 0] S2048x512.size inb, w⟩ : View.Piece (Elt Bits) S2048x512 .bf16)] S2048x512.size (by sl_kernel_rfl))).trans
    (View.canon_unit_zero hz inb w))

theorem stored2 (w : S512x2048.Idx → Elt Bits .bf16) (inb : ∀ a, (![0, 0] : Fin 2 → Nat) a + S512x2048.size a ≤ S512x2048.size a) :
    (View.whole cc0_scratch2).writes (Elt Bits) (View.whole cc0_scratch2).junk [(⟨Rect.unit (s := S512x2048) ![0, 0] S512x2048.size inb, w⟩ : View.Piece (Elt Bits) S512x2048 .bf16)] = w :=
  (read2 _).symm.trans ((View.read_writes_eq_canon _ _ _ (View.cover_of_tiledL [(⟨Rect.unit (s := S512x2048) ![0, 0] S512x2048.size inb, w⟩ : View.Piece (Elt Bits) S512x2048 .bf16)] S512x2048.size (by sl_kernel_rfl))).trans
    (View.canon_unit_zero hz inb w))

theorem coverLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) (y : S256x2048.Idx) :
    ∃ pc ∈ (runLoad c i arg3 harg3 arg4 harg4 arg5 harg5 arg6 harg6 arg7 harg7 T0 T1 x0 x1 x2 x3 hl ha).1, y ∈ pc.1.set :=
  View.cover_of_tiledL (runLoad c i arg3 harg3 arg4 harg4 arg5 harg5 arg6 harg6 arg7 harg7 T0 T1 x0 x1 x2 x3 hl ha).1 S256x2048.size (by sl_kernel_rfl) y

theorem coverKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) (y : S256x2048.Idx) :
    ∃ pc ∈ (runKeep c i arg3 harg3 arg4 harg4 arg5 harg5 arg6 harg6 arg7 harg7 T0 T1 x0 x1 x2 x3 xa0 xa1 xa2 hl ha).1, y ∈ pc.1.set :=
  View.cover_of_tiledL (runKeep c i arg3 harg3 arg4 harg4 arg5 harg5 arg6 harg6 arg7 harg7 T0 T1 x0 x1 x2 x3 xa0 xa1 xa2 hl ha).1 S256x2048.size (by sl_kernel_rfl) y

theorem outLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) :
    VO.read (Elt Bits) (VO.writes (Elt Bits) VO.junk (runLoad c i arg3 harg3 arg4 harg4 arg5 harg5 arg6 harg6 arg7 harg7 T0 T1 x0 x1 x2 x3 hl ha).1) = k0_pay4 x0 (k0_pay1 x1) (k0_pay2 x2) (k0_pay3 x3) := by
  rw [View.read_writes_eq_canon _ _ _ (coverLoad c i arg3 harg3 arg4 harg4 arg5 harg5 arg6 harg6 arg7 harg7 T0 T1 x0 x1 x2 x3 hl ha)]
  unfold runLoad
  dsimp only
  sl_unfold_words
  rw [View.canon_unit_zero hz]
  simp only [View.readAt_eq_ld, View.read_rep,
    View.readCov_unit_zero (S := S2048x512) _ hz, View.readCov_unit_zero (S := S512x2048) _ hz,
    View.ld_unit_zero (S := S2048x512) hz, View.ld_unit_zero (S := S512x2048) hz, View.ld_unit_zero (S := S256x2048) hz,
    View.ld_unit_zero (S := S1x1x2048x512) hz4, View.ld_unit_zero (S := S1x1x512x2048) hz4]

theorem outKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) :
    VO.read (Elt Bits) (VO.writes (Elt Bits) VO.junk (runKeep c i arg3 harg3 arg4 harg4 arg5 harg5 arg6 harg6 arg7 harg7 T0 T1 x0 x1 x2 x3 xa0 xa1 xa2 hl ha).1) = k0_pay4 x0 xa0 xa1 xa2 := by
  rw [View.read_writes_eq_canon _ _ _ (coverKeep c i arg3 harg3 arg4 harg4 arg5 harg5 arg6 harg6 arg7 harg7 T0 T1 x0 x1 x2 x3 xa0 xa1 xa2 hl ha)]
  unfold runKeep
  dsimp only
  sl_unfold_words
  rw [View.canon_unit_zero hz]
  simp only [View.readAt_eq_ld, View.read_rep,
    View.ld_unit_zero (S := S2048x512) hz, View.ld_unit_zero (S := S512x2048) hz, View.ld_unit_zero (S := S256x2048) hz]
  rw [read0, read1, read2]

theorem gateLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.1 = k0_pay1 x1 := by
  unfold runLoad
  dsimp only
  sl_unfold_words
  simp only [View.readAt_eq_ld, View.read_rep, View.ld_unit_zero (S := S1x1x2048x512) hz4]
  rw [stored0]

theorem upLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.1 = k0_pay2 x2 := by
  unfold runLoad
  dsimp only
  sl_unfold_words
  simp only [View.readAt_eq_ld, View.read_rep, View.ld_unit_zero (S := S1x1x2048x512) hz4]
  rw [stored1]

theorem downLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.2.1 = k0_pay3 x3 := by
  unfold runLoad
  dsimp only
  sl_unfold_words
  simp only [View.readAt_eq_ld, View.read_rep, View.ld_unit_zero (S := S1x1x512x2048) hz4]
  rw [stored2]

end Cert.Kernel.Experts

end
-- ==== Proof.ExpertsBits.Triples.lean ====
/- The routed experts' call: the body's triple at one grid point, in each of its three cases. -/
module

public import proofs.«01_k».proof.Proof.ExpertsBits.Body

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Bits) ℕ (UR sig nD τ) ℕ

/-! ## The body's triples -/

set_option maxHeartbeats 4000000 in
/-- An active block of a new expert. -/
theorem bodyLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (∃ a : Buf (Elt Bits) ((c : Thread nD τ).loc cc0_scratch0), sc0.view.loc (c : Thread nD τ) ↦{fullShare} a)
      ∗ (∃ a : Buf (Elt Bits) ((c : Thread nD τ).loc cc0_scratch1), sc1.view.loc (c : Thread nD τ) ↦{fullShare} a)
      ∗ (∃ a : Buf (Elt Bits) ((c : Thread nD τ).loc cc0_scratch2), sc2.view.loc (c : Thread nD τ) ↦{fullShare} a)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 (k0_pay1 x1) (k0_pay2 x2) (k0_pay3 x3))
          ∗ (sc0.view.loc (c : Thread nD τ) ↦{fullShare} k0_pay1 x1)
          ∗ (sc1.view.loc (c : Thread nD τ) ↦{fullShare} k0_pay2 x2)
          ∗ (sc2.view.loc (c : Thread nD τ) ↦{fullShare} k0_pay3 x3)) -∗ K ⟨⟩))
      ⊢ wp frame (wpE (defs₀ (F := Bits)) Variants.none c none) Set.univ (bodyOn i arg3 harg3 arg4 harg4 arg5 harg5 arg6 harg6 arg7 harg7) K := by
  have hg := gateLoad c i arg3 harg3 arg4 harg4 arg5 harg5 arg6 harg6 arg7 harg7 T0 T1 x0 x1 x2 x3 hl ha
  have hu := upLoad c i arg3 harg3 arg4 harg4 arg5 harg5 arg6 harg6 arg7 harg7 T0 T1 x0 x1 x2 x3 hl ha
  have hd := downLoad c i arg3 harg3 arg4 harg4 arg5 harg5 arg6 harg6 arg7 harg7 T0 T1 x0 x1 x2 x3 hl ha
  have ho := outLoad c i arg3 harg3 arg4 harg4 arg5 harg5 arg6 harg6 arg7 harg7 T0 T1 x0 x1 x2 x3 hl ha
  have hv := coverLoad c i arg3 harg3 arg4 harg4 arg5 harg5 arg6 harg6 arg7 harg7 T0 T1 x0 x1 x2 x3 hl ha
  generalize runLoad c i arg3 harg3 arg4 harg4 arg5 harg5 arg6 harg6 arg7 harg7 T0 T1 x0 x1 x2 x3 hl ha = r at hg hu hd ho hv
  obtain ⟨o0, o1, o2, o3, run⟩ := r
  dsimp only at hg hu hd ho hv
  subst hg hu hd
  iintro ⟨H0, H1, H2, H3, HT0, HT1, H4, ⟨%a0, HS0⟩, ⟨%a1, HS1⟩, ⟨%a2, HS2⟩, Hk⟩
  iapply (run a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- An active block of the expert before. -/
theorem bodyKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 xa0 xa1 xa2)
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Bits)) Variants.none c none) Set.univ (bodyOn i arg3 harg3 arg4 harg4 arg5 harg5 arg6 harg6 arg7 harg7) K := by
  have ho := outKeep c i arg3 harg3 arg4 harg4 arg5 harg5 arg6 harg6 arg7 harg7 T0 T1 x0 x1 x2 x3 xa0 xa1 xa2 hl ha
  have hv := coverKeep c i arg3 harg3 arg4 harg4 arg5 harg5 arg6 harg6 arg7 harg7 T0 T1 x0 x1 x2 x3 xa0 xa1 xa2 hl ha
  generalize runKeep c i arg3 harg3 arg4 harg4 arg5 harg5 arg6 harg6 arg7 harg7 T0 T1 x0 x1 x2 x3 xa0 xa1 xa2 hl ha = r at ho hv
  obtain ⟨o0, run⟩ := r
  dsimp only at ho hv
  iintro ⟨H0, H1, H2, H3, HT0, HT1, H4, HS0, HS1, HS2, Hk⟩
  iapply (run K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- A block that is not active. -/
theorem bodySkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (y4 : S256x2048.Idx → Elt Bits .f32)
    (hl : ¬ loadWord i (nWord T1) (eWord i T0) (pWord i T0) = 1#1) (ha : ¬ k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare y4
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Bits)) Variants.none c none) Set.univ (bodyOn i arg3 harg3 arg4 harg4 arg5 harg5 arg6 harg6 arg7 harg7) K := by
  iintro ⟨H0, H1, H2, H3, HT0, HT1, H4, HS0, HS1, HS2, Hk⟩
  iapply (runSkip c i arg3 harg3 arg4 harg4 arg5 harg5 arg6 harg6 arg7 harg7 T0 T1 x0 x1 x2 x3 xa0 xa1 xa2 y4 hl ha K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · iexact H4
  isplitl [HS0]; · iexact HS0
  isplitl [HS1]; · iexact HS1
  iexact HS2

end Cert.Kernel.Experts

end
-- ==== Proof.ExpertsBits.Frame.lean ====
/- The routed experts' call: the pipeline's data in closed form — after point `n` the scratches hold the rounded weights of the
   last active block up to `n`, the output's buffer its feed-forward — the body's obligation from the three triples, and the
   launch: at tables in their ranges every execution ends, nothing faults, and the arguments end unchanged. -/
module

public import proofs.«01_k».proof.Proof.ExpertsBits.Triples
public import Idealize.ShloMosaic.Lib.Pipeline.Quiescent
public import Idealize.ShloMosaic.Lib.Claim

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (T : Tables) (m : (ℓ : Loc nD τ sig) → Buf (Elt Bits) ℓ) (ρ : Dev nD → PrngReg)

/-- The launch memory holds the tables. -/
def Holds : Prop :=
  (∀ c : Dev nD, m ((c : Thread nD τ).loc main_arg0) = T.e) ∧ (∀ c : Dev nD, m ((c : Thread nD τ).loc main_arg1) = T.n)

/-! ## Staging buffers and blocks -/

abbrev ms0 (t : Fin (cfgA T).N) : Memref sig .tc .vmem S256x2048 .f32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1x2048x512 .f32 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1x2048x512 .f32 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1x512x2048 .f32 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S256x2048 .f32 := spec0_4.stage ((cfgA T).slots t (4 : Fin 5))
abbrev hs4 (t : Fin (cfgA T).N) : (ms4 T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The expert of block `n`, as an index of the weights. -/
def Tables.expert (T : Tables) (b : Fin 256) : Fin 64 := ⟨(T.e (ix1 b)).toNat, T.he _⟩

/-- The grid point's block. -/
abbrev blk (t : Fin (cfgA T).N) : Fin 256 := ⟨t.val, t.isLt⟩

theorem index1 (t : Fin (cfgA T).N) : ((cfgA T).win (1 : Fin 5)).index t = ![0, (T.expert (blk T t)).val, 0, 0] := by
  have h := map1_eq T (crd T t)
  rw [show blockOf (crd T t) = blk T t from Fin.ext (crd_val T t)] at h
  exact h
theorem index2 (t : Fin (cfgA T).N) : ((cfgA T).win (2 : Fin 5)).index t = ![0, (T.expert (blk T t)).val, 0, 0] := by
  have h := map2_eq T (crd T t)
  rw [show blockOf (crd T t) = blk T t from Fin.ext (crd_val T t)] at h
  exact h
theorem index3 (t : Fin (cfgA T).N) : ((cfgA T).win (3 : Fin 5)).index t = ![0, (T.expert (blk T t)).val, 0, 0] := by
  have h := map3_eq T (crd T t)
  rw [show blockOf (crd T t) = blk T t from Fin.ext (crd_val T t)] at h
  exact h

/-- The gate weights' window at a point: its block's expert's. -/
theorem gate_at (c : Dev nD) (t : Fin (cfgA T).N) (j : S1x1x2048x512.Idx) : (iblk T m ρ c (1 : Fin 5) t : S1x1x2048x512.Idx → Elt Bits .f32) j
    = (m ((c : Thread nD τ).loc main_arg3) : S2x64x2048x512.Idx → Elt Bits .f32) (ix4 (0 : Fin 2) (T.expert (blk T t)) (j 2 : Fin 2048) (j 3 : Fin 512)) := by
  have p := index1 T t
  unfold iblk
  rw [View.read_apply]
  show m ((c : Thread nD τ).loc main_arg3) _ = m ((c : Thread nD τ).loc main_arg3) _
  congr 1
  funext a
  apply Fin.ext
  have h0 : (j 0).val < 1 := (j 0).isLt
  have h1 : (j 1).val < 1 := (j 1).isLt
  match a with
  | ⟨0, _⟩ => show ((cfgA T).win (1 : Fin 5)).index t (0 : Fin 4) * 1 + 1 * (j 0).val = 0; rw [p]; show 0 * 1 + 1 * (j 0).val = 0; omega
  | ⟨1, _⟩ => show ((cfgA T).win (1 : Fin 5)).index t (1 : Fin 4) * 1 + 1 * (j 1).val = (T.expert (blk T t)).val; rw [p]; show (T.expert (blk T t)).val * 1 + 1 * (j 1).val = _; omega
  | ⟨2, _⟩ => show ((cfgA T).win (1 : Fin 5)).index t (2 : Fin 4) * 2048 + 1 * (j 2).val = (j 2).val; rw [p]; show 0 * 2048 + 1 * (j 2).val = _; omega
  | ⟨3, _⟩ => show ((cfgA T).win (1 : Fin 5)).index t (3 : Fin 4) * 512 + 1 * (j 3).val = (j 3).val; rw [p]; show 0 * 512 + 1 * (j 3).val = _; omega

/-- The up weights' window at a point: its block's expert's. -/
theorem up_at (c : Dev nD) (t : Fin (cfgA T).N) (j : S1x1x2048x512.Idx) : (iblk T m ρ c (2 : Fin 5) t : S1x1x2048x512.Idx → Elt Bits .f32) j
    = (m ((c : Thread nD τ).loc main_arg4) : S2x64x2048x512.Idx → Elt Bits .f32) (ix4 (0 : Fin 2) (T.expert (blk T t)) (j 2 : Fin 2048) (j 3 : Fin 512)) := by
  have p := index2 T t
  unfold iblk
  rw [View.read_apply]
  show m ((c : Thread nD τ).loc main_arg4) _ = m ((c : Thread nD τ).loc main_arg4) _
  congr 1
  funext a
  apply Fin.ext
  have h0 : (j 0).val < 1 := (j 0).isLt
  have h1 : (j 1).val < 1 := (j 1).isLt
  match a with
  | ⟨0, _⟩ => show ((cfgA T).win (2 : Fin 5)).index t (0 : Fin 4) * 1 + 1 * (j 0).val = 0; rw [p]; show 0 * 1 + 1 * (j 0).val = 0; omega
  | ⟨1, _⟩ => show ((cfgA T).win (2 : Fin 5)).index t (1 : Fin 4) * 1 + 1 * (j 1).val = (T.expert (blk T t)).val; rw [p]; show (T.expert (blk T t)).val * 1 + 1 * (j 1).val = _; omega
  | ⟨2, _⟩ => show ((cfgA T).win (2 : Fin 5)).index t (2 : Fin 4) * 2048 + 1 * (j 2).val = (j 2).val; rw [p]; show 0 * 2048 + 1 * (j 2).val = _; omega
  | ⟨3, _⟩ => show ((cfgA T).win (2 : Fin 5)).index t (3 : Fin 4) * 512 + 1 * (j 3).val = (j 3).val; rw [p]; show 0 * 512 + 1 * (j 3).val = _; omega

/-- The down weights' window at a point: its block's expert's. -/
theorem down_at (c : Dev nD) (t : Fin (cfgA T).N) (j : S1x1x512x2048.Idx) : (iblk T m ρ c (3 : Fin 5) t : S1x1x512x2048.Idx → Elt Bits .f32) j
    = (m ((c : Thread nD τ).loc main_arg5) : S2x64x512x2048.Idx → Elt Bits .f32) (ix4 (0 : Fin 2) (T.expert (blk T t)) (j 2 : Fin 512) (j 3 : Fin 2048)) := by
  have p := index3 T t
  unfold iblk
  rw [View.read_apply]
  show m ((c : Thread nD τ).loc main_arg5) _ = m ((c : Thread nD τ).loc main_arg5) _
  congr 1
  funext a
  apply Fin.ext
  have h0 : (j 0).val < 1 := (j 0).isLt
  have h1 : (j 1).val < 1 := (j 1).isLt
  match a with
  | ⟨0, _⟩ => show ((cfgA T).win (3 : Fin 5)).index t (0 : Fin 4) * 1 + 1 * (j 0).val = 0; rw [p]; show 0 * 1 + 1 * (j 0).val = 0; omega
  | ⟨1, _⟩ => show ((cfgA T).win (3 : Fin 5)).index t (1 : Fin 4) * 1 + 1 * (j 1).val = (T.expert (blk T t)).val; rw [p]; show (T.expert (blk T t)).val * 1 + 1 * (j 1).val = _; omega
  | ⟨2, _⟩ => show ((cfgA T).win (3 : Fin 5)).index t (2 : Fin 4) * 512 + 1 * (j 2).val = (j 2).val; rw [p]; show 0 * 512 + 1 * (j 2).val = _; omega
  | ⟨3, _⟩ => show ((cfgA T).win (3 : Fin 5)).index t (3 : Fin 4) * 2048 + 1 * (j 3).val = (j 3).val; rw [p]; show 0 * 2048 + 1 * (j 3).val = _; omega

/-! ## What the buffers hold after each point -/

/-- The last active point up to `n`. -/
def last (n : ℕ) : Fin (cfgA T).N := ⟨T.row n, by have h := T.count_pos; have h' := T.count_le; show T.row n < 256; unfold Tables.row; omega⟩

def gateAfter (c : Dev nD) (n : ℕ) : S2048x512.Idx → Elt Bits .bf16 := k0_pay1 (iblk T m ρ c (1 : Fin 5) (last T n))
def upAfter (c : Dev nD) (n : ℕ) : S2048x512.Idx → Elt Bits .bf16 := k0_pay2 (iblk T m ρ c (2 : Fin 5) (last T n))
def downAfter (c : Dev nD) (n : ℕ) : S512x2048.Idx → Elt Bits .bf16 := k0_pay3 (iblk T m ρ c (3 : Fin 5) (last T n))
def outAfter (c : Dev nD) (n : ℕ) : S256x2048.Idx → Elt Bits .f32 :=
  k0_pay4 (iblk T m ρ c (0 : Fin 5) (last T n)) (gateAfter T m ρ c n) (upAfter T m ρ c n) (downAfter T m ρ c n)

/-- An active point is its own last active one; -/
theorem last_active (t : Fin (cfgA T).N) (h : t.val < T.count) : last T t.val = t :=
  Fin.ext (by show T.row t.val = t.val; unfold Tables.row; omega)

/-- one that is not shares the point before's. -/
theorem last_idle (n : ℕ) (h : T.count ≤ n) : last T n = last T (n - 1) :=
  Fin.ext (by have := T.count_pos; show T.row n = T.row (n - 1); unfold Tables.row; omega)

theorem outAfter_idle (c : Dev nD) (n : ℕ) (h : T.count ≤ n) : outAfter T m ρ c n = outAfter T m ρ c (n - 1) := by
  unfold outAfter gateAfter upAfter downAfter; rw [last_idle T n h]
theorem gateAfter_idle (c : Dev nD) (n : ℕ) (h : T.count ≤ n) : gateAfter T m ρ c n = gateAfter T m ρ c (n - 1) := by
  unfold gateAfter; rw [last_idle T n h]
theorem upAfter_idle (c : Dev nD) (n : ℕ) (h : T.count ≤ n) : upAfter T m ρ c n = upAfter T m ρ c (n - 1) := by
  unfold upAfter; rw [last_idle T n h]
theorem downAfter_idle (c : Dev nD) (n : ℕ) (h : T.count ≤ n) : downAfter T m ρ c n = downAfter T m ρ c (n - 1) := by
  unfold downAfter; rw [last_idle T n h]

/-- A point of the expert before finds its weights in the scratches. -/
theorem same_expert (t : Fin (cfgA T).N) (h : t.val < T.count) (h0 : t.val ≠ 0) (he : T.e (ix1 (blk T t)) = T.e (ix1 (before (blk T t)))) :
    T.expert (blk T (last T t.val)) = T.expert (blk T (last T (t.val - 1))) := by
  rw [last_active T t h]
  have hb : blk T (last T (t.val - 1)) = before (blk T t) :=
    Fin.ext (by show T.row (t.val - 1) = t.val - 1; unfold Tables.row; omega)
  rw [hb]; unfold Tables.expert
  exact Fin.ext (congrArg BitVec.toNat he)

theorem gateAfter_same (c : Dev nD) (t : Fin (cfgA T).N) (h : t.val < T.count) (h0 : t.val ≠ 0) (he : T.e (ix1 (blk T t)) = T.e (ix1 (before (blk T t)))) :
    gateAfter T m ρ c t.val = gateAfter T m ρ c (t.val - 1) := by
  have hx : (iblk T m ρ c (1 : Fin 5) (last T t.val) : S1x1x2048x512.Idx → Elt Bits .f32) = iblk T m ρ c (1 : Fin 5) (last T (t.val - 1)) :=
    funext fun j => by rw [gate_at, gate_at, same_expert T t h h0 he]
  exact congrArg k0_pay1 hx

theorem upAfter_same (c : Dev nD) (t : Fin (cfgA T).N) (h : t.val < T.count) (h0 : t.val ≠ 0) (he : T.e (ix1 (blk T t)) = T.e (ix1 (before (blk T t)))) :
    upAfter T m ρ c t.val = upAfter T m ρ c (t.val - 1) := by
  have hx : (iblk T m ρ c (2 : Fin 5) (last T t.val) : S1x1x2048x512.Idx → Elt Bits .f32) = iblk T m ρ c (2 : Fin 5) (last T (t.val - 1)) :=
    funext fun j => by rw [up_at, up_at, same_expert T t h h0 he]
  exact congrArg k0_pay2 hx

theorem downAfter_same (c : Dev nD) (t : Fin (cfgA T).N) (h : t.val < T.count) (h0 : t.val ≠ 0) (he : T.e (ix1 (blk T t)) = T.e (ix1 (before (blk T t)))) :
    downAfter T m ρ c t.val = downAfter T m ρ c (t.val - 1) := by
  have hx : (iblk T m ρ c (3 : Fin 5) (last T t.val) : S1x1x512x2048.Idx → Elt Bits .f32) = iblk T m ρ c (3 : Fin 5) (last T (t.val - 1)) :=
    funext fun j => by rw [down_at, down_at, same_expert T t h h0 he]
  exact congrArg k0_pay3 hx

/-! ## The pipeline's data -/

/-- Before point `t`: each scratch at what the point before leaves (anything before the first), and the body's share of the tables. -/
def Phi (c : Dev nD) (t : Fin ((cfgA T).N + 1)) : sProp 𝕄 :=
  iprop((∃ a, ⌜t.val ≠ 0 → a = gateAfter T m ρ c (t.val - 1)⌝ ∗ (sc0.view.loc (c : Thread nD τ) ↦{fullShare} a))
    ∗ (∃ a, ⌜t.val ≠ 0 → a = upAfter T m ρ c (t.val - 1)⌝ ∗ (sc1.view.loc (c : Thread nD τ) ↦{fullShare} a))
    ∗ (∃ a, ⌜t.val ≠ 0 → a = downAfter T m ρ c (t.val - 1)⌝ ∗ (sc2.view.loc (c : Thread nD τ) ↦{fullShare} a))
    ∗ (tb0.view.loc (c : Thread nD τ) ↦{fullShare.right} T.e) ∗ (tb1.view.loc (c : Thread nD τ) ↦{fullShare.right} T.n))

/-- The data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAfter T m ρ c t.val
  Φ t := Phi T m ρ c t
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = outAfter T m ρ c t.val := rfl

/-- An input's window holds its block. -/
theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's window, at a point that is not active, holds the last active block's feed-forward. -/
theorem before4 (c : Dev nD) (t : Fin (cfgA T).N) (h : T.count ≤ t.val) (d) :
    (dats T m ρ 0 c).before (4 : Fin 5) t d = outAfter T m ρ c (t.val - 1) := by
  have hc : ∀ (t : Fin (cfgA T).N) (ht : t.val ≠ 0), (cfgA T).idle (4 : Fin 5) ((cfgA T).grid.coords t) = true → (cfgA T).fresh (4 : Fin 5) t.val = false →
      (dats T m ρ 0 c).after (4 : Fin 5) t = (dats T m ρ 0 c).after (4 : Fin 5) ⟨t.val - 1, by omega⟩ := by
    intro t ht hi _
    rw [show (cfgA T).idle (4 : Fin 5) ((cfgA T).grid.coords t) = decide (T.count ≤ t.val) from idle4 T t] at hi
    rw [after4, after4]
    exact outAfter_idle T m ρ c t.val (of_decide_eq_true hi)
  have h0 : t.val ≠ 0 := by have := T.count_pos; omega
  have hf : (cfgA T).fresh (4 : Fin 5) t.val = false := (fresh4 T t.val t.isLt).trans (decide_eq_false (by omega))
  rw [(dats T m ρ 0 c).before_out_traj (4 : Fin 5) rfl (fun _ _ => rfl) hc t.val t rfl d]
  simp only [hf, Bool.false_eq_true, ↓reduceIte, after4]
  try rw [dif_neg h0]

/-! ## The body's obligation -/

/-- The conditions at a point, from the tables. -/
theorem loads_iff (t : Fin (cfgA T).N) : loadWord (crd T t) (nWord T.n) (eWord (crd T t) T.e) (pWord (crd T t) T.e) = 1#1
    ↔ t.val < T.count ∧ (t.val = 0 ∨ T.e (ix1 (blk T t)) ≠ T.e (ix1 (before (blk T t)))) := by
  have h := load_iff T (crd T t)
  rw [show blockOf (crd T t) = blk T t from Fin.ext (crd_val T t), crd_val] at h
  have hn : nWord T.n = T.n (ix1 0) := read_n T.n
  have he : eWord (crd T t) T.e = T.e (ix1 (blk T t)) := (read_e T.e (crd T t)).trans (congrArg (fun b => T.e (ix1 b)) (Fin.ext (crd_val T t)))
  have hp : pWord (crd T t) T.e = T.e (ix1 (before (blk T t))) := (read_p T.e (crd T t)).trans (congrArg (fun b => T.e (ix1 (before b))) (Fin.ext (crd_val T t)))
  rw [hn, he, hp]
  exact h

theorem actives_iff (t : Fin (cfgA T).N) : k0_cond2 (crd T t) (nWord T.n) = 1#1 ↔ t.val < T.count := by
  have h := active_iff T (crd T t)
  rw [crd_val] at h
  have hn : nWord T.n = T.n (ix1 0) := read_n T.n
  rw [hn]; exact h

abbrev bodyAt (t : Fin (cfgA T).N) : Prog (TpuEff nD τ sig (Elt Bits) Λ₀ .tc) PUnit :=
  bodyOn (crd T t) (ms0 T t) (hs0 T t) (ms1 T t) (hs1 T t) (ms2 T t) (hs2 T t) (ms3 T t) (hs3 T t) (ms4 T t) (hs4 T t)

/-- The body takes point `t`'s buffers from what they hold before the point to what the data say they hold after it. -/
def SoundAt (c : Dev nD) (t : Fin (cfgA T).N) : Prop :=
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Bits)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t))

set_option maxHeartbeats 4000000 in
/-- At an active block of a new expert. -/
theorem sound_load (c : Dev nD) (t : Fin (cfgA T).N) (hl : loadWord (crd T t) (nWord T.n) (eWord (crd T t) T.e) (pWord (crd T t) T.e) = 1#1) :
    SoundAt T m ρ c t := by
  unfold SoundAt
  have hlt : t.val < T.count := ((loads_iff T t).1 hl).1
  have i4 : (cfgA T).idle (4 : Fin 5) ((cfgA T).grid.coords t) = false := (idle4 T t).trans (decide_eq_false (by omega))
  have hg : k0_pay1 (iblk T m ρ c (1 : Fin 5) t) = gateAfter T m ρ c t.val := by unfold gateAfter; rw [last_active T t hlt]
  have hu : k0_pay2 (iblk T m ρ c (2 : Fin 5) t) = upAfter T m ρ c t.val := by unfold upAfter; rw [last_active T t hlt]
  have hd : k0_pay3 (iblk T m ρ c (3 : Fin 5) t) = downAfter T m ρ c t.val := by unfold downAfter; rw [last_active T t hlt]
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyLoad c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) hl ((actives_iff T t).2 hlt)
  rw [hg, hu, hd, ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexists _; iexact HS0
  isplitl [HS1]; · iexists _; iexact HS1
  isplitl [HS2]; · iexists _; iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At an active block of the expert before. -/
theorem sound_keep (c : Dev nD) (t : Fin (cfgA T).N) (hl : ¬ loadWord (crd T t) (nWord T.n) (eWord (crd T t) T.e) (pWord (crd T t) T.e) = 1#1)
    (hlt : t.val < T.count) :
    SoundAt T m ρ c t := by
  unfold SoundAt
  have hn := mt (loads_iff T t).2 hl
  have h0 : t.val ≠ 0 := fun h => hn ⟨hlt, Or.inl h⟩
  have he : T.e (ix1 (blk T t)) = T.e (ix1 (before (blk T t))) := by
    by_contra h; exact hn ⟨hlt, Or.inr h⟩
  have i4 : (cfgA T).idle (4 : Fin 5) ((cfgA T).grid.coords t) = false := (idle4 T t).trans (decide_eq_false (by omega))
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyKeep c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) hl ((actives_iff T t).2 hlt)
  rw [ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_same T m ρ c t hlt h0 he, ← upAfter_same T m ρ c t hlt h0 he, ← downAfter_same T m ρ c t hlt h0 he]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At a block that is not active. -/
theorem sound_skip (c : Dev nD) (t : Fin (cfgA T).N) (hge : T.count ≤ t.val) :
    SoundAt T m ρ c t := by
  unfold SoundAt
  have h0 : t.val ≠ 0 := by have := T.count_pos; omega
  have hl : ¬ loadWord (crd T t) (nWord T.n) (eWord (crd T t) T.e) (pWord (crd T t) T.e) = 1#1 :=
    fun h => absurd ((loads_iff T t).1 h).1 (by omega)
  have ha : ¬ k0_cond2 (crd T t) (nWord T.n) = 1#1 := fun h => absurd ((actives_iff T t).1 h) (by omega)
  have i4 : (cfgA T).idle (4 : Fin 5) ((cfgA T).grid.coords t) = true := (idle4 T t).trans (decide_eq_true hge)
  have run := bodySkip c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) (outAfter T m ρ c t.val) hl ha
  rw [bigSep_W0]
  rewrite [i4]
  simp only [before0, before1, before2, before3, before4 T m ρ c t hge, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_idle T m ρ c t.val hge, ← upAfter_idle T m ρ c t.val hge, ← downAfter_idle T m ρ c t.val hge, ← outAfter_idle T m ρ c t.val hge]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  cases f4 : ((cfgA T).win (4 : Fin 5)).flush t
  · iexists d4; iexact H4
  · iexact H4

/-- The body's obligation, at every point. -/
theorem body_obligation (c : Dev nD) : BodyObligation (dats T m ρ 0 c) (defs₀ (F := Bits)) Variants.none () Set.univ := fun t => by
  rw [bigSep_W0]
  by_cases hl : loadWord (crd T t) (nWord T.n) (eWord (crd T t) T.e) (pWord (crd T t) T.e) = 1#1
  · exact sound_load T m ρ c t hl
  · by_cases hlt : t.val < T.count
    · exact sound_keep T m ρ c t hl hlt
    · exact sound_skip T m ρ c t (by omega)

/-! ## The launch -/

/-- The launch's ghost element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches as the launch hands them; -/
theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- at the last it gives the scratches back. -/
theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The final states: every window's array at what the data compute, every table as it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory holding the tables, with zero counters: every weakly fair execution ends in such a state, its counters at zero. -/
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- The arguments end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- The frame: every weakly fair execution ends, nothing faults, the arguments end unchanged and every counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Kernel.Experts

end
-- ==== Proof.Experts.Claims.lean ====
/- The routed experts' call: its claims. -/
module

public import proofs.«01_k».proof.Defs
public import proofs.«01_k».proof.Proof.Experts.Host
public import proofs.«01_k».proof.Proof.Experts.Ranges
public import proofs.«01_k».proof.Proof.ExpertsBits.Frame
public import proofs.«01_k».proof.Proof.Gen.ReferenceIdeal.Run
public import Idealize.ShloMosaic.Lib.Quiescent

@[expose] public section

noncomputable section

namespace Cert.Proof

open Idealize.ShloMosaic Idealize.SL.Sem Idealize.ShloMosaic.TcCoe

/-- There is one device. -/
theorem one_device (c d : Dev 1) : c = d := Subsingleton.elim c d

/-- The precondition at the machine's floats gives the tables in their ranges. -/
theorem tables_bits (m : (ℓ : Loc Cert.Kernel.nD Cert.Kernel.τ Cert.Kernel.sig) → Buf (Elt Bits) ℓ) (h : Pre_Kernel m) :
    ∃ T : Cert.Kernel.Experts.Tables, Cert.Kernel.Experts.Holds T m := by
  obtain ⟨he, h1, h2⟩ := Cert.ExpertsRanges.decode _ _ _ _ _ _ (h 0)
  refine ⟨⟨_, _, he, h1, h2⟩, fun c => ?_, fun c => ?_⟩
  · rw [one_device c 0]
  · rw [one_device c 0]

/-- The same over the extended reals. -/
theorem tables_ideal (m : (ℓ : Loc Cert.KernelIdeal.nD Cert.KernelIdeal.τ Cert.KernelIdeal.sig) → Buf (Elt Ideal) ℓ) (h : Pre_KernelIdeal m) :
    ∃ T : Cert.KernelIdeal.Experts.Tables, Cert.KernelIdeal.Experts.Holds T m := by
  obtain ⟨he, h1, h2⟩ := Cert.ExpertsRanges.decode _ _ _ _ _ _ (h 0)
  refine ⟨⟨_, _, he, h1, h2⟩, fun c => ?_, fun c => ?_⟩
  · rw [one_device c 0]
  · rw [one_device c 0]

theorem quiescent_Kernel : quiescent_Kernel := fun m ρ h => by
  obtain ⟨T, hT⟩ := tables_bits m h
  exact Cert.Kernel.Experts.frame T m ρ hT

theorem quiescent_KernelIdeal : quiescent_KernelIdeal := fun m ρ h => by
  obtain ⟨T, hT⟩ := tables_ideal m h
  exact Cert.KernelIdeal.Experts.frame T m ρ hT

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal_on_active_rows := by
  intro m ρ m' ρ' hpre hagree
  obtain ⟨T, hT⟩ := tables_ideal m hpre
  have hn : ∀ c : Dev Cert.KernelIdeal.nD, m ((c.tc : Thread Cert.KernelIdeal.nD Cert.KernelIdeal.τ).loc Cert.KernelIdeal.main_arg1) = T.n := hT.2
  refine ⟨fun c => Cert.KernelIdeal.Experts.result T m c, ?_, ?_⟩
  · refine (θ_run Cert.KernelIdeal.defs _ _).mono (fun _ h c => ⟨fun i hi => (h c).1 i ?_, (h c).2⟩) (Cert.KernelIdeal.Experts.value T m ρ hT)
    have := Cert.ExpertsRanges.active (F := Ideal) _ _ _ _ _ _ (by rw [hn c]; exact T.hn2) i hi
    rw [hn c] at this
    exact this
  · refine (θ_run Cert.ReferenceIdeal.defs _ _).mono (fun _ h c => ⟨fun i _ => ?_, (h c).2⟩) (Cert.ReferenceIdeal.Value.run (F := Ideal) m' ρ')
    rw [(h c).1]
    simp only [hagree c]
    refine congrFun ((Cert.ReferenceIdeal.Read.val_main_v33_eq _ _ _ _ _).trans
      (Cert.KernelIdeal.Experts.Host.reads _ T.expert (fun b => ?_) _ _ _ _)) i
    rw [hT.1 c]
    rfl

end Cert.Proof

end
-- ==== Proof.Experts5.Tables.lean ====
/- The routed experts' call: its two prefetched tables — the expert of every block and the number of active blocks —
   as unknowns in their ranges, and what the grid does at them. Block `b` is active when it lies below the number of
   active blocks; its weights are its expert's; the row block in use is the last active one from there on, so the
   output block is written back after every active block but the last, and after the last point. -/
module

public import proofs.«01_k».proof.Proof.Gen.Kernel5Ideal.Launch
public import Idealize.ShloMosaic.Lib.Pipeline.TableIdle
public import Idealize.ShloMosaic.Lib.Pipeline.FrameBody
public import Idealize.ShloMosaic.Lib.Exec
public import Idealize.ShloMosaic.Lib.Ring
public import Idealize.ShloMosaic.Lib.Tactic
public import Idealize.ShloMosaic.Lib.Pointwise

@[expose] public section

set_option maxRecDepth 16384

noncomputable section

namespace Cert.Kernel5Ideal.Experts

open Cert.Kernel5Ideal Cert.Kernel5Ideal.Gen
open Idealize.ShloMosaic
open Idealize.ShloMosaic.TcCoe Idealize.ShloMosaic.Tactic

/-- The tables in their ranges: every block's expert one of the 64, at least one active block and at most all 256. -/
structure Tables where
  e : S256.Idx → BitVec 32
  n : S1.Idx → BitVec 32
  he : ∀ j, (e j).toNat < 64
  hn1 : 1 ≤ (n (ix1 0)).toNat
  hn2 : (n (ix1 0)).toNat ≤ 256

/-- The tables as the program is handed them, whole. -/
abbrev tb0 : Memref sig .tc .smem S256 .i32 := Memref.whole main_arg0
abbrev tb1 : Memref sig .tc .smem S1 .i32 := Memref.whole main_arg1

/-! ## Where the body and the index maps read the tables -/

theorem coord_lt (i : grid0.Coords) : (i 0).val < 256 := (i 0).isLt

theorem off1_eq (i : grid0.Coords) : k0_off1 i = ![(i 0).val] := by
  have h := coord_lt i
  unfold k0_off1
  simp only [Scalar.indexCast, BitVec.toNat_ofNat]
  rw [Nat.mod_eq_of_lt (by omega)]

theorem off2_eq (i : grid0.Coords) : k0_off2 i = ![(i 0).val - 1] := by
  have h : ∀ b : Fin 256, (Scalar.indexCast (Scalar.maxsi (Scalar.subi (BitVec.ofNat 32 b.val) 1#32) 0#32)).toNat = b.val - 1 := by
    decide +kernel
  unfold k0_off2
  exact congrArg (fun k : ℕ => (![k] : Fin 1 → ℕ)) (h ⟨(i 0).val, coord_lt i⟩)

/-- The block before, the first block standing before itself. -/
def before (b : Fin 256) : Fin 256 := ⟨b.val - 1, by omega⟩

/-- The grid point's block. -/
abbrev blockOf (i : grid0.Coords) : Fin 256 := ⟨(i 0).val, coord_lt i⟩

theorem idx1_eq {n : ℕ} (x : (⟨1, ![n]⟩ : Shape).Idx) (a : Fin n) (h : (x 0).val = a.val) : x = ix1 a := by
  funext k
  match k with
  | ⟨0, _⟩ => exact Fin.ext h

theorem read_n (T : S1.Idx → BitVec 32) :
    View.readAt (Elt Ideal) tb1.view (Rect.unit (s := S1) ![0] S1.size inb_S1_S1_0).toLoadRect T (Shape.Idx.first (numel1_S1.symm ▸ Nat.one_pos))
      = T (ix1 0) :=
  congrArg T (idx1_eq _ 0 rfl)

theorem read_e (T : S256.Idx → BitVec 32) (i : grid0.Coords) :
    View.readAt (Elt Ideal) tb0.view (Rect.unit (s := S256) (k0_off1 i) S1.size (k0_off1_inb i)).toLoadRect T (Shape.Idx.first (numel1_S1.symm ▸ Nat.one_pos))
      = T (ix1 (blockOf i)) := by
  refine congrArg T (idx1_eq _ _ ?_)
  show k0_off1 i 0 + 1 * 0 = (i 0).val
  rw [off1_eq]; rfl

theorem read_p (T : S256.Idx → BitVec 32) (i : grid0.Coords) :
    View.readAt (Elt Ideal) tb0.view (Rect.unit (s := S256) (k0_off2 i) S1.size (k0_off2_inb i)).toLoadRect T (Shape.Idx.first (numel1_S1.symm ▸ Nat.one_pos))
      = T (ix1 (before (blockOf i))) := by
  refine congrArg T (idx1_eq _ _ ?_)
  show k0_off2 i 0 + 1 * 0 = (i 0).val - 1
  rw [off2_eq]; rfl

/-! ## The conditions -/

theorem slt_iff (b : ℕ) (hb : b < 256) (v : BitVec 32) (hv : v.toNat ≤ 256) : (BitVec.ofNat 32 b).slt v = true ↔ b < v.toNat := by
  rw [BitVec.slt_iff_toInt_lt, BitVec.toInt_eq_toNat_of_lt (by rw [BitVec.toNat_ofNat]; omega), BitVec.toInt_eq_toNat_of_lt (by omega),
    BitVec.toNat_ofNat, Nat.mod_eq_of_lt (by omega)]
  omega

theorem widened (b : Bool) : Scalar.cmpi .ne (Scalar.extui (BitVec.ofBool b)) 0#32 = BitVec.ofBool b := by cases b <;> rfl
theorem ofBool_one (b : Bool) : BitVec.ofBool b = 1#1 ↔ b = true := by cases b <;> decide

/-- The number of active blocks. -/
def Tables.count (T : Tables) : ℕ := (T.n (ix1 0)).toNat
theorem Tables.count_pos (T : Tables) : 1 ≤ T.count := T.hn1
theorem Tables.count_le (T : Tables) : T.count ≤ 256 := T.hn2

theorem active_iff (T : Tables) (i : grid0.Coords) : k0_cond2 i (T.n (ix1 0)) = 1#1 ↔ (i 0).val < T.count := by
  unfold k0_cond2
  exact ((congrArg (· = 1#1) (widened _)).to_iff.trans (ofBool_one _)).trans (slt_iff _ (coord_lt i) _ T.hn2)

/-- The condition under which a point converts its expert's weights, over the words it reads. -/
abbrev loadWord (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32

/-- It converts them when the block is active and it is the first one or the block before had another expert. -/
theorem load_iff (T : Tables) (i : grid0.Coords) :
    loadWord i (T.n (ix1 0)) (T.e (ix1 (blockOf i))) (T.e (ix1 (before (blockOf i)))) = 1#1
      ↔ (i 0).val < T.count ∧ ((i 0).val = 0 ∨ T.e (ix1 (blockOf i)) ≠ T.e (ix1 (before (blockOf i)))) := by
  have hb : ∀ x y z : Bool, Scalar.andi (BitVec.ofBool x) (Scalar.ori (BitVec.ofBool y) (BitVec.ofBool z)) = BitVec.ofBool (x && (y || z)) := by
    decide
  have hz : ((BitVec.ofNat 32 (i 0).val) == 0#32) = true ↔ (i 0).val = 0 := by
    rw [beq_iff_eq, ← BitVec.toNat_inj, BitVec.toNat_ofNat, Nat.mod_eq_of_lt (by have := coord_lt i; omega)]; rfl
  unfold loadWord
  show Scalar.cmpi .ne (Scalar.extui (Scalar.andi (BitVec.ofBool _) (Scalar.ori (BitVec.ofBool _) (BitVec.ofBool _)))) 0#32 = 1#1 ↔ _
  rw [hb, widened, ofBool_one, Bool.and_eq_true, Bool.or_eq_true, hz, bne_iff_ne, slt_iff _ (coord_lt i) _ T.hn2]; rfl

/-! ## The index maps at the tables -/

set_option backward.proofsInPublic true in
/-- The tables' contents. -/
def Tables.pf (T : Tables) : pre0.Contents (Elt Ideal) := fun | ⟨0, _⟩ => T.e | ⟨1, _⟩ => T.n | ⟨_ + 2, h⟩ => absurd h (by simp)

theorem at_n (T : Tables) : T.pf.at 1 (Rect.unit (s := S1) ![0] S1.size inb_S1_S1_0) numel1_S1 = T.n (ix1 0) :=
  congrArg T.n (idx1_eq _ 0 rfl)

theorem at_e (T : Tables) (i : grid0.Coords) :
    T.pf.at 0 (Rect.unit (s := S256) (k0_off1 i) S1.size (k0_off1_inb i)) numel1_S1 = T.e (ix1 (blockOf i)) := by
  refine congrArg T.e (idx1_eq _ _ ?_)
  show k0_off1 i 0 + 1 * 0 = (i 0).val
  rw [off1_eq]; rfl

/-- The row block in use at block `b`: `b` while active, the last active one after. -/
def Tables.row (T : Tables) (b : ℕ) : ℕ := min b (T.count - 1)

theorem row_word (T : Tables) (b : ℕ) (hb : b < 256) :
    (Scalar.minsi (BitVec.ofNat 32 b) (Scalar.subi (T.n (ix1 0)) 1#32)).toNat = T.row b := by
  have h1 := T.count_pos; have h2 := T.count_le
  have hn : (T.n (ix1 0)).toNat = T.count := rfl
  have hs : (T.n (ix1 0) - 1#32).toNat = T.count - 1 := by
    rw [BitVec.toNat_sub_of_le (by rw [BitVec.le_def]; exact h1), hn]; rfl
  have hl := slt_iff b hb (T.n (ix1 0) - 1#32) (by omega)
  rw [hs] at hl
  unfold Tables.row
  show (if (BitVec.ofNat 32 b).slt (T.n (ix1 0) - 1#32) then BitVec.ofNat 32 b else T.n (ix1 0) - 1#32).toNat = _
  by_cases h : (BitVec.ofNat 32 b).slt (T.n (ix1 0) - 1#32) = true
  · rw [if_pos h, BitVec.toNat_ofNat, Nat.mod_eq_of_lt (by omega)]; have := hl.1 h; omega
  · rw [if_neg h, hs]; have := mt hl.2 h; omega

theorem map0_eq (T : Tables) (i : grid0.Coords) : cc0_transform_0 inb_S1_S1_0 numel1_S1 T.pf i = ![T.row (i 0).val, 0] := by
  unfold cc0_transform_0
  dsimp only
  rw [at_n, row_word T _ (coord_lt i)]; rfl

theorem map4_eq (T : Tables) (i : grid0.Coords) : cc0_transform_4 inb_S1_S1_0 numel1_S1 T.pf i = ![T.row (i 0).val, 0] := by
  unfold cc0_transform_4
  dsimp only
  rw [at_n, row_word T _ (coord_lt i)]; rfl

theorem map1_eq (T : Tables) (i : grid0.Coords) :
    cc0_transform_1 k0_off1_inb numel1_S1 T.pf i = ![1, (T.e (ix1 (blockOf i))).toNat, 0, 0] := by
  unfold cc0_transform_1
  dsimp only
  exact congrArg (fun k : BitVec 32 => (![1, k.toNat, 0, 0] : Fin 4 → ℕ)) (at_e T i)

theorem map2_eq (T : Tables) (i : grid0.Coords) :
    cc0_transform_2 k0_off1_inb numel1_S1 T.pf i = ![1, (T.e (ix1 (blockOf i))).toNat, 0, 0] := by
  unfold cc0_transform_2
  dsimp only
  exact congrArg (fun k : BitVec 32 => (![1, k.toNat, 0, 0] : Fin 4 → ℕ)) (at_e T i)

theorem map3_eq (T : Tables) (i : grid0.Coords) :
    cc0_transform_3 k0_off1_inb numel1_S1 T.pf i = ![1, (T.e (ix1 (blockOf i))).toNat, 0, 0] := by
  unfold cc0_transform_3
  dsimp only
  exact congrArg (fun k : BitVec 32 => (![1, k.toNat, 0, 0] : Fin 4 → ℕ)) (at_e T i)

/-- Every block lies inside its array. -/
theorem ok_pf (T : Tables) : ok0 (F := Ideal) T.pf := by
  have hr : ∀ b, T.row b < 256 := fun b => by have h1 := T.count_pos; have h2 := T.count_le; unfold Tables.row; omega
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · rw [map0_eq]
    match a with
    | ⟨0, _⟩ => have := hr (i 0).val; show (T.row (i 0).val + 1) * 256 ≤ 65536; omega
    | ⟨1, _⟩ => show (0 + 1) * 2048 ≤ 2048; omega
  · rw [map1_eq]
    have := T.he (ix1 (blockOf i))
    match a with
    | ⟨0, _⟩ => show (1 + 1) * 1 ≤ 2; omega
    | ⟨1, _⟩ => show ((T.e (ix1 (blockOf i))).toNat + 1) * 1 ≤ 64; omega
    | ⟨2, _⟩ => show (0 + 1) * 2048 ≤ 2048; omega
    | ⟨3, _⟩ => show (0 + 1) * 512 ≤ 512; omega
  · rw [map2_eq]
    have := T.he (ix1 (blockOf i))
    match a with
    | ⟨0, _⟩ => show (1 + 1) * 1 ≤ 2; omega
    | ⟨1, _⟩ => show ((T.e (ix1 (blockOf i))).toNat + 1) * 1 ≤ 64; omega
    | ⟨2, _⟩ => show (0 + 1) * 2048 ≤ 2048; omega
    | ⟨3, _⟩ => show (0 + 1) * 512 ≤ 512; omega
  · rw [map3_eq]
    have := T.he (ix1 (blockOf i))
    match a with
    | ⟨0, _⟩ => show (1 + 1) * 1 ≤ 2; omega
    | ⟨1, _⟩ => show ((T.e (ix1 (blockOf i))).toNat + 1) * 1 ≤ 64; omega
    | ⟨2, _⟩ => show (0 + 1) * 512 ≤ 512; omega
    | ⟨3, _⟩ => show (0 + 1) * 2048 ≤ 2048; omega
  · rw [map4_eq]
    match a with
    | ⟨0, _⟩ => have := hr (i 0).val; show (T.row (i 0).val + 1) * 256 ≤ 65536; omega
    | ⟨1, _⟩ => show (0 + 1) * 2048 ≤ 2048; omega

/-! ## The pipeline at the tables, and its schedule -/

/-- The admissible contents, and the pipeline at them. -/
def adm (T : Tables) : (pcfg0 (F := Ideal)).Adm := ⟨T.pf, ok_pf T⟩
abbrev cfgA (T : Tables) : Pipeline.Cfg sig Λ₀ := cfg0 (F := Ideal) (adm T)
abbrev pcs (T : Tables) : Fin 1 → Pipeline.Cfg sig Λ₀ := Pipeline.pin (pcfgs (F := Ideal)) fun _ => adm T

variable (T : Tables)

abbrev crd (t : Fin (cfgA T).N) : (cfgA T).grid.Coords := (cfgA T).grid.coords t

theorem points : (cfgA T).N = 256 := N_0

theorem coords_val : ∀ t : Fin grid0.N, (grid0.coords t 0).val = t.val := by decide +kernel
theorem crd_val (t : Fin (cfgA T).N) : (crd T t 0).val = t.val := coords_val t

theorem index4 (t : Fin (cfgA T).N) : ((cfgA T).win (4 : Fin 5)).index t = ![T.row t.val, 0] := by
  have h := map4_eq T (crd T t)
  rw [crd_val] at h
  exact h

theorem index0 (t : Fin (cfgA T).N) : ((cfgA T).win (0 : Fin 5)).index t = ![T.row t.val, 0] := by
  have h := map0_eq T (crd T t)
  rw [crd_val] at h
  exact h

/-- The output is left alone exactly at the points that are not active. -/
theorem idle4 (t : Fin (cfgA T).N) : (cfgA T).idle (4 : Fin 5) (crd T t) = decide (T.count ≤ t.val) := by
  have h := active_iff T (crd T t)
  rw [crd_val] at h
  have hd : T.pf.atD 1 ![0] = T.n (ix1 0) := by
    unfold Pipeline.Prefetch.Contents.atD
    rw [dif_pos (by decide)]
    exact congrArg T.n (idx1_eq _ 0 rfl)
  show (!(k0_cond2 (crd T t) (T.pf.atD 1 ![0]) == 1#1)) = _
  rw [hd]
  by_cases hc : t.val < T.count
  · rw [h.2 hc]; simp; omega
  · have : ¬ k0_cond2 (crd T t) (T.n (ix1 0)) = 1#1 := mt h.1 hc
    rw [beq_eq_false_iff_ne.2 this]; simp; omega

/-- The output block is written back after the last point and after every active block but the last. -/
theorem flush4 (t : Fin (cfgA T).N) : ((cfgA T).win (4 : Fin 5)).flush t = decide (t.val + 1 = 256 ∨ t.val + 1 < T.count) := by
  have h1 := T.count_pos; have h2 := T.count_le
  have hi : ∀ (h : t.val + 1 < (cfgA T).N), ((cfgA T).win (4 : Fin 5)).index ⟨t.val + 1, h⟩ ≠ ((cfgA T).win (4 : Fin 5)).index t ↔ t.val + 1 < T.count := by
    intro h
    rw [index4, index4]
    constructor
    · intro hne
      by_contra hc
      refine hne (congrArg (fun k : ℕ => (![k, 0] : Fin 2 → ℕ)) ?_)
      unfold Tables.row; show min (t.val + 1) _ = _; omega
    · intro hc he
      have := congrFun he 0
      change T.row (t.val + 1) = T.row t.val at this
      unfold Tables.row at this; omega
  have ht : t.val < 256 := t.isLt
  unfold Pipeline.Window.flush
  show (true && _) = _
  rw [Bool.true_and]
  by_cases hl : t.val + 1 = 256
  · rw [decide_eq_true (show t.val + 1 = (cfgA T).grid.N from hl), Bool.true_or, decide_eq_true (Or.inl hl)]
  · have hlt : t.val + 1 < (cfgA T).N := by show t.val + 1 < 256; omega
    rw [show (decide (t.val + 1 = (cfgA T).grid.N)) = false from decide_eq_false hl, Bool.false_or, decide_eq_decide]
    constructor
    · rintro ⟨h, hne⟩; exact Or.inr ((hi h).1 hne)
    · rintro (h | h)
      · exact absurd h hl
      · exact ⟨hlt, (hi hlt).2 h⟩

/-- Before an active point the output's buffer holds nothing yet; before any other it holds the last active block's rows. -/
theorem fresh4 (n : ℕ) (h : n < 256) : (cfgA T).fresh (4 : Fin 5) n = decide (n < T.count) := by
  have h1 := T.count_pos; have h2 := T.count_le
  induction n with
  | zero => rw [Pipeline.Cfg.fresh_zero]; exact (decide_eq_true (by omega)).symm
  | succ n ih =>
    rw [Pipeline.Cfg.fresh_succ (cfgA T) (4 : Fin 5) n (show n < 256 by omega), flush4, ih (by omega)]
    have hi := idle4 T ⟨n, show n < 256 by omega⟩
    rw [show (cfgA T).idle (4 : Fin 5) ((cfgA T).grid.coords ⟨n, show n < 256 by omega⟩) = decide (T.count ≤ n) from hi]
    rw [← Bool.decide_and, ← Bool.decide_or, decide_eq_decide]
    show ((n + 1 = 256 ∨ n + 1 < T.count) ∨ (T.count ≤ n ∧ n < T.count)) ↔ _
    omega

end Cert.Kernel5Ideal.Experts

end
-- ==== Proof.Experts5.Runs.lean ====
/- The routed experts' call: the body at one grid point, in the three cases its two conditions leave. An active block whose
   expert is new rounds the expert's weights into the scratches and multiplies by them; an active block whose expert is the
   one before's multiplies by what the scratches hold; a block that is not active touches nothing. -/
module

public import proofs.«01_k».proof.Proof.Gen.Kernel5Ideal.Skeleton
public import proofs.«01_k».proof.Proof.Experts5.Tables

@[expose] public section

set_option maxRecDepth 16384
set_option Elab.async false

noncomputable section

namespace Cert.Kernel5Ideal.Experts

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-- The scratches, whole. -/
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The words a point reads of the tables: the number of active blocks, its block's expert, the expert of the block before. -/
abbrev nWord (T1 : S1.Idx → Elt Ideal .i32) : BitVec 32 :=
  View.readAt (Elt Ideal) tb1.view (Rect.unit (s := S1) ![0] S1.size inb_S1_S1_0).toLoadRect T1 (Shape.Idx.first (numel1_S1.symm ▸ Nat.one_pos))
abbrev eWord (i : grid0.Coords) (T0 : S256.Idx → Elt Ideal .i32) : BitVec 32 :=
  View.readAt (Elt Ideal) tb0.view (Rect.unit (s := S256) (k0_off1 i) S1.size (k0_off1_inb i)).toLoadRect T0 (Shape.Idx.first (numel1_S1.symm ▸ Nat.one_pos))
abbrev pWord (i : grid0.Coords) (T0 : S256.Idx → Elt Ideal .i32) : BitVec 32 :=
  View.readAt (Elt Ideal) tb0.view (Rect.unit (s := S256) (k0_off2 i) S1.size (k0_off2_inb i)).toLoadRect T0 (Shape.Idx.first (numel1_S1.symm ▸ Nat.one_pos))

/-- The body at a point, on its buffers. -/
abbrev bodyOn (i : grid0.Coords) (arg3 : Memref sig .tc .vmem S256x2048 .f32) (harg3 : arg3.IsWhole) (arg4 : Memref sig .tc .vmem S1x1x2048x512 .f32) (harg4 : arg4.IsWhole)
    (arg5 : Memref sig .tc .vmem S1x1x2048x512 .f32) (harg5 : arg5.IsWhole) (arg6 : Memref sig .tc .vmem S1x1x512x2048 .f32) (harg6 : arg6.IsWhole)
    (arg7 : Memref sig .tc .vmem S256x2048 .f32) (harg7 : arg7.IsWhole) : Prog (TpuEff nD τ sig (Elt Ideal) Λ₀ .tc) PUnit :=
  cc0_moe_experts i tb0 (Memref.isWhole_whole _) tb1 (Memref.isWhole_whole _) arg3 harg3 arg4 harg4 arg5 harg5 arg6 harg6 arg7 harg7
    sc0 (Memref.isWhole_whole _) sc1 (Memref.isWhole_whole _) sc2 (Memref.isWhole_whole _)

set_option backward.proofsInPublic true in
set_option maxHeartbeats 8000000 in
/-- An active block of a new expert: the pieces it stores in the output's buffer and what it leaves in the scratches, found by
    running the body. -/
noncomputable def runLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) :
    Σ' (out0 : List (View.Piece (Elt Ideal) S256x2048 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out0)
              ∗ (sc0.view.loc (c : Thread nD τ) ↦{fullShare} out1)
              ∗ (sc1.view.loc (c : Thread nD τ) ↦{fullShare} out2)
              ∗ (sc2.view.loc (c : Thread nD τ) ↦{fullShare} out3)) -∗ K ⟨⟩))
          ⊢ wp frame (wpE (defs₀ (F := Ideal)) Variants.none c none) Set.univ (bodyOn i arg3 harg3 arg4 harg4 arg5 harg5 arg6 harg6 arg7 harg7) K } :=
  ⟨_, _, _, _, fun xa0 xa1 xa2 K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = Scalar.cmpi = _; exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An active block of the expert before: the pieces it stores in the output's buffer; the scratches keep what they hold. -/
noncomputable def runKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) :
    { out0 : List (View.Piece (Elt Ideal) S256x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out0)
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Ideal)) Variants.none c none) Set.univ (bodyOn i arg3 harg3 arg4 harg4 arg5 harg5 arg6 harg6 arg7 harg7) K } :=
  ⟨_, fun K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A block that is not active: every buffer keeps what it holds. -/
theorem runSkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (y4 : S256x2048.Idx → Elt Ideal .f32)
    (hl : ¬ loadWord i (nWord T1) (eWord i T0) (pWord i T0) = 1#1) (ha : ¬ k0_cond2 i (nWord T1) = 1#1) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ owns (c : Thread nD τ) arg7 fullShare y4
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Ideal)) Variants.none c none) Set.univ (bodyOn i arg3 harg3 arg4 harg4 arg5 harg5 arg6 harg6 arg7 harg7) K := by
    unfold owns bodyOn
    rw [cc0_moe_experts_eq_skeleton]; unfold cc0_moe_experts_skel
    iintro ⟨H0, H1, H2, H3, HT0, HT1, ⟨%f4, %hf4, HO4⟩, HS0, HS1, HS2, Hk⟩
    obtain rfl := harg7.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = ¬(k0_cond2 _ _ = _); exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    iexact HS2

end Cert.Kernel5Ideal.Experts

end
-- ==== Proof.Experts5.Body.lean ====
/- The routed experts' call: what the body's runs leave, as values — the feed-forward of the row block in the output's buffer, the
   rounded weights in the scratches — and the body's triples at those values. -/
module

public import proofs.«01_k».proof.Proof.Experts5.Runs

@[expose] public section

set_option maxRecDepth 16384
set_option Elab.async false

noncomputable section

namespace Cert.Kernel5Ideal.Experts

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-! ## What the runs leave -/

/-- The output's buffer, through which stored pieces are read back. -/
abbrev VO : View sig .tc .vmem S256x2048 .f32 := (Memref.whole cc0_stg4_0 : Memref sig .tc .vmem S256x2048 .f32).view

theorem hz : (![0, 0] : Fin 2 → Nat) = fun _ => 0 := funext fun a => by fin_cases a <;> rfl
theorem hz4 : (![0, 0, 0, 0] : Fin 4 → Nat) = fun _ => 0 := funext fun a => by fin_cases a <;> rfl

/-- A scratch read whole is its contents, -/
theorem read0 (f : S2048x512.Idx → Elt Ideal .bf16) : View.read (Elt Ideal) (View.whole cc0_scratch0) f = f := rfl
theorem read1 (f : S2048x512.Idx → Elt Ideal .bf16) : View.read (Elt Ideal) (View.whole cc0_scratch1) f = f := rfl
theorem read2 (f : S512x2048.Idx → Elt Ideal .bf16) : View.read (Elt Ideal) (View.whole cc0_scratch2) f = f := rfl

/-- … and stored whole it holds what was stored. -/
theorem stored0 (w : S2048x512.Idx → Elt Ideal .bf16) (inb : ∀ a, (![0, 0] : Fin 2 → Nat) a + S2048x512.size a ≤ S2048x512.size a) :
    (View.whole cc0_scratch0).writes (Elt Ideal) (View.whole cc0_scratch0).junk [(⟨Rect.unit (s := S2048x512) ![0, 0] S2048x512.size inb, w⟩ : View.Piece (Elt Ideal) S2048x512 .bf16)] = w :=
  (read0 _).symm.trans ((View.read_writes_eq_canon _ _ _ (View.cover_of_tiledL [(⟨Rect.unit (s := S2048x512) ![0, 0] S2048x512.size inb, w⟩ : View.Piece (Elt Ideal) S2048x512 .bf16)] S2048x512.size (by sl_kernel_rfl))).trans
    (View.canon_unit_zero hz inb w))

theorem stored1 (w : S2048x512.Idx → Elt Ideal .bf16) (inb : ∀ a, (![0, 0] : Fin 2 → Nat) a + S2048x512.size a ≤ S2048x512.size a) :
    (View.whole cc0_scratch1).writes (Elt Ideal) (View.whole cc0_scratch1).junk [(⟨Rect.unit (s := S2048x512) ![0, 0] S2048x512.size inb, w⟩ : View.Piece (Elt Ideal) S2048x512 .bf16)] = w :=
  (read1 _).symm.trans ((View.read_writes_eq_canon _ _ _ (View.cover_of_tiledL [(⟨Rect.unit (s := S2048x512) ![0, 0] S2048x512.size inb, w⟩ : View.Piece (Elt Ideal) S2048x512 .bf16)] S2048x512.size (by sl_kernel_rfl))).trans
    (View.canon_unit_zero hz inb w))

theorem stored2 (w : S512x2048.Idx → Elt Ideal .bf16) (inb : ∀ a, (![0, 0] : Fin 2 → Nat) a + S512x2048.size a ≤ S512x2048.size a) :
    (View.whole cc0_scratch2).writes (Elt Ideal) (View.whole cc0_scratch2).junk [(⟨Rect.unit (s := S512x2048) ![0, 0] S512x2048.size inb, w⟩ : View.Piece (Elt Ideal) S512x2048 .bf16)] = w :=
  (read2 _).symm.trans ((View.read_writes_eq_canon _ _ _ (View.cover_of_tiledL [(⟨Rect.unit (s := S512x2048) ![0, 0] S512x2048.size inb, w⟩ : View.Piece (Elt Ideal) S512x2048 .bf16)] S512x2048.size (by sl_kernel_rfl))).trans
    (View.canon_unit_zero hz inb w))

theorem coverLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) (y : S256x2048.Idx) :
    ∃ pc ∈ (runLoad c i arg3 harg3 arg4 harg4 arg5 harg5 arg6 harg6 arg7 harg7 T0 T1 x0 x1 x2 x3 hl ha).1, y ∈ pc.1.set :=
  View.cover_of_tiledL (runLoad c i arg3 harg3 arg4 harg4 arg5 harg5 arg6 harg6 arg7 harg7 T0 T1 x0 x1 x2 x3 hl ha).1 S256x2048.size (by sl_kernel_rfl) y

theorem coverKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) (y : S256x2048.Idx) :
    ∃ pc ∈ (runKeep c i arg3 harg3 arg4 harg4 arg5 harg5 arg6 harg6 arg7 harg7 T0 T1 x0 x1 x2 x3 xa0 xa1 xa2 hl ha).1, y ∈ pc.1.set :=
  View.cover_of_tiledL (runKeep c i arg3 harg3 arg4 harg4 arg5 harg5 arg6 harg6 arg7 harg7 T0 T1 x0 x1 x2 x3 xa0 xa1 xa2 hl ha).1 S256x2048.size (by sl_kernel_rfl) y

theorem outLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) :
    VO.read (Elt Ideal) (VO.writes (Elt Ideal) VO.junk (runLoad c i arg3 harg3 arg4 harg4 arg5 harg5 arg6 harg6 arg7 harg7 T0 T1 x0 x1 x2 x3 hl ha).1) = k0_pay4 x0 (k0_pay1 x1) (k0_pay2 x2) (k0_pay3 x3) := by
  rw [View.read_writes_eq_canon _ _ _ (coverLoad c i arg3 harg3 arg4 harg4 arg5 harg5 arg6 harg6 arg7 harg7 T0 T1 x0 x1 x2 x3 hl ha)]
  unfold runLoad
  dsimp only
  sl_unfold_words
  rw [View.canon_unit_zero hz]
  simp only [View.readAt_eq_ld, View.read_rep,
    View.readCov_unit_zero (S := S2048x512) _ hz, View.readCov_unit_zero (S := S512x2048) _ hz,
    View.ld_unit_zero (S := S2048x512) hz, View.ld_unit_zero (S := S512x2048) hz, View.ld_unit_zero (S := S256x2048) hz,
    View.ld_unit_zero (S := S1x1x2048x512) hz4, View.ld_unit_zero (S := S1x1x512x2048) hz4]

theorem outKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) :
    VO.read (Elt Ideal) (VO.writes (Elt Ideal) VO.junk (runKeep c i arg3 harg3 arg4 harg4 arg5 harg5 arg6 harg6 arg7 harg7 T0 T1 x0 x1 x2 x3 xa0 xa1 xa2 hl ha).1) = k0_pay4 x0 xa0 xa1 xa2 := by
  rw [View.read_writes_eq_canon _ _ _ (coverKeep c i arg3 harg3 arg4 harg4 arg5 harg5 arg6 harg6 arg7 harg7 T0 T1 x0 x1 x2 x3 xa0 xa1 xa2 hl ha)]
  unfold runKeep
  dsimp only
  sl_unfold_words
  rw [View.canon_unit_zero hz]
  simp only [View.readAt_eq_ld, View.read_rep,
    View.ld_unit_zero (S := S2048x512) hz, View.ld_unit_zero (S := S512x2048) hz, View.ld_unit_zero (S := S256x2048) hz]
  rw [read0, read1, read2]

theorem gateLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.1 = k0_pay1 x1 := by
  unfold runLoad
  dsimp only
  sl_unfold_words
  simp only [View.readAt_eq_ld, View.read_rep, View.ld_unit_zero (S := S1x1x2048x512) hz4]
  rw [stored0]

theorem upLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.1 = k0_pay2 x2 := by
  unfold runLoad
  dsimp only
  sl_unfold_words
  simp only [View.readAt_eq_ld, View.read_rep, View.ld_unit_zero (S := S1x1x2048x512) hz4]
  rw [stored1]

theorem downLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.2.1 = k0_pay3 x3 := by
  unfold runLoad
  dsimp only
  sl_unfold_words
  simp only [View.readAt_eq_ld, View.read_rep, View.ld_unit_zero (S := S1x1x512x2048) hz4]
  rw [stored2]

end Cert.Kernel5Ideal.Experts

end
-- ==== Proof.Experts5.Triples.lean ====
/- The routed experts' call: the body's triple at one grid point, in each of its three cases. -/
module

public import proofs.«01_k».proof.Proof.Experts5.Body

@[expose] public section

set_option maxRecDepth 16384
set_option Elab.async false

noncomputable section

namespace Cert.Kernel5Ideal.Experts

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-! ## The body's triples -/

set_option maxHeartbeats 4000000 in
/-- An active block of a new expert. -/
theorem bodyLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (hl : loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (∃ a : Buf (Elt Ideal) ((c : Thread nD τ).loc cc0_scratch0), sc0.view.loc (c : Thread nD τ) ↦{fullShare} a)
      ∗ (∃ a : Buf (Elt Ideal) ((c : Thread nD τ).loc cc0_scratch1), sc1.view.loc (c : Thread nD τ) ↦{fullShare} a)
      ∗ (∃ a : Buf (Elt Ideal) ((c : Thread nD τ).loc cc0_scratch2), sc2.view.loc (c : Thread nD τ) ↦{fullShare} a)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 (k0_pay1 x1) (k0_pay2 x2) (k0_pay3 x3))
          ∗ (sc0.view.loc (c : Thread nD τ) ↦{fullShare} k0_pay1 x1)
          ∗ (sc1.view.loc (c : Thread nD τ) ↦{fullShare} k0_pay2 x2)
          ∗ (sc2.view.loc (c : Thread nD τ) ↦{fullShare} k0_pay3 x3)) -∗ K ⟨⟩))
      ⊢ wp frame (wpE (defs₀ (F := Ideal)) Variants.none c none) Set.univ (bodyOn i arg3 harg3 arg4 harg4 arg5 harg5 arg6 harg6 arg7 harg7) K := by
  have hg := gateLoad c i arg3 harg3 arg4 harg4 arg5 harg5 arg6 harg6 arg7 harg7 T0 T1 x0 x1 x2 x3 hl ha
  have hu := upLoad c i arg3 harg3 arg4 harg4 arg5 harg5 arg6 harg6 arg7 harg7 T0 T1 x0 x1 x2 x3 hl ha
  have hd := downLoad c i arg3 harg3 arg4 harg4 arg5 harg5 arg6 harg6 arg7 harg7 T0 T1 x0 x1 x2 x3 hl ha
  have ho := outLoad c i arg3 harg3 arg4 harg4 arg5 harg5 arg6 harg6 arg7 harg7 T0 T1 x0 x1 x2 x3 hl ha
  have hv := coverLoad c i arg3 harg3 arg4 harg4 arg5 harg5 arg6 harg6 arg7 harg7 T0 T1 x0 x1 x2 x3 hl ha
  generalize runLoad c i arg3 harg3 arg4 harg4 arg5 harg5 arg6 harg6 arg7 harg7 T0 T1 x0 x1 x2 x3 hl ha = r at hg hu hd ho hv
  obtain ⟨o0, o1, o2, o3, run⟩ := r
  dsimp only at hg hu hd ho hv
  subst hg hu hd
  iintro ⟨H0, H1, H2, H3, HT0, HT1, H4, ⟨%a0, HS0⟩, ⟨%a1, HS1⟩, ⟨%a2, HS2⟩, Hk⟩
  iapply (run a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- An active block of the expert before. -/
theorem bodyKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2))
    (hl : ¬ loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 xa0 xa1 xa2)
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Ideal)) Variants.none c none) Set.univ (bodyOn i arg3 harg3 arg4 harg4 arg5 harg5 arg6 harg6 arg7 harg7) K := by
  have ho := outKeep c i arg3 harg3 arg4 harg4 arg5 harg5 arg6 harg6 arg7 harg7 T0 T1 x0 x1 x2 x3 xa0 xa1 xa2 hl ha
  have hv := coverKeep c i arg3 harg3 arg4 harg4 arg5 harg5 arg6 harg6 arg7 harg7 T0 T1 x0 x1 x2 x3 xa0 xa1 xa2 hl ha
  generalize runKeep c i arg3 harg3 arg4 harg4 arg5 harg5 arg6 harg6 arg7 harg7 T0 T1 x0 x1 x2 x3 xa0 xa1 xa2 hl ha = r at ho hv
  obtain ⟨o0, run⟩ := r
  dsimp only at ho hv
  iintro ⟨H0, H1, H2, H3, HT0, HT1, H4, HS0, HS1, HS2, Hk⟩
  iapply (run K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- A block that is not active. -/
theorem bodySkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Ideal .i32) (T1 : S1.Idx → Elt Ideal .i32) (x0 : S256x2048.Idx → Elt Ideal .f32) (x1 x2 : S1x1x2048x512.Idx → Elt Ideal .f32)
    (x3 : S1x1x512x2048.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (y4 : S256x2048.Idx → Elt Ideal .f32)
    (hl : ¬ loadWord i (nWord T1) (eWord i T0) (pWord i T0) = 1#1) (ha : ¬ k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare y4
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Ideal)) Variants.none c none) Set.univ (bodyOn i arg3 harg3 arg4 harg4 arg5 harg5 arg6 harg6 arg7 harg7) K := by
  iintro ⟨H0, H1, H2, H3, HT0, HT1, H4, HS0, HS1, HS2, Hk⟩
  iapply (runSkip c i arg3 harg3 arg4 harg4 arg5 harg5 arg6 harg6 arg7 harg7 T0 T1 x0 x1 x2 x3 xa0 xa1 xa2 y4 hl ha K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · iexact H4
  isplitl [HS0]; · iexact HS0
  isplitl [HS1]; · iexact HS1
  iexact HS2

end Cert.Kernel5Ideal.Experts

end
-- ==== Proof.Experts5.Frame.lean ====
/- The routed experts' call: the pipeline's data in closed form — after point `n` the scratches hold the rounded weights of the
   last active block up to `n`, the output's buffer its feed-forward — the body's obligation from the three triples, and the
   launch: at tables in their ranges every execution ends, nothing faults, and the arguments end unchanged. -/
module

public import proofs.«01_k».proof.Proof.Experts5.Triples
public import Idealize.ShloMosaic.Lib.Pipeline.Quiescent
public import Idealize.ShloMosaic.Lib.Claim

@[expose] public section

set_option maxRecDepth 16384
set_option Elab.async false

noncomputable section

namespace Cert.Kernel5Ideal.Experts

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (T : Tables) (m : (ℓ : Loc nD τ sig) → Buf (Elt Ideal) ℓ) (ρ : Dev nD → PrngReg)

/-- The launch memory holds the tables. -/
def Holds : Prop :=
  (∀ c : Dev nD, m ((c : Thread nD τ).loc main_arg0) = T.e) ∧ (∀ c : Dev nD, m ((c : Thread nD τ).loc main_arg1) = T.n)

/-! ## Staging buffers and blocks -/

abbrev ms0 (t : Fin (cfgA T).N) : Memref sig .tc .vmem S256x2048 .f32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1x2048x512 .f32 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1x2048x512 .f32 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1x512x2048 .f32 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S256x2048 .f32 := spec0_4.stage ((cfgA T).slots t (4 : Fin 5))
abbrev hs4 (t : Fin (cfgA T).N) : (ms4 T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The expert of block `n`, as an index of the weights. -/
def Tables.expert (T : Tables) (b : Fin 256) : Fin 64 := ⟨(T.e (ix1 b)).toNat, T.he _⟩

/-- The grid point's block. -/
abbrev blk (t : Fin (cfgA T).N) : Fin 256 := ⟨t.val, t.isLt⟩

theorem index1 (t : Fin (cfgA T).N) : ((cfgA T).win (1 : Fin 5)).index t = ![1, (T.expert (blk T t)).val, 0, 0] := by
  have h := map1_eq T (crd T t)
  rw [show blockOf (crd T t) = blk T t from Fin.ext (crd_val T t)] at h
  exact h
theorem index2 (t : Fin (cfgA T).N) : ((cfgA T).win (2 : Fin 5)).index t = ![1, (T.expert (blk T t)).val, 0, 0] := by
  have h := map2_eq T (crd T t)
  rw [show blockOf (crd T t) = blk T t from Fin.ext (crd_val T t)] at h
  exact h
theorem index3 (t : Fin (cfgA T).N) : ((cfgA T).win (3 : Fin 5)).index t = ![1, (T.expert (blk T t)).val, 0, 0] := by
  have h := map3_eq T (crd T t)
  rw [show blockOf (crd T t) = blk T t from Fin.ext (crd_val T t)] at h
  exact h

/-- The gate weights' window at a point: its block's expert's. -/
theorem gate_at (c : Dev nD) (t : Fin (cfgA T).N) (j : S1x1x2048x512.Idx) : (iblk T m ρ c (1 : Fin 5) t : S1x1x2048x512.Idx → Elt Ideal .f32) j
    = (m ((c : Thread nD τ).loc main_arg3) : S2x64x2048x512.Idx → Elt Ideal .f32) (ix4 (1 : Fin 2) (T.expert (blk T t)) (j 2 : Fin 2048) (j 3 : Fin 512)) := by
  have p := index1 T t
  unfold iblk
  rw [View.read_apply]
  show m ((c : Thread nD τ).loc main_arg3) _ = m ((c : Thread nD τ).loc main_arg3) _
  congr 1
  funext a
  apply Fin.ext
  have h0 : (j 0).val < 1 := (j 0).isLt
  have h1 : (j 1).val < 1 := (j 1).isLt
  match a with
  | ⟨0, _⟩ => show ((cfgA T).win (1 : Fin 5)).index t (0 : Fin 4) * 1 + 1 * (j 0).val = 1; rw [p]; show 1 * 1 + 1 * (j 0).val = 1; omega
  | ⟨1, _⟩ => show ((cfgA T).win (1 : Fin 5)).index t (1 : Fin 4) * 1 + 1 * (j 1).val = (T.expert (blk T t)).val; rw [p]; show (T.expert (blk T t)).val * 1 + 1 * (j 1).val = _; omega
  | ⟨2, _⟩ => show ((cfgA T).win (1 : Fin 5)).index t (2 : Fin 4) * 2048 + 1 * (j 2).val = (j 2).val; rw [p]; show 0 * 2048 + 1 * (j 2).val = _; omega
  | ⟨3, _⟩ => show ((cfgA T).win (1 : Fin 5)).index t (3 : Fin 4) * 512 + 1 * (j 3).val = (j 3).val; rw [p]; show 0 * 512 + 1 * (j 3).val = _; omega

/-- The up weights' window at a point: its block's expert's. -/
theorem up_at (c : Dev nD) (t : Fin (cfgA T).N) (j : S1x1x2048x512.Idx) : (iblk T m ρ c (2 : Fin 5) t : S1x1x2048x512.Idx → Elt Ideal .f32) j
    = (m ((c : Thread nD τ).loc main_arg4) : S2x64x2048x512.Idx → Elt Ideal .f32) (ix4 (1 : Fin 2) (T.expert (blk T t)) (j 2 : Fin 2048) (j 3 : Fin 512)) := by
  have p := index2 T t
  unfold iblk
  rw [View.read_apply]
  show m ((c : Thread nD τ).loc main_arg4) _ = m ((c : Thread nD τ).loc main_arg4) _
  congr 1
  funext a
  apply Fin.ext
  have h0 : (j 0).val < 1 := (j 0).isLt
  have h1 : (j 1).val < 1 := (j 1).isLt
  match a with
  | ⟨0, _⟩ => show ((cfgA T).win (2 : Fin 5)).index t (0 : Fin 4) * 1 + 1 * (j 0).val = 1; rw [p]; show 1 * 1 + 1 * (j 0).val = 1; omega
  | ⟨1, _⟩ => show ((cfgA T).win (2 : Fin 5)).index t (1 : Fin 4) * 1 + 1 * (j 1).val = (T.expert (blk T t)).val; rw [p]; show (T.expert (blk T t)).val * 1 + 1 * (j 1).val = _; omega
  | ⟨2, _⟩ => show ((cfgA T).win (2 : Fin 5)).index t (2 : Fin 4) * 2048 + 1 * (j 2).val = (j 2).val; rw [p]; show 0 * 2048 + 1 * (j 2).val = _; omega
  | ⟨3, _⟩ => show ((cfgA T).win (2 : Fin 5)).index t (3 : Fin 4) * 512 + 1 * (j 3).val = (j 3).val; rw [p]; show 0 * 512 + 1 * (j 3).val = _; omega

/-- The down weights' window at a point: its block's expert's. -/
theorem down_at (c : Dev nD) (t : Fin (cfgA T).N) (j : S1x1x512x2048.Idx) : (iblk T m ρ c (3 : Fin 5) t : S1x1x512x2048.Idx → Elt Ideal .f32) j
    = (m ((c : Thread nD τ).loc main_arg5) : S2x64x512x2048.Idx → Elt Ideal .f32) (ix4 (1 : Fin 2) (T.expert (blk T t)) (j 2 : Fin 512) (j 3 : Fin 2048)) := by
  have p := index3 T t
  unfold iblk
  rw [View.read_apply]
  show m ((c : Thread nD τ).loc main_arg5) _ = m ((c : Thread nD τ).loc main_arg5) _
  congr 1
  funext a
  apply Fin.ext
  have h0 : (j 0).val < 1 := (j 0).isLt
  have h1 : (j 1).val < 1 := (j 1).isLt
  match a with
  | ⟨0, _⟩ => show ((cfgA T).win (3 : Fin 5)).index t (0 : Fin 4) * 1 + 1 * (j 0).val = 1; rw [p]; show 1 * 1 + 1 * (j 0).val = 1; omega
  | ⟨1, _⟩ => show ((cfgA T).win (3 : Fin 5)).index t (1 : Fin 4) * 1 + 1 * (j 1).val = (T.expert (blk T t)).val; rw [p]; show (T.expert (blk T t)).val * 1 + 1 * (j 1).val = _; omega
  | ⟨2, _⟩ => show ((cfgA T).win (3 : Fin 5)).index t (2 : Fin 4) * 512 + 1 * (j 2).val = (j 2).val; rw [p]; show 0 * 512 + 1 * (j 2).val = _; omega
  | ⟨3, _⟩ => show ((cfgA T).win (3 : Fin 5)).index t (3 : Fin 4) * 2048 + 1 * (j 3).val = (j 3).val; rw [p]; show 0 * 2048 + 1 * (j 3).val = _; omega

/-! ## What the buffers hold after each point -/

/-- The last active point up to `n`. -/
def last (n : ℕ) : Fin (cfgA T).N := ⟨T.row n, by have h := T.count_pos; have h' := T.count_le; show T.row n < 256; unfold Tables.row; omega⟩

def gateAfter (c : Dev nD) (n : ℕ) : S2048x512.Idx → Elt Ideal .bf16 := k0_pay1 (iblk T m ρ c (1 : Fin 5) (last T n))
def upAfter (c : Dev nD) (n : ℕ) : S2048x512.Idx → Elt Ideal .bf16 := k0_pay2 (iblk T m ρ c (2 : Fin 5) (last T n))
def downAfter (c : Dev nD) (n : ℕ) : S512x2048.Idx → Elt Ideal .bf16 := k0_pay3 (iblk T m ρ c (3 : Fin 5) (last T n))
def outAfter (c : Dev nD) (n : ℕ) : S256x2048.Idx → Elt Ideal .f32 :=
  k0_pay4 (iblk T m ρ c (0 : Fin 5) (last T n)) (gateAfter T m ρ c n) (upAfter T m ρ c n) (downAfter T m ρ c n)

/-- An active point is its own last active one; -/
theorem last_active (t : Fin (cfgA T).N) (h : t.val < T.count) : last T t.val = t :=
  Fin.ext (by show T.row t.val = t.val; unfold Tables.row; omega)

/-- one that is not shares the point before's. -/
theorem last_idle (n : ℕ) (h : T.count ≤ n) : last T n = last T (n - 1) :=
  Fin.ext (by have := T.count_pos; show T.row n = T.row (n - 1); unfold Tables.row; omega)

theorem outAfter_idle (c : Dev nD) (n : ℕ) (h : T.count ≤ n) : outAfter T m ρ c n = outAfter T m ρ c (n - 1) := by
  unfold outAfter gateAfter upAfter downAfter; rw [last_idle T n h]
theorem gateAfter_idle (c : Dev nD) (n : ℕ) (h : T.count ≤ n) : gateAfter T m ρ c n = gateAfter T m ρ c (n - 1) := by
  unfold gateAfter; rw [last_idle T n h]
theorem upAfter_idle (c : Dev nD) (n : ℕ) (h : T.count ≤ n) : upAfter T m ρ c n = upAfter T m ρ c (n - 1) := by
  unfold upAfter; rw [last_idle T n h]
theorem downAfter_idle (c : Dev nD) (n : ℕ) (h : T.count ≤ n) : downAfter T m ρ c n = downAfter T m ρ c (n - 1) := by
  unfold downAfter; rw [last_idle T n h]

/-- A point of the expert before finds its weights in the scratches. -/
theorem same_expert (t : Fin (cfgA T).N) (h : t.val < T.count) (h0 : t.val ≠ 0) (he : T.e (ix1 (blk T t)) = T.e (ix1 (before (blk T t)))) :
    T.expert (blk T (last T t.val)) = T.expert (blk T (last T (t.val - 1))) := by
  rw [last_active T t h]
  have hb : blk T (last T (t.val - 1)) = before (blk T t) :=
    Fin.ext (by show T.row (t.val - 1) = t.val - 1; unfold Tables.row; omega)
  rw [hb]; unfold Tables.expert
  exact Fin.ext (congrArg BitVec.toNat he)

theorem gateAfter_same (c : Dev nD) (t : Fin (cfgA T).N) (h : t.val < T.count) (h0 : t.val ≠ 0) (he : T.e (ix1 (blk T t)) = T.e (ix1 (before (blk T t)))) :
    gateAfter T m ρ c t.val = gateAfter T m ρ c (t.val - 1) := by
  have hx : (iblk T m ρ c (1 : Fin 5) (last T t.val) : S1x1x2048x512.Idx → Elt Ideal .f32) = iblk T m ρ c (1 : Fin 5) (last T (t.val - 1)) :=
    funext fun j => by rw [gate_at, gate_at, same_expert T t h h0 he]
  exact congrArg k0_pay1 hx

theorem upAfter_same (c : Dev nD) (t : Fin (cfgA T).N) (h : t.val < T.count) (h0 : t.val ≠ 0) (he : T.e (ix1 (blk T t)) = T.e (ix1 (before (blk T t)))) :
    upAfter T m ρ c t.val = upAfter T m ρ c (t.val - 1) := by
  have hx : (iblk T m ρ c (2 : Fin 5) (last T t.val) : S1x1x2048x512.Idx → Elt Ideal .f32) = iblk T m ρ c (2 : Fin 5) (last T (t.val - 1)) :=
    funext fun j => by rw [up_at, up_at, same_expert T t h h0 he]
  exact congrArg k0_pay2 hx

theorem downAfter_same (c : Dev nD) (t : Fin (cfgA T).N) (h : t.val < T.count) (h0 : t.val ≠ 0) (he : T.e (ix1 (blk T t)) = T.e (ix1 (before (blk T t)))) :
    downAfter T m ρ c t.val = downAfter T m ρ c (t.val - 1) := by
  have hx : (iblk T m ρ c (3 : Fin 5) (last T t.val) : S1x1x512x2048.Idx → Elt Ideal .f32) = iblk T m ρ c (3 : Fin 5) (last T (t.val - 1)) :=
    funext fun j => by rw [down_at, down_at, same_expert T t h h0 he]
  exact congrArg k0_pay3 hx

/-! ## The pipeline's data -/

/-- Before point `t`: each scratch at what the point before leaves (anything before the first), and the body's share of the tables. -/
def Phi (c : Dev nD) (t : Fin ((cfgA T).N + 1)) : sProp 𝕄 :=
  iprop((∃ a, ⌜t.val ≠ 0 → a = gateAfter T m ρ c (t.val - 1)⌝ ∗ (sc0.view.loc (c : Thread nD τ) ↦{fullShare} a))
    ∗ (∃ a, ⌜t.val ≠ 0 → a = upAfter T m ρ c (t.val - 1)⌝ ∗ (sc1.view.loc (c : Thread nD τ) ↦{fullShare} a))
    ∗ (∃ a, ⌜t.val ≠ 0 → a = downAfter T m ρ c (t.val - 1)⌝ ∗ (sc2.view.loc (c : Thread nD τ) ↦{fullShare} a))
    ∗ (tb0.view.loc (c : Thread nD τ) ↦{fullShare.right} T.e) ∗ (tb1.view.loc (c : Thread nD τ) ↦{fullShare.right} T.n))

/-- The data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAfter T m ρ c t.val
  Φ t := Phi T m ρ c t
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = outAfter T m ρ c t.val := rfl

/-- An input's window holds its block. -/
theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's window, at a point that is not active, holds the last active block's feed-forward. -/
theorem before4 (c : Dev nD) (t : Fin (cfgA T).N) (h : T.count ≤ t.val) (d) :
    (dats T m ρ 0 c).before (4 : Fin 5) t d = outAfter T m ρ c (t.val - 1) := by
  have hc : ∀ (t : Fin (cfgA T).N) (ht : t.val ≠ 0), (cfgA T).idle (4 : Fin 5) ((cfgA T).grid.coords t) = true → (cfgA T).fresh (4 : Fin 5) t.val = false →
      (dats T m ρ 0 c).after (4 : Fin 5) t = (dats T m ρ 0 c).after (4 : Fin 5) ⟨t.val - 1, by omega⟩ := by
    intro t ht hi _
    rw [show (cfgA T).idle (4 : Fin 5) ((cfgA T).grid.coords t) = decide (T.count ≤ t.val) from idle4 T t] at hi
    rw [after4, after4]
    exact outAfter_idle T m ρ c t.val (of_decide_eq_true hi)
  have h0 : t.val ≠ 0 := by have := T.count_pos; omega
  have hf : (cfgA T).fresh (4 : Fin 5) t.val = false := (fresh4 T t.val t.isLt).trans (decide_eq_false (by omega))
  rw [(dats T m ρ 0 c).before_out_traj (4 : Fin 5) rfl (fun _ _ => rfl) hc t.val t rfl d]
  simp only [hf, Bool.false_eq_true, ↓reduceIte, after4]
  try rw [dif_neg h0]

/-! ## The body's obligation -/

/-- The conditions at a point, from the tables. -/
theorem loads_iff (t : Fin (cfgA T).N) : loadWord (crd T t) (nWord T.n) (eWord (crd T t) T.e) (pWord (crd T t) T.e) = 1#1
    ↔ t.val < T.count ∧ (t.val = 0 ∨ T.e (ix1 (blk T t)) ≠ T.e (ix1 (before (blk T t)))) := by
  have h := load_iff T (crd T t)
  rw [show blockOf (crd T t) = blk T t from Fin.ext (crd_val T t), crd_val] at h
  have hn : nWord T.n = T.n (ix1 0) := read_n T.n
  have he : eWord (crd T t) T.e = T.e (ix1 (blk T t)) := (read_e T.e (crd T t)).trans (congrArg (fun b => T.e (ix1 b)) (Fin.ext (crd_val T t)))
  have hp : pWord (crd T t) T.e = T.e (ix1 (before (blk T t))) := (read_p T.e (crd T t)).trans (congrArg (fun b => T.e (ix1 (before b))) (Fin.ext (crd_val T t)))
  rw [hn, he, hp]
  exact h

theorem actives_iff (t : Fin (cfgA T).N) : k0_cond2 (crd T t) (nWord T.n) = 1#1 ↔ t.val < T.count := by
  have h := active_iff T (crd T t)
  rw [crd_val] at h
  have hn : nWord T.n = T.n (ix1 0) := read_n T.n
  rw [hn]; exact h

abbrev bodyAt (t : Fin (cfgA T).N) : Prog (TpuEff nD τ sig (Elt Ideal) Λ₀ .tc) PUnit :=
  bodyOn (crd T t) (ms0 T t) (hs0 T t) (ms1 T t) (hs1 T t) (ms2 T t) (hs2 T t) (ms3 T t) (hs3 T t) (ms4 T t) (hs4 T t)

/-- The body takes point `t`'s buffers from what they hold before the point to what the data say they hold after it. -/
def SoundAt (c : Dev nD) (t : Fin (cfgA T).N) : Prop :=
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t))

set_option maxHeartbeats 4000000 in
/-- At an active block of a new expert. -/
theorem sound_load (c : Dev nD) (t : Fin (cfgA T).N) (hl : loadWord (crd T t) (nWord T.n) (eWord (crd T t) T.e) (pWord (crd T t) T.e) = 1#1) :
    SoundAt T m ρ c t := by
  unfold SoundAt
  have hlt : t.val < T.count := ((loads_iff T t).1 hl).1
  have i4 : (cfgA T).idle (4 : Fin 5) ((cfgA T).grid.coords t) = false := (idle4 T t).trans (decide_eq_false (by omega))
  have hg : k0_pay1 (iblk T m ρ c (1 : Fin 5) t) = gateAfter T m ρ c t.val := by unfold gateAfter; rw [last_active T t hlt]
  have hu : k0_pay2 (iblk T m ρ c (2 : Fin 5) t) = upAfter T m ρ c t.val := by unfold upAfter; rw [last_active T t hlt]
  have hd : k0_pay3 (iblk T m ρ c (3 : Fin 5) t) = downAfter T m ρ c t.val := by unfold downAfter; rw [last_active T t hlt]
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyLoad c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) hl ((actives_iff T t).2 hlt)
  rw [hg, hu, hd, ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexists _; iexact HS0
  isplitl [HS1]; · iexists _; iexact HS1
  isplitl [HS2]; · iexists _; iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At an active block of the expert before. -/
theorem sound_keep (c : Dev nD) (t : Fin (cfgA T).N) (hl : ¬ loadWord (crd T t) (nWord T.n) (eWord (crd T t) T.e) (pWord (crd T t) T.e) = 1#1)
    (hlt : t.val < T.count) :
    SoundAt T m ρ c t := by
  unfold SoundAt
  have hn := mt (loads_iff T t).2 hl
  have h0 : t.val ≠ 0 := fun h => hn ⟨hlt, Or.inl h⟩
  have he : T.e (ix1 (blk T t)) = T.e (ix1 (before (blk T t))) := by
    by_contra h; exact hn ⟨hlt, Or.inr h⟩
  have i4 : (cfgA T).idle (4 : Fin 5) ((cfgA T).grid.coords t) = false := (idle4 T t).trans (decide_eq_false (by omega))
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyKeep c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) hl ((actives_iff T t).2 hlt)
  rw [ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_same T m ρ c t hlt h0 he, ← upAfter_same T m ρ c t hlt h0 he, ← downAfter_same T m ρ c t hlt h0 he]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At a block that is not active. -/
theorem sound_skip (c : Dev nD) (t : Fin (cfgA T).N) (hge : T.count ≤ t.val) :
    SoundAt T m ρ c t := by
  unfold SoundAt
  have h0 : t.val ≠ 0 := by have := T.count_pos; omega
  have hl : ¬ loadWord (crd T t) (nWord T.n) (eWord (crd T t) T.e) (pWord (crd T t) T.e) = 1#1 :=
    fun h => absurd ((loads_iff T t).1 h).1 (by omega)
  have ha : ¬ k0_cond2 (crd T t) (nWord T.n) = 1#1 := fun h => absurd ((actives_iff T t).1 h) (by omega)
  have i4 : (cfgA T).idle (4 : Fin 5) ((cfgA T).grid.coords t) = true := (idle4 T t).trans (decide_eq_true hge)
  have run := bodySkip c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) (outAfter T m ρ c t.val) hl ha
  rw [bigSep_W0]
  rewrite [i4]
  simp only [before0, before1, before2, before3, before4 T m ρ c t hge, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_idle T m ρ c t.val hge, ← upAfter_idle T m ρ c t.val hge, ← downAfter_idle T m ρ c t.val hge, ← outAfter_idle T m ρ c t.val hge]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  cases f4 : ((cfgA T).win (4 : Fin 5)).flush t
  · iexists d4; iexact H4
  · iexact H4

/-- The body's obligation, at every point. -/
theorem body_obligation (c : Dev nD) : BodyObligation (dats T m ρ 0 c) (defs₀ (F := Ideal)) Variants.none () Set.univ := fun t => by
  rw [bigSep_W0]
  by_cases hl : loadWord (crd T t) (nWord T.n) (eWord (crd T t) T.e) (pWord (crd T t) T.e) = 1#1
  · exact sound_load T m ρ c t hl
  · by_cases hlt : t.val < T.count
    · exact sound_keep T m ρ c t hl hlt
    · exact sound_skip T m ρ c t (by omega)

/-! ## The launch -/

/-- The launch's ghost element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches as the launch hands them; -/
theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- at the last it gives the scratches back. -/
theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The final states: every window's array at what the data compute, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory holding the tables, with zero counters: every weakly fair execution ends in such a state, its counters at zero. -/
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- The arguments end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- The frame: every weakly fair execution ends, nothing faults, the arguments end unchanged and every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Kernel5Ideal.Experts

end
-- ==== Proof.Experts5.Value.lean ====
/- The routed experts' call: what the result array holds after the run, over the extended reals. Every row of an active block
   holds the feed-forward of the same row of the input by its block's expert; the rows of the other blocks are never written. -/
module

public import proofs.«01_k».proof.Proof.Ffn
public import proofs.«01_k».proof.Proof.Experts5.Frame
public import Idealize.ShloMosaic.Lib.Pipeline.Value
public import Idealize.ShloMosaic.Lib.MatmulPlain
public import Idealize.ShloMosaic.Lib.Pointwise
public import Idealize.ShloMosaic.Lib.Tactic

@[expose] public section

set_option maxRecDepth 16384

noncomputable section

namespace Cert.Kernel5Ideal.Experts

open Cert.Kernel5Ideal Cert.Kernel5Ideal.Gen
open Idealize.ShloMosaic Idealize.ShloMosaic.TcCoe
open Idealize.SL.Sem
open Idealize.ShloMosaic.Pipeline (Dat)

/-- The block a row of the result lies in. -/
def rowBlock (i : S65536x2048.Idx) : Fin 256 := ⟨(i 0).val / 256, by have h : (i 0).val < 65536 := (i 0).isLt; omega⟩

/-- The gated linear unit of row `i 0` by its block's expert, times column `i 1` of that expert's down weights. -/
def formula (expert : Fin 256 → Fin 64) (x : FVec Ideal S65536x2048 .f32) (wg wu : FVec Ideal S2x64x2048x512 .f32)
    (wd : FVec Ideal S2x64x512x2048 .f32) : FVec Ideal S65536x2048 .f32 := fun i =>
  ∑ f : Fin 512, Cert.Ffn.hidden (∑ k : Fin 2048, x (ix2 (i 0) k) * wg (ix4 (1 : Fin 2) (expert (rowBlock i)) k f))
    (∑ k : Fin 2048, x (ix2 (i 0) k) * wu (ix4 (1 : Fin 2) (expert (rowBlock i)) k f)) * wd (ix4 (1 : Fin 2) (expert (rowBlock i)) f (i 1))

/-- One element of what an active point computes. -/
theorem block_at (x : FVec Ideal S256x2048 .f32) (wg wu : FVec Ideal S1x1x2048x512 .f32) (wd : FVec Ideal S1x1x512x2048 .f32)
    (r : Fin 256) (l : Fin 2048) : k0_pay4 (F := Ideal) x (k0_pay1 (F := Ideal) wg) (k0_pay2 (F := Ideal) wu) (k0_pay3 (F := Ideal) wd) (ix2 r l)
      = ∑ f : Fin 512, Cert.Ffn.hidden (∑ k : Fin 2048, x (ix2 r k) * wg (ix4 (0 : Fin 1) (0 : Fin 1) k f))
          (∑ k : Fin 2048, x (ix2 r k) * wu (ix4 (0 : Fin 1) (0 : Fin 1) k f)) * wd (ix4 (0 : Fin 1) (0 : Fin 1) f l) := by
  pointwise [k0_pay4, k0_pay1, k0_pay2, k0_pay3]
  rfl

variable (T : Tables) (m : (ℓ : Loc nD τ sig) → Buf (Elt Ideal) ℓ) (ρ : Dev nD → PrngReg)

theorem row_lt (n : ℕ) : T.row n < 256 := by
  have h1 := T.count_pos; have h2 := T.count_le; unfold Tables.row; omega

theorem row_row (n : ℕ) : T.row (T.row n) = T.row n := by unfold Tables.row; omega

/-- The row block at the last active point up to `n`. -/
theorem rows_at (c : Dev nD) (n : ℕ) (r : Fin 256) (k : Fin 2048) :
    (iblk T m ρ c (0 : Fin 5) (last T n) : S256x2048.Idx → Elt Ideal .f32) (ix2 r k)
      = (m ((c : Thread nD τ).loc main_arg2) : S65536x2048.Idx → Elt Ideal .f32)
          (ix2 (⟨T.row n * 256 + r.val, by have := row_lt T n; omega⟩ : Fin 65536) k) := by
  have p := index0 T (last T n)
  rw [show (last T n).val = T.row n from rfl, row_row] at p
  unfold iblk
  rw [View.read_apply]
  show m ((c : Thread nD τ).loc main_arg2) _ = m ((c : Thread nD τ).loc main_arg2) _
  congr 1
  funext a
  apply Fin.ext
  match a with
  | ⟨0, _⟩ => show ((cfgA T).win (0 : Fin 5)).index (last T n) (0 : Fin 2) * 256 + 1 * r.val = T.row n * 256 + r.val; rw [p]; show T.row n * 256 + 1 * r.val = _; omega
  | ⟨1, _⟩ => show ((cfgA T).win (0 : Fin 5)).index (last T n) (1 : Fin 2) * 2048 + 1 * k.val = k.val; rw [p]; show 0 * 2048 + 1 * k.val = _; omega

/-- An element of the output's block at point `t`, in the array. -/
theorem place4 (t : Fin (cfgA T).N) (y : S256x2048.Idx) : ((((cfgA T).win (4 : Fin 5)).blk t).view.emb y : S65536x2048.Idx)
    = ix2 (⟨T.row t.val * 256 + (y 0).val, by have := row_lt T t.val; have h : (y 0).val < 256 := (y 0).isLt; omega⟩ : Fin 65536) (y 1 : Fin 2048) := by
  have p := index4 T t
  funext a
  apply Fin.ext
  match a with
  | ⟨0, _⟩ => show ((cfgA T).win (4 : Fin 5)).index t (0 : Fin 2) * 256 + 1 * (y 0).val = T.row t.val * 256 + (y 0).val; rw [p]; show T.row t.val * 256 + 1 * (y 0).val = _; omega
  | ⟨1, _⟩ => show ((cfgA T).win (4 : Fin 5)).index t (1 : Fin 2) * 2048 + 1 * (y 1).val = (y 1).val; rw [p]; show 0 * 2048 + 1 * (y 1).val = _; omega

/-- The formula at the arguments. -/
abbrev result (c : Dev nD) : S65536x2048.Idx → Elt Ideal .f32 :=
  formula T.expert (m ((c : Thread nD τ).loc main_arg2)) (m ((c : Thread nD τ).loc main_arg3)) (m ((c : Thread nD τ).loc main_arg4)) (m ((c : Thread nD τ).loc main_arg5))

/-- What a point leaves in the output's buffer is the block of the formula it stands at. -/
theorem out_at (c : Dev nD) (n : ℕ) (y : S256x2048.Idx) : outAfter T m ρ c n y
    = result T m c (ix2 (⟨T.row n * 256 + (y 0).val, by have := row_lt T n; have h : (y 0).val < 256 := (y 0).isLt; omega⟩ : Fin 65536) (y 1 : Fin 2048)) := by
  have h0 : (y 0).val < 256 := (y 0).isLt
  have hb : rowBlock (ix2 (⟨T.row n * 256 + (y 0).val, by have := row_lt T n; omega⟩ : Fin 65536) (y 1 : Fin 2048)) = blk T (last T n) :=
    Fin.ext (by show (T.row n * 256 + (y 0).val) / 256 = T.row n; omega)
  unfold outAfter gateAfter upAfter downAfter result formula
  rw [hb]
  refine (congrArg _ (eq_ix2 y)).trans ((block_at _ _ _ _ (y 0) (y 1)).trans ?_)
  refine Finset.sum_congr rfl fun f _ => congrArg₂ (· * ·) (congrArg₂ Cert.Ffn.hidden ?_ ?_) ?_
  · exact Finset.sum_congr rfl fun k _ => congrArg₂ (· * ·) (rows_at T m ρ c n (y 0) k) (gate_at T m ρ c (last T n) _)
  · exact Finset.sum_congr rfl fun k _ => congrArg₂ (· * ·) (rows_at T m ρ c n (y 0) k) (up_at T m ρ c (last T n) _)
  · exact down_at T m ρ c (last T n) _

/-- After the run every row of an active block holds the formula. -/
theorem final (c : Dev nD) (i : S65536x2048.Idx) (hi : (i 0).val < T.count * 256) :
    ((dats T m ρ 0 c).arrAt (4 : Fin 5) (cfgA T).N : S65536x2048.Idx → Elt Ideal .f32) i = result T m c i := by
  have h1 := T.count_pos
  have h2 := T.count_le
  have hr : (i 0).val < 65536 := (i 0).isLt
  have hG : ∀ t, ((cfgA T).win (4 : Fin 5)).flush t = true →
      (dats T m ρ 0 c).flushed (4 : Fin 5) t = (((cfgA T).win (4 : Fin 5)).blk t).view.read (Elt Ideal) (result T m c) := fun t _ => by
    funext (y : S256x2048.Idx)
    rw [View.read_apply]
    exact (out_at T m ρ c t.val y).trans (congrArg (result T m c) (place4 T t y)).symm
  obtain ⟨t, hf, ht⟩ : ∃ t : Fin (cfgA T).N, ((cfgA T).win (4 : Fin 5)).flush t = true ∧ T.row t.val = (i 0).val / 256 := by
    by_cases h : (i 0).val / 256 + 1 < T.count
    · refine ⟨⟨(i 0).val / 256, show (i 0).val / 256 < 256 by omega⟩, (flush4 T _).trans (decide_eq_true (Or.inr h)), ?_⟩
      unfold Tables.row; show min ((i 0).val / 256) _ = _; omega
    · refine ⟨⟨255, show 255 < 256 by omega⟩, (flush4 T _).trans (decide_eq_true (Or.inl rfl)), ?_⟩
      unfold Tables.row; show min 255 _ = _; omega
  have he : i = (((cfgA T).win (4 : Fin 5)).blk t).view.emb (ix2 (⟨(i 0).val % 256, by omega⟩ : Fin 256) (i 1 : Fin 2048) : S256x2048.Idx) := by
    refine Eq.trans ?_ (place4 T t _).symm
    funext a
    apply Fin.ext
    match a with
    | ⟨0, _⟩ => show (i 0).val = T.row t.val * 256 + (i 0).val % 256; rw [ht]; omega
    | ⟨1, _⟩ => rfl
  refine (dats T m ρ 0 c).arrAt_apply_of_mem (4 : Fin 5) (result T m c) hG (cfgA T).N t i t.isLt hf ?_
  rw [he]
  exact View.emb_mem_set _ _

/-- The run, read: the rows of the active blocks at the formula, the arguments unchanged. -/
theorem value (hp : Holds T m) :
    θ_run (defs (F := Ideal)) (onTc (τ := τ) (main (F := Ideal))) ⟨m, fun _ => 0, ρ⟩ (fun r => ∀ c : Dev nD,
      (∀ i : S65536x2048.Idx, (i 0).val < T.count * 256 → r.2.mem ((c.tc : Thread nD τ).loc main_v0) i = result T m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun i hi => (congrFun ((h.1 c).1 (4 : Fin 5)) i).trans (final T m ρ c i hi), h.2 c⟩)
    (θ_run_and (run_main T m ρ hp) (unchanged T m ρ hp))

end Cert.Kernel5Ideal.Experts

end
-- ==== Proof.Experts5.Host.lean ====
/- The experts' reference, read as the formula. -/
module

public import proofs.«01_k».proof.Proof.Experts5.Value
public import proofs.«01_k».proof.Proof.Experts.Gather
public import proofs.«01_k».proof.Proof.Gen.Reference5Ideal.Read
public import Idealize.ShloMosaic.Lib.Routing.OpsPair
public import Idealize.ShloMosaic.Lib.IdealHost

@[expose] public section

set_option maxRecDepth 16384

noncomputable section

namespace Cert.Kernel5Ideal.Experts.Host

open Cert.Reference5Ideal Cert.Reference5Ideal.Gen Cert.Reference5Ideal.Read
open Idealize.ShloMosaic

variable (e : IVec S256 32) (expert : Fin 256 → Fin 64) (he : ∀ b, (e (ix1 b)).toNat = (expert b).val)
include he

/-- The index the gate weights are taken at: an expert's number is not negative, so it stays. -/
theorem gate_index (b : Fin 256) : (val_main_v8 (F := Ideal) e (ix2 b (0 : Fin 1))).toNat = (expert b).val := by
  have hx := (expert b).isLt
  rw [val_main_v8_apply, val_main_v7_apply, val_main_v4_apply, val_main_v3_apply, val_main_c_apply,
    Routing.wrap_of_lt _ _ (by rw [show idx_main_v8 (ix2 b (0 : Fin 1)) = ix1 b from funext fun a => by match a with | ⟨0, _⟩ => rfl]; rw [he]; omega)]
  rw [show idx_main_v8 (ix2 b (0 : Fin 1)) = ix1 b from funext fun a => by match a with | ⟨0, _⟩ => rfl]
  exact he b

/-- The index the up weights are taken at. -/
theorem up_index (b : Fin 256) : (val_main_v17 (F := Ideal) e (ix2 b (0 : Fin 1))).toNat = (expert b).val :=
  gate_index e expert he b

/-- The index the down weights are taken at. -/
theorem down_index (b : Fin 256) : (val_main_v26 (F := Ideal) e (ix2 b (0 : Fin 1))).toNat = (expert b).val :=
  gate_index e expert he b

/-- A block's gate weights. -/
theorem gate_at (wg : FVec Ideal S2x64x2048x512 .f32) (b : Fin 256) (k : Fin 2048) (f : Fin 512) :
    val_main_v9 (F := Ideal) e wg (ix3 b k f) = wg (ix4 (1 : Fin 2) (expert b) k f) := by
  have hx := (expert b).isLt
  unfold val_main_v9
  rw [Cert.Gather.matrix _ rfl rfl rfl rfl rfl _ _ b k f (expert b) (gate_index e expert he b) (by norm_num), val_main_v2_apply, val_main_v1_apply]
  congr 1
  funext a
  apply Fin.ext
  match a with
  | ⟨0, _⟩ => rfl
  | ⟨1, _⟩ => show (((expert b).val * 2048 + k.val) * 512 + f.val) / 1048576 % 64 = (expert b).val; omega
  | ⟨2, _⟩ => show (((expert b).val * 2048 + k.val) * 512 + f.val) / 512 % 2048 = k.val; omega
  | ⟨3, _⟩ => show (((expert b).val * 2048 + k.val) * 512 + f.val) % 512 = f.val; omega

/-- A block's up weights. -/
theorem up_at (wu : FVec Ideal S2x64x2048x512 .f32) (b : Fin 256) (k : Fin 2048) (f : Fin 512) :
    val_main_v18 (F := Ideal) e wu (ix3 b k f) = wu (ix4 (1 : Fin 2) (expert b) k f) :=
  gate_at e expert he wu b k f

/-- A block's down weights. -/
theorem down_at (wd : FVec Ideal S2x64x512x2048 .f32) (b : Fin 256) (f : Fin 512) (l : Fin 2048) :
    val_main_v27 (F := Ideal) e wd (ix3 b f l) = wd (ix4 (1 : Fin 2) (expert b) f l) := by
  have hx := (expert b).isLt
  unfold val_main_v27
  rw [Cert.Gather.matrix _ rfl rfl rfl rfl rfl _ _ b f l (expert b) (down_index e expert he b) (by norm_num), val_main_v20_apply, val_main_v19_apply]
  congr 1
  funext a
  apply Fin.ext
  match a with
  | ⟨0, _⟩ => rfl
  | ⟨1, _⟩ => show (((expert b).val * 512 + f.val) * 2048 + l.val) / 1048576 % 64 = (expert b).val; omega
  | ⟨2, _⟩ => show (((expert b).val * 512 + f.val) * 2048 + l.val) / 2048 % 512 = f.val; omega
  | ⟨3, _⟩ => show (((expert b).val * 512 + f.val) * 2048 + l.val) % 2048 = l.val; omega

/-- A row of a block. -/
theorem row_at (x : FVec Ideal S65536x2048 .f32) (i : S65536x2048.Idx) (k : Fin 2048) :
    val_main_v0 (F := Ideal) x (ix3 (rowBlock i) (⟨(i 0).val % 256, by omega⟩ : Fin 256) k) = x (ix2 (i 0) k) := by
  have h0 : (i 0).val < 65536 := (i 0).isLt
  rw [val_main_v0_apply]
  congr 1
  funext a
  apply Fin.ext
  match a with
  | ⟨0, _⟩ => show (((i 0).val / 256 * 256 + (i 0).val % 256) * 2048 + k.val) / 2048 = (i 0).val; omega
  | ⟨1, _⟩ => show (((i 0).val / 256 * 256 + (i 0).val % 256) * 2048 + k.val) % 2048 = k.val; omega

/-- The reference is the formula. -/
theorem reads (x : FVec Ideal S65536x2048 .f32) (wg wu : FVec Ideal S2x64x2048x512 .f32) (wd : FVec Ideal S2x64x512x2048 .f32) :
    val_main_v33 (F := Ideal) e x wg wu wd = formula expert x wg wu wd := by
  funext (i : S65536x2048.Idx)
  have h0 : (i 0).val < 65536 := (i 0).isLt
  have h1 : (i 1).val < 2048 := (i 1).isLt
  obtain ⟨c, hc⟩ : ∃ c : Fin 2048, c = i 1 := ⟨i 1, rfl⟩
  obtain ⟨r, hr⟩ : ∃ r : Fin 256, r = ⟨(i 0).val % 256, by omega⟩ := ⟨_, rfl⟩
  have hi : idx_main_v33 i = ix3 (rowBlock i) r c := by
    rw [hr, hc]
    funext a
    apply Fin.ext
    match a with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => show ((i 0).val * 2048 + (i 1).val) % 2048 = (i 1).val; omega
  rw [val_main_v33_apply, hi, val_main_v32_apply]
  unfold formula
  rw [← hc]
  have hrow : ∀ k : Fin 2048, val_main_v0 (F := Ideal) x (ix3 (rowBlock i) r k) = x (ix2 (i 0) k) := fun k => by
    rw [hr]; exact row_at e expert he x i k
  refine Finset.sum_congr rfl fun f _ => ?_
  have el : lidx_main_v32 (ix3 (rowBlock i) r c) f = ix3 (rowBlock i) r f :=
    funext fun b => by match b with | ⟨0, _⟩ => rfl | ⟨1, _⟩ => rfl | ⟨2, _⟩ => rfl
  have er : ridx_main_v32 (ix3 (rowBlock i) r c) f = ix3 (rowBlock i) f c :=
    funext fun b => by match b with | ⟨0, _⟩ => rfl | ⟨1, _⟩ => rfl | ⟨2, _⟩ => rfl
  rw [el, er, down_at e expert he]
  refine congrArg₂ (· * ·) ?_ rfl
  have lg : ∀ k : Fin 2048, lidx_main_v28 (ix3 (rowBlock i) r f) k = ix3 (rowBlock i) r k :=
    fun k => funext fun b => by match b with | ⟨0, _⟩ => rfl | ⟨1, _⟩ => rfl | ⟨2, _⟩ => rfl
  have rg : ∀ k : Fin 2048, ridx_main_v28 (ix3 (rowBlock i) r f) k = ix3 (rowBlock i) k f :=
    fun k => funext fun b => by match b with | ⟨0, _⟩ => rfl | ⟨1, _⟩ => rfl | ⟨2, _⟩ => rfl
  have lu : ∀ k : Fin 2048, lidx_main_v30 (ix3 (rowBlock i) r f) k = ix3 (rowBlock i) r k :=
    fun k => funext fun b => by match b with | ⟨0, _⟩ => rfl | ⟨1, _⟩ => rfl | ⟨2, _⟩ => rfl
  have ru : ∀ k : Fin 2048, ridx_main_v30 (ix3 (rowBlock i) r f) k = ix3 (rowBlock i) k f :=
    fun k => funext fun b => by match b with | ⟨0, _⟩ => rfl | ⟨1, _⟩ => rfl | ⟨2, _⟩ => rfl
  rw [val_main_v31_apply, val_main_v30_apply, val_main_v29_apply, val_main_call0_v5_apply, val_main_call0_v4_apply, val_main_call0_cst_0_apply,
    val_main_call0_v3_apply, val_main_call0_v2_apply, val_main_call0_cst_apply, val_main_call0_v1_apply, val_main_call0_v0_apply, val_main_v28_apply]
  simp only [lg, rg, lu, ru, hrow, gate_at e expert he, up_at e expert he]
  show (_ : EReal) * Ideal.div (Ideal.ofBits .f32 1065353216#32) (Ideal.ofBits .f32 1065353216#32 + Ideal.exp (-_)) * _ = _
  rw [Ideal.ofBits_one_f32]
  rfl

end Cert.Kernel5Ideal.Experts.Host

end
-- ==== Proof.Experts5Bits.Runs.lean ====
/- The routed experts' call: the body at one grid point, in the three cases its two conditions leave. An active block whose
   expert is new rounds the expert's weights into the scratches and multiplies by them; an active block whose expert is the
   one before's multiplies by what the scratches hold; a block that is not active touches nothing. -/
module

public import proofs.«01_k».proof.Proof.Gen.Kernel5.Skeleton
public import proofs.«01_k».proof.Proof.Experts5Bits.Tables

@[expose] public section

set_option maxRecDepth 16384
set_option Elab.async false

noncomputable section

namespace Cert.Kernel5.Experts

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Bits) ℕ (UR sig nD τ) ℕ

/-- The scratches, whole. -/
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The words a point reads of the tables: the number of active blocks, its block's expert, the expert of the block before. -/
abbrev nWord (T1 : S1.Idx → Elt Bits .i32) : BitVec 32 :=
  View.readAt (Elt Bits) tb1.view (Rect.unit (s := S1) ![0] S1.size inb_S1_S1_0).toLoadRect T1 (Shape.Idx.first (numel1_S1.symm ▸ Nat.one_pos))
abbrev eWord (i : grid0.Coords) (T0 : S256.Idx → Elt Bits .i32) : BitVec 32 :=
  View.readAt (Elt Bits) tb0.view (Rect.unit (s := S256) (k0_off1 i) S1.size (k0_off1_inb i)).toLoadRect T0 (Shape.Idx.first (numel1_S1.symm ▸ Nat.one_pos))
abbrev pWord (i : grid0.Coords) (T0 : S256.Idx → Elt Bits .i32) : BitVec 32 :=
  View.readAt (Elt Bits) tb0.view (Rect.unit (s := S256) (k0_off2 i) S1.size (k0_off2_inb i)).toLoadRect T0 (Shape.Idx.first (numel1_S1.symm ▸ Nat.one_pos))

/-- The body at a point, on its buffers. -/
abbrev bodyOn (i : grid0.Coords) (arg3 : Memref sig .tc .vmem S256x2048 .f32) (harg3 : arg3.IsWhole) (arg4 : Memref sig .tc .vmem S1x1x2048x512 .f32) (harg4 : arg4.IsWhole)
    (arg5 : Memref sig .tc .vmem S1x1x2048x512 .f32) (harg5 : arg5.IsWhole) (arg6 : Memref sig .tc .vmem S1x1x512x2048 .f32) (harg6 : arg6.IsWhole)
    (arg7 : Memref sig .tc .vmem S256x2048 .f32) (harg7 : arg7.IsWhole) : Prog (TpuEff nD τ sig (Elt Bits) Λ₀ .tc) PUnit :=
  cc0_moe_experts i tb0 (Memref.isWhole_whole _) tb1 (Memref.isWhole_whole _) arg3 harg3 arg4 harg4 arg5 harg5 arg6 harg6 arg7 harg7
    sc0 (Memref.isWhole_whole _) sc1 (Memref.isWhole_whole _) sc2 (Memref.isWhole_whole _)

set_option backward.proofsInPublic true in
set_option maxHeartbeats 8000000 in
/-- An active block of a new expert: the pieces it stores in the output's buffer and what it leaves in the scratches, found by
    running the body. -/
noncomputable def runLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) :
    Σ' (out0 : List (View.Piece (Elt Bits) S256x2048 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out0)
              ∗ (sc0.view.loc (c : Thread nD τ) ↦{fullShare} out1)
              ∗ (sc1.view.loc (c : Thread nD τ) ↦{fullShare} out2)
              ∗ (sc2.view.loc (c : Thread nD τ) ↦{fullShare} out3)) -∗ K ⟨⟩))
          ⊢ wp frame (wpE (defs₀ (F := Bits)) Variants.none c none) Set.univ (bodyOn i arg3 harg3 arg4 harg4 arg5 harg5 arg6 harg6 arg7 harg7) K } :=
  ⟨_, _, _, _, fun xa0 xa1 xa2 K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = Scalar.cmpi = _; exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An active block of the expert before: the pieces it stores in the output's buffer; the scratches keep what they hold. -/
noncomputable def runKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) :
    { out0 : List (View.Piece (Elt Bits) S256x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out0)
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Bits)) Variants.none c none) Set.univ (bodyOn i arg3 harg3 arg4 harg4 arg5 harg5 arg6 harg6 arg7 harg7) K } :=
  ⟨_, fun K => by
    unfold owns bodyOn
    rw [cc0_moe_experts_eq_skeleton]; unfold cc0_moe_experts_skel
    iintro ⟨H0, H1, H2, H3, HT0, HT1, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = k0_cond2 _ _ = _; exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A block that is not active: every buffer keeps what it holds. -/
theorem runSkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (y4 : S256x2048.Idx → Elt Bits .f32)
    (hl : ¬ loadWord i (nWord T1) (eWord i T0) (pWord i T0) = 1#1) (ha : ¬ k0_cond2 i (nWord T1) = 1#1) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ owns (c : Thread nD τ) arg7 fullShare y4
              ∗ (sc0.view.loc (c : Thread nD τ) ↦{fullShare} xa0)
              ∗ (sc1.view.loc (c : Thread nD τ) ↦{fullShare} xa1)
              ∗ (sc2.view.loc (c : Thread nD τ) ↦{fullShare} xa2)) -∗ K ⟨⟩))
          ⊢ wp frame (wpE (defs₀ (F := Bits)) Variants.none c none) Set.univ (bodyOn i arg3 harg3 arg4 harg4 arg5 harg5 arg6 harg6 arg7 harg7) K := by
    unfold owns bodyOn
    rw [cc0_moe_experts_eq_skeleton]; unfold cc0_moe_experts_skel
    iintro ⟨H0, H1, H2, H3, HT0, HT1, ⟨%f4, %hf4, HO4⟩, HS0, HS1, HS2, Hk⟩
    obtain rfl := harg7.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := first | (guard_target = ¬(Scalar.cmpi = _); exact hl) | (guard_target = ¬(k0_cond2 _ _ = _); exact ha))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    iexact HS2

end Cert.Kernel5.Experts

end
-- ==== Proof.Experts5Bits.Body.lean ====
/- The routed experts' call: what the body's runs leave, as values — the feed-forward of the row block in the output's buffer, the
   rounded weights in the scratches — and the body's triples at those values. -/
module

public import proofs.«01_k».proof.Proof.Experts5Bits.Runs

@[expose] public section

set_option maxRecDepth 16384
set_option Elab.async false

noncomputable section

namespace Cert.Kernel5.Experts

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Bits) ℕ (UR sig nD τ) ℕ

/-! ## What the runs leave -/

/-- The output's buffer, through which stored pieces are read back. -/
abbrev VO : View sig .tc .vmem S256x2048 .f32 := (Memref.whole cc0_stg4_0 : Memref sig .tc .vmem S256x2048 .f32).view

theorem hz : (![0, 0] : Fin 2 → Nat) = fun _ => 0 := funext fun a => by fin_cases a <;> rfl
theorem hz4 : (![0, 0, 0, 0] : Fin 4 → Nat) = fun _ => 0 := funext fun a => by fin_cases a <;> rfl

/-- A scratch read whole is its contents, -/
theorem read0 (f : S2048x512.Idx → Elt Bits .bf16) : View.read (Elt Bits) (View.whole cc0_scratch0) f = f := rfl
theorem read1 (f : S2048x512.Idx → Elt Bits .bf16) : View.read (Elt Bits) (View.whole cc0_scratch1) f = f := rfl
theorem read2 (f : S512x2048.Idx → Elt Bits .bf16) : View.read (Elt Bits) (View.whole cc0_scratch2) f = f := rfl

/-- … and stored whole it holds what was stored. -/
theorem stored0 (w : S2048x512.Idx → Elt Bits .bf16) (inb : ∀ a, (![0, 0] : Fin 2 → Nat) a + S2048x512.size a ≤ S2048x512.size a) :
    (View.whole cc0_scratch0).writes (Elt Bits) (View.whole cc0_scratch0).junk [(⟨Rect.unit (s := S2048x512) ![0, 0] S2048x512.size inb, w⟩ : View.Piece (Elt Bits) S2048x512 .bf16)] = w :=
  (read0 _).symm.trans ((View.read_writes_eq_canon _ _ _ (View.cover_of_tiledL [(⟨Rect.unit (s := S2048x512) ![0, 0] S2048x512.size inb, w⟩ : View.Piece (Elt Bits) S2048x512 .bf16)] S2048x512.size (by sl_kernel_rfl))).trans
    (View.canon_unit_zero hz inb w))

theorem stored1 (w : S2048x512.Idx → Elt Bits .bf16) (inb : ∀ a, (![0, 0] : Fin 2 → Nat) a + S2048x512.size a ≤ S2048x512.size a) :
    (View.whole cc0_scratch1).writes (Elt Bits) (View.whole cc0_scratch1).junk [(⟨Rect.unit (s := S2048x512) ![0, 0] S2048x512.size inb, w⟩ : View.Piece (Elt Bits) S2048x512 .bf16)] = w :=
  (read1 _).symm.trans ((View.read_writes_eq_canon _ _ _ (View.cover_of_tiledL [(⟨Rect.unit (s := S2048x512) ![0, 0] S2048x512.size inb, w⟩ : View.Piece (Elt Bits) S2048x512 .bf16)] S2048x512.size (by sl_kernel_rfl))).trans
    (View.canon_unit_zero hz inb w))

theorem stored2 (w : S512x2048.Idx → Elt Bits .bf16) (inb : ∀ a, (![0, 0] : Fin 2 → Nat) a + S512x2048.size a ≤ S512x2048.size a) :
    (View.whole cc0_scratch2).writes (Elt Bits) (View.whole cc0_scratch2).junk [(⟨Rect.unit (s := S512x2048) ![0, 0] S512x2048.size inb, w⟩ : View.Piece (Elt Bits) S512x2048 .bf16)] = w :=
  (read2 _).symm.trans ((View.read_writes_eq_canon _ _ _ (View.cover_of_tiledL [(⟨Rect.unit (s := S512x2048) ![0, 0] S512x2048.size inb, w⟩ : View.Piece (Elt Bits) S512x2048 .bf16)] S512x2048.size (by sl_kernel_rfl))).trans
    (View.canon_unit_zero hz inb w))

theorem coverLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) (y : S256x2048.Idx) :
    ∃ pc ∈ (runLoad c i arg3 harg3 arg4 harg4 arg5 harg5 arg6 harg6 arg7 harg7 T0 T1 x0 x1 x2 x3 hl ha).1, y ∈ pc.1.set :=
  View.cover_of_tiledL (runLoad c i arg3 harg3 arg4 harg4 arg5 harg5 arg6 harg6 arg7 harg7 T0 T1 x0 x1 x2 x3 hl ha).1 S256x2048.size (by sl_kernel_rfl) y

theorem coverKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) (y : S256x2048.Idx) :
    ∃ pc ∈ (runKeep c i arg3 harg3 arg4 harg4 arg5 harg5 arg6 harg6 arg7 harg7 T0 T1 x0 x1 x2 x3 xa0 xa1 xa2 hl ha).1, y ∈ pc.1.set :=
  View.cover_of_tiledL (runKeep c i arg3 harg3 arg4 harg4 arg5 harg5 arg6 harg6 arg7 harg7 T0 T1 x0 x1 x2 x3 xa0 xa1 xa2 hl ha).1 S256x2048.size (by sl_kernel_rfl) y

theorem outLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) :
    VO.read (Elt Bits) (VO.writes (Elt Bits) VO.junk (runLoad c i arg3 harg3 arg4 harg4 arg5 harg5 arg6 harg6 arg7 harg7 T0 T1 x0 x1 x2 x3 hl ha).1) = k0_pay4 x0 (k0_pay1 x1) (k0_pay2 x2) (k0_pay3 x3) := by
  rw [View.read_writes_eq_canon _ _ _ (coverLoad c i arg3 harg3 arg4 harg4 arg5 harg5 arg6 harg6 arg7 harg7 T0 T1 x0 x1 x2 x3 hl ha)]
  unfold runLoad
  dsimp only
  sl_unfold_words
  rw [View.canon_unit_zero hz]
  simp only [View.readAt_eq_ld, View.read_rep,
    View.readCov_unit_zero (S := S2048x512) _ hz, View.readCov_unit_zero (S := S512x2048) _ hz,
    View.ld_unit_zero (S := S2048x512) hz, View.ld_unit_zero (S := S512x2048) hz, View.ld_unit_zero (S := S256x2048) hz,
    View.ld_unit_zero (S := S1x1x2048x512) hz4, View.ld_unit_zero (S := S1x1x512x2048) hz4]

theorem outKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) :
    VO.read (Elt Bits) (VO.writes (Elt Bits) VO.junk (runKeep c i arg3 harg3 arg4 harg4 arg5 harg5 arg6 harg6 arg7 harg7 T0 T1 x0 x1 x2 x3 xa0 xa1 xa2 hl ha).1) = k0_pay4 x0 xa0 xa1 xa2 := by
  rw [View.read_writes_eq_canon _ _ _ (coverKeep c i arg3 harg3 arg4 harg4 arg5 harg5 arg6 harg6 arg7 harg7 T0 T1 x0 x1 x2 x3 xa0 xa1 xa2 hl ha)]
  unfold runKeep
  dsimp only
  sl_unfold_words
  rw [View.canon_unit_zero hz]
  simp only [View.readAt_eq_ld, View.read_rep,
    View.ld_unit_zero (S := S2048x512) hz, View.ld_unit_zero (S := S512x2048) hz, View.ld_unit_zero (S := S256x2048) hz]
  rw [read0, read1, read2]

theorem gateLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.1 = k0_pay1 x1 := by
  unfold runLoad
  dsimp only
  sl_unfold_words
  simp only [View.readAt_eq_ld, View.read_rep, View.ld_unit_zero (S := S1x1x2048x512) hz4]
  rw [stored0]

theorem upLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.1 = k0_pay2 x2 := by
  unfold runLoad
  dsimp only
  sl_unfold_words
  simp only [View.readAt_eq_ld, View.read_rep, View.ld_unit_zero (S := S1x1x2048x512) hz4]
  rw [stored1]

theorem downLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) : (runLoad c i arg3 harg3 arg4 harg4 arg5 harg5 arg6 harg6 arg7 harg7 T0 T1 x0 x1 x2 x3 hl ha).2.2.2.1 = k0_pay3 x3 := by
  unfold runLoad
  dsimp only
  sl_unfold_words
  simp only [View.readAt_eq_ld, View.read_rep, View.ld_unit_zero (S := S1x1x512x2048) hz4]
  rw [stored2]

end Cert.Kernel5.Experts

end
-- ==== Proof.Experts5Bits.Triples.lean ====
/- The routed experts' call: the body's triple at one grid point, in each of its three cases. -/
module

public import proofs.«01_k».proof.Proof.Experts5Bits.Body

@[expose] public section

set_option maxRecDepth 16384
set_option Elab.async false

noncomputable section

namespace Cert.Kernel5.Experts

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Bits) ℕ (UR sig nD τ) ℕ

/-! ## The body's triples -/

set_option maxHeartbeats 4000000 in
/-- An active block of a new expert. -/
theorem bodyLoad (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (hl : loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (∃ a : Buf (Elt Bits) ((c : Thread nD τ).loc cc0_scratch0), sc0.view.loc (c : Thread nD τ) ↦{fullShare} a)
      ∗ (∃ a : Buf (Elt Bits) ((c : Thread nD τ).loc cc0_scratch1), sc1.view.loc (c : Thread nD τ) ↦{fullShare} a)
      ∗ (∃ a : Buf (Elt Bits) ((c : Thread nD τ).loc cc0_scratch2), sc2.view.loc (c : Thread nD τ) ↦{fullShare} a)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 (k0_pay1 x1) (k0_pay2 x2) (k0_pay3 x3))
          ∗ (sc0.view.loc (c : Thread nD τ) ↦{fullShare} k0_pay1 x1)
          ∗ (sc1.view.loc (c : Thread nD τ) ↦{fullShare} k0_pay2 x2)
          ∗ (sc2.view.loc (c : Thread nD τ) ↦{fullShare} k0_pay3 x3)) -∗ K ⟨⟩))
      ⊢ wp frame (wpE (defs₀ (F := Bits)) Variants.none c none) Set.univ (bodyOn i arg3 harg3 arg4 harg4 arg5 harg5 arg6 harg6 arg7 harg7) K := by
  have hg := gateLoad c i arg3 harg3 arg4 harg4 arg5 harg5 arg6 harg6 arg7 harg7 T0 T1 x0 x1 x2 x3 hl ha
  have hu := upLoad c i arg3 harg3 arg4 harg4 arg5 harg5 arg6 harg6 arg7 harg7 T0 T1 x0 x1 x2 x3 hl ha
  have hd := downLoad c i arg3 harg3 arg4 harg4 arg5 harg5 arg6 harg6 arg7 harg7 T0 T1 x0 x1 x2 x3 hl ha
  have ho := outLoad c i arg3 harg3 arg4 harg4 arg5 harg5 arg6 harg6 arg7 harg7 T0 T1 x0 x1 x2 x3 hl ha
  have hv := coverLoad c i arg3 harg3 arg4 harg4 arg5 harg5 arg6 harg6 arg7 harg7 T0 T1 x0 x1 x2 x3 hl ha
  generalize runLoad c i arg3 harg3 arg4 harg4 arg5 harg5 arg6 harg6 arg7 harg7 T0 T1 x0 x1 x2 x3 hl ha = r at hg hu hd ho hv
  obtain ⟨o0, o1, o2, o3, run⟩ := r
  dsimp only at hg hu hd ho hv
  subst hg hu hd
  iintro ⟨H0, H1, H2, H3, HT0, HT1, H4, ⟨%a0, HS0⟩, ⟨%a1, HS1⟩, ⟨%a2, HS2⟩, Hk⟩
  iapply (run a0 a1 a2 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- An active block of the expert before. -/
theorem bodyKeep (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2))
    (hl : ¬ loadWord i (nWord T1) (eWord i T0) (pWord i T0) = 1#1) (ha : k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ (∃ d, owns (c : Thread nD τ) arg7 fullShare d)
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 xa0 xa1 xa2)
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Bits)) Variants.none c none) Set.univ (bodyOn i arg3 harg3 arg4 harg4 arg5 harg5 arg6 harg6 arg7 harg7) K := by
  have ho := outKeep c i arg3 harg3 arg4 harg4 arg5 harg5 arg6 harg6 arg7 harg7 T0 T1 x0 x1 x2 x3 xa0 xa1 xa2 hl ha
  have hv := coverKeep c i arg3 harg3 arg4 harg4 arg5 harg5 arg6 harg6 arg7 harg7 T0 T1 x0 x1 x2 x3 xa0 xa1 xa2 hl ha
  generalize runKeep c i arg3 harg3 arg4 harg4 arg5 harg5 arg6 harg6 arg7 harg7 T0 T1 x0 x1 x2 x3 xa0 xa1 xa2 hl ha = r at ho hv
  obtain ⟨o0, run⟩ := r
  dsimp only at ho hv
  iintro ⟨H0, H1, H2, H3, HT0, HT1, H4, HS0, HS1, HS2, Hk⟩
  iapply (run K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, ⟨%e4, H4⟩, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · unfold owns; iexists _; isplitr; swap
    · iexact H4
    · ipureintro; exact (View.read_writes_of_cover _ _ _ _ _ (hv)).trans (ho)
  isplitl [HS0]; · iexact HS0
  isplitl [HS1]; · iexact HS1
  iexact HS2

set_option maxHeartbeats 4000000 in
/-- A block that is not active. -/
theorem bodySkip (c : Dev nD) (i : grid0.Coords) (arg3 : Memref sig .tc .vmem S256x2048 .f32) (harg3 : arg3.IsWhole)
    (arg4 : Memref sig .tc .vmem S1x1x2048x512 .f32) (harg4 : arg4.IsWhole) (arg5 : Memref sig .tc .vmem S1x1x2048x512 .f32) (harg5 : arg5.IsWhole)
    (arg6 : Memref sig .tc .vmem S1x1x512x2048 .f32) (harg6 : arg6.IsWhole) (arg7 : Memref sig .tc .vmem S256x2048 .f32) (harg7 : arg7.IsWhole)
    (T0 : S256.Idx → Elt Bits .i32) (T1 : S1.Idx → Elt Bits .i32) (x0 : S256x2048.Idx → Elt Bits .f32) (x1 x2 : S1x1x2048x512.Idx → Elt Bits .f32)
    (x3 : S1x1x512x2048.Idx → Elt Bits .f32)
    (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (y4 : S256x2048.Idx → Elt Bits .f32)
    (hl : ¬ loadWord i (nWord T1) (eWord i T0) (pWord i T0) = 1#1) (ha : ¬ k0_cond2 i (nWord T1) = 1#1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare y4
      ∗ (sc0.view.loc (c : Thread nD τ) ↦{fullShare} xa0)
      ∗ (sc1.view.loc (c : Thread nD τ) ↦{fullShare} xa1)
      ∗ (sc2.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare y4
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := Bits)) Variants.none c none) Set.univ (bodyOn i arg3 harg3 arg4 harg4 arg5 harg5 arg6 harg6 arg7 harg7) K := by
  iintro ⟨H0, H1, H2, H3, HT0, HT1, H4, HS0, HS1, HS2, Hk⟩
  iapply (runSkip c i arg3 harg3 arg4 harg4 arg5 harg5 arg6 harg6 arg7 harg7 T0 T1 x0 x1 x2 x3 xa0 xa1 xa2 y4 hl ha K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [HT1]; · iexact HT1
  isplitl [H4]
  · iexact H4
  isplitl [HS0]; · iexact HS0
  isplitl [HS1]; · iexact HS1
  iexact HS2

end Cert.Kernel5.Experts

end
-- ==== Proof.Experts5Bits.Frame.lean ====
/- The routed experts' call: the pipeline's data in closed form — after point `n` the scratches hold the rounded weights of the
   last active block up to `n`, the output's buffer its feed-forward — the body's obligation from the three triples, and the
   launch: at tables in their ranges every execution ends, nothing faults, and the arguments end unchanged. -/
module

public import proofs.«01_k».proof.Proof.Experts5Bits.Triples
public import Idealize.ShloMosaic.Lib.Pipeline.Quiescent
public import Idealize.ShloMosaic.Lib.Claim

@[expose] public section

set_option maxRecDepth 16384
set_option Elab.async false

noncomputable section

namespace Cert.Kernel5.Experts

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (T : Tables) (m : (ℓ : Loc nD τ sig) → Buf (Elt Bits) ℓ) (ρ : Dev nD → PrngReg)

/-- The launch memory holds the tables. -/
def Holds : Prop :=
  (∀ c : Dev nD, m ((c : Thread nD τ).loc main_arg0) = T.e) ∧ (∀ c : Dev nD, m ((c : Thread nD τ).loc main_arg1) = T.n)

/-! ## Staging buffers and blocks -/

abbrev ms0 (t : Fin (cfgA T).N) : Memref sig .tc .vmem S256x2048 .f32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1x2048x512 .f32 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1x2048x512 .f32 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1x512x2048 .f32 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S256x2048 .f32 := spec0_4.stage ((cfgA T).slots t (4 : Fin 5))
abbrev hs4 (t : Fin (cfgA T).N) : (ms4 T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The expert of block `n`, as an index of the weights. -/
def Tables.expert (T : Tables) (b : Fin 256) : Fin 64 := ⟨(T.e (ix1 b)).toNat, T.he _⟩

/-- The grid point's block. -/
abbrev blk (t : Fin (cfgA T).N) : Fin 256 := ⟨t.val, t.isLt⟩

theorem index1 (t : Fin (cfgA T).N) : ((cfgA T).win (1 : Fin 5)).index t = ![1, (T.expert (blk T t)).val, 0, 0] := by
  have h := map1_eq T (crd T t)
  rw [show blockOf (crd T t) = blk T t from Fin.ext (crd_val T t)] at h
  exact h
theorem index2 (t : Fin (cfgA T).N) : ((cfgA T).win (2 : Fin 5)).index t = ![1, (T.expert (blk T t)).val, 0, 0] := by
  have h := map2_eq T (crd T t)
  rw [show blockOf (crd T t) = blk T t from Fin.ext (crd_val T t)] at h
  exact h
theorem index3 (t : Fin (cfgA T).N) : ((cfgA T).win (3 : Fin 5)).index t = ![1, (T.expert (blk T t)).val, 0, 0] := by
  have h := map3_eq T (crd T t)
  rw [show blockOf (crd T t) = blk T t from Fin.ext (crd_val T t)] at h
  exact h

/-- The gate weights' window at a point: its block's expert's. -/
theorem gate_at (c : Dev nD) (t : Fin (cfgA T).N) (j : S1x1x2048x512.Idx) : (iblk T m ρ c (1 : Fin 5) t : S1x1x2048x512.Idx → Elt Bits .f32) j
    = (m ((c : Thread nD τ).loc main_arg3) : S2x64x2048x512.Idx → Elt Bits .f32) (ix4 (1 : Fin 2) (T.expert (blk T t)) (j 2 : Fin 2048) (j 3 : Fin 512)) := by
  have p := index1 T t
  unfold iblk
  rw [View.read_apply]
  show m ((c : Thread nD τ).loc main_arg3) _ = m ((c : Thread nD τ).loc main_arg3) _
  congr 1
  funext a
  apply Fin.ext
  have h0 : (j 0).val < 1 := (j 0).isLt
  have h1 : (j 1).val < 1 := (j 1).isLt
  match a with
  | ⟨0, _⟩ => show ((cfgA T).win (1 : Fin 5)).index t (0 : Fin 4) * 1 + 1 * (j 0).val = 1; rw [p]; show 1 * 1 + 1 * (j 0).val = 1; omega
  | ⟨1, _⟩ => show ((cfgA T).win (1 : Fin 5)).index t (1 : Fin 4) * 1 + 1 * (j 1).val = (T.expert (blk T t)).val; rw [p]; show (T.expert (blk T t)).val * 1 + 1 * (j 1).val = _; omega
  | ⟨2, _⟩ => show ((cfgA T).win (1 : Fin 5)).index t (2 : Fin 4) * 2048 + 1 * (j 2).val = (j 2).val; rw [p]; show 0 * 2048 + 1 * (j 2).val = _; omega
  | ⟨3, _⟩ => show ((cfgA T).win (1 : Fin 5)).index t (3 : Fin 4) * 512 + 1 * (j 3).val = (j 3).val; rw [p]; show 0 * 512 + 1 * (j 3).val = _; omega

/-- The up weights' window at a point: its block's expert's. -/
theorem up_at (c : Dev nD) (t : Fin (cfgA T).N) (j : S1x1x2048x512.Idx) : (iblk T m ρ c (2 : Fin 5) t : S1x1x2048x512.Idx → Elt Bits .f32) j
    = (m ((c : Thread nD τ).loc main_arg4) : S2x64x2048x512.Idx → Elt Bits .f32) (ix4 (1 : Fin 2) (T.expert (blk T t)) (j 2 : Fin 2048) (j 3 : Fin 512)) := by
  have p := index2 T t
  unfold iblk
  rw [View.read_apply]
  show m ((c : Thread nD τ).loc main_arg4) _ = m ((c : Thread nD τ).loc main_arg4) _
  congr 1
  funext a
  apply Fin.ext
  have h0 : (j 0).val < 1 := (j 0).isLt
  have h1 : (j 1).val < 1 := (j 1).isLt
  match a with
  | ⟨0, _⟩ => show ((cfgA T).win (2 : Fin 5)).index t (0 : Fin 4) * 1 + 1 * (j 0).val = 1; rw [p]; show 1 * 1 + 1 * (j 0).val = 1; omega
  | ⟨1, _⟩ => show ((cfgA T).win (2 : Fin 5)).index t (1 : Fin 4) * 1 + 1 * (j 1).val = (T.expert (blk T t)).val; rw [p]; show (T.expert (blk T t)).val * 1 + 1 * (j 1).val = _; omega
  | ⟨2, _⟩ => show ((cfgA T).win (2 : Fin 5)).index t (2 : Fin 4) * 2048 + 1 * (j 2).val = (j 2).val; rw [p]; show 0 * 2048 + 1 * (j 2).val = _; omega
  | ⟨3, _⟩ => show ((cfgA T).win (2 : Fin 5)).index t (3 : Fin 4) * 512 + 1 * (j 3).val = (j 3).val; rw [p]; show 0 * 512 + 1 * (j 3).val = _; omega

/-- The down weights' window at a point: its block's expert's. -/
theorem down_at (c : Dev nD) (t : Fin (cfgA T).N) (j : S1x1x512x2048.Idx) : (iblk T m ρ c (3 : Fin 5) t : S1x1x512x2048.Idx → Elt Bits .f32) j
    = (m ((c : Thread nD τ).loc main_arg5) : S2x64x512x2048.Idx → Elt Bits .f32) (ix4 (1 : Fin 2) (T.expert (blk T t)) (j 2 : Fin 512) (j 3 : Fin 2048)) := by
  have p := index3 T t
  unfold iblk
  rw [View.read_apply]
  show m ((c : Thread nD τ).loc main_arg5) _ = m ((c : Thread nD τ).loc main_arg5) _
  congr 1
  funext a
  apply Fin.ext
  have h0 : (j 0).val < 1 := (j 0).isLt
  have h1 : (j 1).val < 1 := (j 1).isLt
  match a with
  | ⟨0, _⟩ => show ((cfgA T).win (3 : Fin 5)).index t (0 : Fin 4) * 1 + 1 * (j 0).val = 1; rw [p]; show 1 * 1 + 1 * (j 0).val = 1; omega
  | ⟨1, _⟩ => show ((cfgA T).win (3 : Fin 5)).index t (1 : Fin 4) * 1 + 1 * (j 1).val = (T.expert (blk T t)).val; rw [p]; show (T.expert (blk T t)).val * 1 + 1 * (j 1).val = _; omega
  | ⟨2, _⟩ => show ((cfgA T).win (3 : Fin 5)).index t (2 : Fin 4) * 512 + 1 * (j 2).val = (j 2).val; rw [p]; show 0 * 512 + 1 * (j 2).val = _; omega
  | ⟨3, _⟩ => show ((cfgA T).win (3 : Fin 5)).index t (3 : Fin 4) * 2048 + 1 * (j 3).val = (j 3).val; rw [p]; show 0 * 2048 + 1 * (j 3).val = _; omega

/-! ## What the buffers hold after each point -/

/-- The last active point up to `n`. -/
def last (n : ℕ) : Fin (cfgA T).N := ⟨T.row n, by have h := T.count_pos; have h' := T.count_le; show T.row n < 256; unfold Tables.row; omega⟩

def gateAfter (c : Dev nD) (n : ℕ) : S2048x512.Idx → Elt Bits .bf16 := k0_pay1 (iblk T m ρ c (1 : Fin 5) (last T n))
def upAfter (c : Dev nD) (n : ℕ) : S2048x512.Idx → Elt Bits .bf16 := k0_pay2 (iblk T m ρ c (2 : Fin 5) (last T n))
def downAfter (c : Dev nD) (n : ℕ) : S512x2048.Idx → Elt Bits .bf16 := k0_pay3 (iblk T m ρ c (3 : Fin 5) (last T n))
def outAfter (c : Dev nD) (n : ℕ) : S256x2048.Idx → Elt Bits .f32 :=
  k0_pay4 (iblk T m ρ c (0 : Fin 5) (last T n)) (gateAfter T m ρ c n) (upAfter T m ρ c n) (downAfter T m ρ c n)

/-- An active point is its own last active one; -/
theorem last_active (t : Fin (cfgA T).N) (h : t.val < T.count) : last T t.val = t :=
  Fin.ext (by show T.row t.val = t.val; unfold Tables.row; omega)

/-- one that is not shares the point before's. -/
theorem last_idle (n : ℕ) (h : T.count ≤ n) : last T n = last T (n - 1) :=
  Fin.ext (by have := T.count_pos; show T.row n = T.row (n - 1); unfold Tables.row; omega)

theorem outAfter_idle (c : Dev nD) (n : ℕ) (h : T.count ≤ n) : outAfter T m ρ c n = outAfter T m ρ c (n - 1) := by
  unfold outAfter gateAfter upAfter downAfter; rw [last_idle T n h]
theorem gateAfter_idle (c : Dev nD) (n : ℕ) (h : T.count ≤ n) : gateAfter T m ρ c n = gateAfter T m ρ c (n - 1) := by
  unfold gateAfter; rw [last_idle T n h]
theorem upAfter_idle (c : Dev nD) (n : ℕ) (h : T.count ≤ n) : upAfter T m ρ c n = upAfter T m ρ c (n - 1) := by
  unfold upAfter; rw [last_idle T n h]
theorem downAfter_idle (c : Dev nD) (n : ℕ) (h : T.count ≤ n) : downAfter T m ρ c n = downAfter T m ρ c (n - 1) := by
  unfold downAfter; rw [last_idle T n h]

/-- A point of the expert before finds its weights in the scratches. -/
theorem same_expert (t : Fin (cfgA T).N) (h : t.val < T.count) (h0 : t.val ≠ 0) (he : T.e (ix1 (blk T t)) = T.e (ix1 (before (blk T t)))) :
    T.expert (blk T (last T t.val)) = T.expert (blk T (last T (t.val - 1))) := by
  rw [last_active T t h]
  have hb : blk T (last T (t.val - 1)) = before (blk T t) :=
    Fin.ext (by show T.row (t.val - 1) = t.val - 1; unfold Tables.row; omega)
  rw [hb]; unfold Tables.expert
  exact Fin.ext (congrArg BitVec.toNat he)

theorem gateAfter_same (c : Dev nD) (t : Fin (cfgA T).N) (h : t.val < T.count) (h0 : t.val ≠ 0) (he : T.e (ix1 (blk T t)) = T.e (ix1 (before (blk T t)))) :
    gateAfter T m ρ c t.val = gateAfter T m ρ c (t.val - 1) := by
  have hx : (iblk T m ρ c (1 : Fin 5) (last T t.val) : S1x1x2048x512.Idx → Elt Bits .f32) = iblk T m ρ c (1 : Fin 5) (last T (t.val - 1)) :=
    funext fun j => by rw [gate_at, gate_at, same_expert T t h h0 he]
  exact congrArg k0_pay1 hx

theorem upAfter_same (c : Dev nD) (t : Fin (cfgA T).N) (h : t.val < T.count) (h0 : t.val ≠ 0) (he : T.e (ix1 (blk T t)) = T.e (ix1 (before (blk T t)))) :
    upAfter T m ρ c t.val = upAfter T m ρ c (t.val - 1) := by
  have hx : (iblk T m ρ c (2 : Fin 5) (last T t.val) : S1x1x2048x512.Idx → Elt Bits .f32) = iblk T m ρ c (2 : Fin 5) (last T (t.val - 1)) :=
    funext fun j => by rw [up_at, up_at, same_expert T t h h0 he]
  exact congrArg k0_pay2 hx

theorem downAfter_same (c : Dev nD) (t : Fin (cfgA T).N) (h : t.val < T.count) (h0 : t.val ≠ 0) (he : T.e (ix1 (blk T t)) = T.e (ix1 (before (blk T t)))) :
    downAfter T m ρ c t.val = downAfter T m ρ c (t.val - 1) := by
  have hx : (iblk T m ρ c (3 : Fin 5) (last T t.val) : S1x1x512x2048.Idx → Elt Bits .f32) = iblk T m ρ c (3 : Fin 5) (last T (t.val - 1)) :=
    funext fun j => by rw [down_at, down_at, same_expert T t h h0 he]
  exact congrArg k0_pay3 hx

/-! ## The pipeline's data -/

/-- Before point `t`: each scratch at what the point before leaves (anything before the first), and the body's share of the tables. -/
def Phi (c : Dev nD) (t : Fin ((cfgA T).N + 1)) : sProp 𝕄 :=
  iprop((∃ a, ⌜t.val ≠ 0 → a = gateAfter T m ρ c (t.val - 1)⌝ ∗ (sc0.view.loc (c : Thread nD τ) ↦{fullShare} a))
    ∗ (∃ a, ⌜t.val ≠ 0 → a = upAfter T m ρ c (t.val - 1)⌝ ∗ (sc1.view.loc (c : Thread nD τ) ↦{fullShare} a))
    ∗ (∃ a, ⌜t.val ≠ 0 → a = downAfter T m ρ c (t.val - 1)⌝ ∗ (sc2.view.loc (c : Thread nD τ) ↦{fullShare} a))
    ∗ (tb0.view.loc (c : Thread nD τ) ↦{fullShare.right} T.e) ∗ (tb1.view.loc (c : Thread nD τ) ↦{fullShare.right} T.n))

/-- The data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAfter T m ρ c t.val
  Φ t := Phi T m ρ c t
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = outAfter T m ρ c t.val := rfl

/-- An input's window holds its block. -/
theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's window, at a point that is not active, holds the last active block's feed-forward. -/
theorem before4 (c : Dev nD) (t : Fin (cfgA T).N) (h : T.count ≤ t.val) (d) :
    (dats T m ρ 0 c).before (4 : Fin 5) t d = outAfter T m ρ c (t.val - 1) := by
  have hc : ∀ (t : Fin (cfgA T).N) (ht : t.val ≠ 0), (cfgA T).idle (4 : Fin 5) ((cfgA T).grid.coords t) = true → (cfgA T).fresh (4 : Fin 5) t.val = false →
      (dats T m ρ 0 c).after (4 : Fin 5) t = (dats T m ρ 0 c).after (4 : Fin 5) ⟨t.val - 1, by omega⟩ := by
    intro t ht hi _
    rw [show (cfgA T).idle (4 : Fin 5) ((cfgA T).grid.coords t) = decide (T.count ≤ t.val) from idle4 T t] at hi
    rw [after4, after4]
    exact outAfter_idle T m ρ c t.val (of_decide_eq_true hi)
  have h0 : t.val ≠ 0 := by have := T.count_pos; omega
  have hf : (cfgA T).fresh (4 : Fin 5) t.val = false := (fresh4 T t.val t.isLt).trans (decide_eq_false (by omega))
  rw [(dats T m ρ 0 c).before_out_traj (4 : Fin 5) rfl (fun _ _ => rfl) hc t.val t rfl d]
  simp only [hf, Bool.false_eq_true, ↓reduceIte, after4]
  try rw [dif_neg h0]

/-! ## The body's obligation -/

/-- The conditions at a point, from the tables. -/
theorem loads_iff (t : Fin (cfgA T).N) : loadWord (crd T t) (nWord T.n) (eWord (crd T t) T.e) (pWord (crd T t) T.e) = 1#1
    ↔ t.val < T.count ∧ (t.val = 0 ∨ T.e (ix1 (blk T t)) ≠ T.e (ix1 (before (blk T t)))) := by
  have h := load_iff T (crd T t)
  rw [show blockOf (crd T t) = blk T t from Fin.ext (crd_val T t), crd_val] at h
  have hn : nWord T.n = T.n (ix1 0) := read_n T.n
  have he : eWord (crd T t) T.e = T.e (ix1 (blk T t)) := (read_e T.e (crd T t)).trans (congrArg (fun b => T.e (ix1 b)) (Fin.ext (crd_val T t)))
  have hp : pWord (crd T t) T.e = T.e (ix1 (before (blk T t))) := (read_p T.e (crd T t)).trans (congrArg (fun b => T.e (ix1 (before b))) (Fin.ext (crd_val T t)))
  rw [hn, he, hp]
  exact h

theorem actives_iff (t : Fin (cfgA T).N) : k0_cond2 (crd T t) (nWord T.n) = 1#1 ↔ t.val < T.count := by
  have h := active_iff T (crd T t)
  rw [crd_val] at h
  have hn : nWord T.n = T.n (ix1 0) := read_n T.n
  rw [hn]; exact h

abbrev bodyAt (t : Fin (cfgA T).N) : Prog (TpuEff nD τ sig (Elt Bits) Λ₀ .tc) PUnit :=
  bodyOn (crd T t) (ms0 T t) (hs0 T t) (ms1 T t) (hs1 T t) (ms2 T t) (hs2 T t) (ms3 T t) (hs3 T t) (ms4 T t) (hs4 T t)

/-- The body takes point `t`'s buffers from what they hold before the point to what the data say they hold after it. -/
def SoundAt (c : Dev nD) (t : Fin (cfgA T).N) : Prop :=
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Bits)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t))

set_option maxHeartbeats 4000000 in
/-- At an active block of a new expert. -/
theorem sound_load (c : Dev nD) (t : Fin (cfgA T).N) (hl : loadWord (crd T t) (nWord T.n) (eWord (crd T t) T.e) (pWord (crd T t) T.e) = 1#1) :
    SoundAt T m ρ c t := by
  unfold SoundAt
  have hlt : t.val < T.count := ((loads_iff T t).1 hl).1
  have i4 : (cfgA T).idle (4 : Fin 5) ((cfgA T).grid.coords t) = false := (idle4 T t).trans (decide_eq_false (by omega))
  have hg : k0_pay1 (iblk T m ρ c (1 : Fin 5) t) = gateAfter T m ρ c t.val := by unfold gateAfter; rw [last_active T t hlt]
  have hu : k0_pay2 (iblk T m ρ c (2 : Fin 5) t) = upAfter T m ρ c t.val := by unfold upAfter; rw [last_active T t hlt]
  have hd : k0_pay3 (iblk T m ρ c (3 : Fin 5) t) = downAfter T m ρ c t.val := by unfold downAfter; rw [last_active T t hlt]
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyLoad c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) hl ((actives_iff T t).2 hlt)
  rw [hg, hu, hd, ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexists _; iexact HS0
  isplitl [HS1]; · iexists _; iexact HS1
  isplitl [HS2]; · iexists _; iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At an active block of the expert before. -/
theorem sound_keep (c : Dev nD) (t : Fin (cfgA T).N) (hl : ¬ loadWord (crd T t) (nWord T.n) (eWord (crd T t) T.e) (pWord (crd T t) T.e) = 1#1)
    (hlt : t.val < T.count) :
    SoundAt T m ρ c t := by
  unfold SoundAt
  have hn := mt (loads_iff T t).2 hl
  have h0 : t.val ≠ 0 := fun h => hn ⟨hlt, Or.inl h⟩
  have he : T.e (ix1 (blk T t)) = T.e (ix1 (before (blk T t))) := by
    by_contra h; exact hn ⟨hlt, Or.inr h⟩
  have i4 : (cfgA T).idle (4 : Fin 5) ((cfgA T).grid.coords t) = false := (idle4 T t).trans (decide_eq_false (by omega))
  have ho : k0_pay4 (iblk T m ρ c (0 : Fin 5) t) (gateAfter T m ρ c t.val) (upAfter T m ρ c t.val) (downAfter T m ρ c t.val) = outAfter T m ρ c t.val := by
    unfold outAfter; rw [last_active T t hlt]
  have run := bodyKeep c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) hl ((actives_iff T t).2 hlt)
  rw [ho] at run
  rw [bigSep_W0]
  rewrite [i4]
  simp only [before0, before1, before2, before3, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_same T m ρ c t hlt h0 he, ← upAfter_same T m ρ c t hlt h0 he, ← downAfter_same T m ρ c t hlt h0 he]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 4000000 in
/-- At a block that is not active. -/
theorem sound_skip (c : Dev nD) (t : Fin (cfgA T).N) (hge : T.count ≤ t.val) :
    SoundAt T m ρ c t := by
  unfold SoundAt
  have h0 : t.val ≠ 0 := by have := T.count_pos; omega
  have hl : ¬ loadWord (crd T t) (nWord T.n) (eWord (crd T t) T.e) (pWord (crd T t) T.e) = 1#1 :=
    fun h => absurd ((loads_iff T t).1 h).1 (by omega)
  have ha : ¬ k0_cond2 (crd T t) (nWord T.n) = 1#1 := fun h => absurd ((actives_iff T t).1 h) (by omega)
  have i4 : (cfgA T).idle (4 : Fin 5) ((cfgA T).grid.coords t) = true := (idle4 T t).trans (decide_eq_true hge)
  have run := bodySkip c (crd T t) (ms0 T t) (hs0 T t) (ms1 T t) (hs1 T t) (ms2 T t) (hs2 T t) (ms3 T t) (hs3 T t) (ms4 T t) (hs4 T t) T.e T.n (iblk T m ρ c (0 : Fin 5) t) (iblk T m ρ c (1 : Fin 5) t) (iblk T m ρ c (2 : Fin 5) t) (iblk T m ρ c (3 : Fin 5) t) (gateAfter T m ρ c t.val) (upAfter T m ρ c t.val) (downAfter T m ρ c t.val) (outAfter T m ρ c t.val) hl ha
  rw [bigSep_W0]
  rewrite [i4]
  simp only [before0, before1, before2, before3, before4 T m ρ c t hge, after0, after1, after2, after3, after4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  simp only [Fin.val_castSucc, Fin.val_succ, Nat.add_sub_cancel]
  simp only [exists_held (show t.val ≠ 0 from h0)]
  rw [← gateAfter_idle T m ρ c t.val hge, ← upAfter_idle T m ρ c t.val hge, ← downAfter_idle T m ρ c t.val hge, ← outAfter_idle T m ρ c t.val hge]
  iintro ⟨⟨HS0, HS1, HS2, HT0, HT1⟩, Ho, ⟨%d0, H0⟩, ⟨%d1, H1⟩, ⟨%d2, H2⟩, ⟨%d3, H3⟩, ⟨%d4, H4⟩⟩
  iapply (run _)
  isplitl [H0]; · iexact H0
  isplitl [H1]; · iexact H1
  isplitl [H2]; · iexact H2
  isplitl [H3]; · iexact H3
  isplitl [HT0]; · iexact HT0
  isplitl [HT1]; · iexact HT1
  isplitl [H4]; · iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  cases f4 : ((cfgA T).win (4 : Fin 5)).flush t
  · iexists d4; iexact H4
  · iexact H4

/-- The body's obligation, at every point. -/
theorem body_obligation (c : Dev nD) : BodyObligation (dats T m ρ 0 c) (defs₀ (F := Bits)) Variants.none () Set.univ := fun t => by
  rw [bigSep_W0]
  by_cases hl : loadWord (crd T t) (nWord T.n) (eWord (crd T t) T.e) (pWord (crd T t) T.e) = 1#1
  · exact sound_load T m ρ c t hl
  · by_cases hlt : t.val < T.count
    · exact sound_keep T m ρ c t hl hlt
    · exact sound_skip T m ρ c t (by omega)

/-! ## The launch -/

/-- The launch's ghost element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches as the launch hands them; -/
theorem phi_first (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- at the last it gives the scratches back. -/
theorem phi_last (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The final states: every window's array at what the data compute, every table as it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory holding the tables, with zero counters: every weakly fair execution ends in such a state, its counters at zero. -/
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- The arguments end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- The frame: every weakly fair execution ends, nothing faults, the arguments end unchanged and every counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Kernel5.Experts

end
-- ==== Proof.Experts5.Claims.lean ====
/- The routed experts' call of the second layer: its claims. -/
module

public import proofs.«01_k».proof.Defs
public import proofs.«01_k».proof.Proof.Experts5.Host
public import proofs.«01_k».proof.Proof.Experts.Ranges
public import proofs.«01_k».proof.Proof.Experts5Bits.Frame
public import proofs.«01_k».proof.Proof.Gen.Reference5Ideal.Run
public import Idealize.ShloMosaic.Lib.Quiescent

@[expose] public section

noncomputable section

namespace Cert.Proof

open Idealize.ShloMosaic Idealize.SL.Sem Idealize.ShloMosaic.TcCoe

/-- There is one device. -/
theorem only_device (c d : Dev 1) : c = d := Subsingleton.elim c d

/-- The precondition at the machine's floats gives the tables in their ranges. -/
theorem tables_bits_next (m : (ℓ : Loc Cert.Kernel5.nD Cert.Kernel5.τ Cert.Kernel5.sig) → Buf (Elt Bits) ℓ) (h : Pre_Kernel5 m) :
    ∃ T : Cert.Kernel5.Experts.Tables, Cert.Kernel5.Experts.Holds T m := by
  obtain ⟨he, h1, h2⟩ := Cert.ExpertsRanges.decode _ _ _ _ _ _ (h 0)
  refine ⟨⟨_, _, he, h1, h2⟩, fun c => ?_, fun c => ?_⟩
  · rw [only_device c 0]
  · rw [only_device c 0]

/-- The same over the extended reals. -/
theorem tables_ideal_next (m : (ℓ : Loc Cert.Kernel5Ideal.nD Cert.Kernel5Ideal.τ Cert.Kernel5Ideal.sig) → Buf (Elt Ideal) ℓ) (h : Pre_Kernel5Ideal m) :
    ∃ T : Cert.Kernel5Ideal.Experts.Tables, Cert.Kernel5Ideal.Experts.Holds T m := by
  obtain ⟨he, h1, h2⟩ := Cert.ExpertsRanges.decode _ _ _ _ _ _ (h 0)
  refine ⟨⟨_, _, he, h1, h2⟩, fun c => ?_, fun c => ?_⟩
  · rw [only_device c 0]
  · rw [only_device c 0]

theorem quiescent_Kernel5 : quiescent_Kernel5 := fun m ρ h => by
  obtain ⟨T, hT⟩ := tables_bits_next m h
  exact Cert.Kernel5.Experts.frame T m ρ hT

theorem quiescent_Kernel5Ideal : quiescent_Kernel5Ideal := fun m ρ h => by
  obtain ⟨T, hT⟩ := tables_ideal_next m h
  exact Cert.Kernel5Ideal.Experts.frame T m ρ hT

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal_on_active_rows := by
  intro m ρ m' ρ' hpre hagree
  obtain ⟨T, hT⟩ := tables_ideal_next m hpre
  have hn : ∀ c : Dev Cert.Kernel5Ideal.nD, m ((c.tc : Thread Cert.Kernel5Ideal.nD Cert.Kernel5Ideal.τ).loc Cert.Kernel5Ideal.main_arg1) = T.n := hT.2
  refine ⟨fun c => Cert.Kernel5Ideal.Experts.result T m c, ?_, ?_⟩
  · refine (θ_run Cert.Kernel5Ideal.defs _ _).mono (fun _ h c => ⟨fun i hi => (h c).1 i ?_, (h c).2⟩) (Cert.Kernel5Ideal.Experts.value T m ρ hT)
    have := Cert.ExpertsRanges.active (F := Ideal) _ _ _ _ _ _ (by rw [hn c]; exact T.hn2) i hi
    rw [hn c] at this
    exact this
  · refine (θ_run Cert.Reference5Ideal.defs _ _).mono (fun _ h c => ⟨fun i _ => ?_, (h c).2⟩) (Cert.Reference5Ideal.Value.run (F := Ideal) m' ρ')
    rw [(h c).1]
    simp only [hagree c]
    refine congrFun ((Cert.Reference5Ideal.Read.val_main_v33_eq _ _ _ _ _).trans
      (Cert.Kernel5Ideal.Experts.Host.reads _ T.expert (fun b => ?_) _ _ _ _)) i
    rw [hT.1 c]
    rfl

end Cert.Proof

end
-- ==== Proof.InProjHyena.lean ====
/-
  The in-projection of the Hyena mixer: what the kernel's result array holds after the run, as a formula in its two arguments.
  The kernel walks the 12 column blocks of the weights, and under each of them the 8 row blocks; the first point of a
  column block rounds the weights' column block into a scratch, and every point multiplies its row block by the scratch.
-/
module

public import proofs.«01_k».proof.Proof.Gen.Kernel6Ideal.Value
public import proofs.«01_k».proof.Proof.Gen.Reference6Ideal.Read
public import Idealize.ShloMosaic.Lib.Pipeline.Value
public import Idealize.ShloMosaic.Lib.MatmulPlain
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InProjHyena

open Cert.Kernel6Ideal Cert.Kernel6Ideal.Gen

theorem hz : (![0, 0] : Fin 2 → Nat) = fun _ => 0 := funext fun a => by fin_cases a <;> rfl

section Cases
variable {F : FTy → Type} [FloatOps F]

/-- A point that opens a column block leaves the rounded weights in the scratch. -/
theorem scratch_open (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec F S1024x2048 .bf16) (x1 : Vec F S2048x512 .f32) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S2048x512) hz]

/-- … and in the output's block the product with the weights it has just rounded. -/
theorem out_open (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec F S1024x2048 .bf16) (x1 : Vec F S2048x512 .f32) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.readCov_unit_zero (S := S2048x512) _ hz,
    View.ld_unit_zero (S := S2048x512) hz, View.ld_unit_zero (S := S1024x2048) hz]

/-- Every other point multiplies by what the scratch holds. -/
theorem out_rest (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (a5 : Memref sig .tc .vmem S2048x512 .bf16) (h5 : a5.IsWhole) (hc : ¬cond0_0 i)
    (x0 : Vec F S1024x2048 .bf16) (x1 : Vec F S2048x512 .f32) (w : Vec F S2048x512 .bf16) : out0_B_2 c i a2 h2 a3 h3 a4 h4 a5 h5 hc x0 x1 w = k0_pay2 x0 w := by
  unfold out0_B_2
  rw [View.read_writes_eq_canon _ _ _ (cover0_B_2 c i a2 h2 a3 h3 a4 h4 a5 h5 hc x0 x1 w)]
  unfold kernelRun0_B
  dsimp only
  sl_unfold_words
  rw [View.canon_unit_zero hz]
  simp only [View.readAt_eq_ld, h2.read_unread, h5.read_unread,
    View.ld_unit_zero (S := S2048x512) hz, View.ld_unit_zero (S := S1024x2048) hz]

end Cases

section Run
variable {F : FTy → Type} [FloatOps F]
variable (m : (ℓ : Loc nD τ sig) → Buf (Elt F) ℓ)

/-- Where the windows stand at point `t`: row block `t % 8`, column block `t / 8`. -/
theorem places : ∀ t : Fin cfg0.N,
    (win0_0.index t (0 : Fin 2) = t.val % 8 ∧ win0_0.index t (1 : Fin 2) = 0)
    ∧ (win0_1.index t (0 : Fin 2) = 0 ∧ win0_1.index t (1 : Fin 2) = t.val / 8)
    ∧ (win0_2.index t (0 : Fin 2) = t.val % 8 ∧ win0_2.index t (1 : Fin 2) = t.val / 8) :=
  (by decide +kernel : ∀ t : Fin grid0.N, _)

/-- The weights' column block at point `t`, element by element. -/
theorem weights_at (c : Dev nD) (t : Fin cfg0.N) (k : Fin 2048) (l : Fin 512) :
    (iblk m c 1 t : Vec F S2048x512 .f32) (ix2 k l)
      = m ((c : Thread nD τ).loc main_arg1) (ix2 k ⟨t.val / 8 * 512 + l.val, by have := t.isLt; have h : cfg0.N = 96 := N_0; omega⟩) := by
  obtain ⟨-, ⟨p, q⟩, -⟩ := places t
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [p]; omega
  | ⟨1, _⟩ => show win0_1.index t 1 * 512 + 1 * l.val = t.val / 8 * 512 + l.val; rw [q]; omega

/-- The row block of the left operand at point `t`. -/
theorem rows_at (c : Dev nD) (t : Fin cfg0.N) (r : Fin 1024) (k : Fin 2048) :
    (iblk m c 0 t : Vec F S1024x2048 .bf16) (ix2 r k)
      = m ((c : Thread nD τ).loc main_arg0) (ix2 ⟨t.val % 8 * 1024 + r.val, by omega⟩ k) := by
  obtain ⟨⟨p, q⟩, -⟩ := places t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val % 8 * 1024 + r.val; rw [p]; omega
  | ⟨1, _⟩ => show win0_0.index t 1 * 2048 + 1 * k.val = k.val; rw [q]; omega

/-- Points of one column block see the same weights. -/
theorem weights_same (c : Dev nD) (t u : Fin cfg0.N) (h : t.val / 8 = u.val / 8) :
    (iblk m c 1 t : Vec F S2048x512 .f32) = iblk m c 1 u := by
  refine funext fun (j : S2048x512.Idx) => ?_
  have e : j = ix2 (j 0) (j 1) := eq_ix2 j
  rw [e]
  refine (weights_at m c t (j 0) (j 1)).trans (Eq.trans ?_ (weights_at m c u (j 0) (j 1)).symm)
  simp only [h]

/-- After every point the scratch holds the rounded weights of the point's column block. -/
theorem scratch_after (c : Dev nD) : ∀ (n : ℕ) (h : n < cfg0.N), (outsAt0 m c n h).2 = k0_pay1 (F := F) (iblk m c 1 ⟨n, h⟩)
  | 0, h => by rw [outsAt0_A m c ⟨0, h⟩ rfl]; dsimp only; rw [scratch_open]
  | n + 1, h => by
    by_cases h0 : (n + 1) % 8 = 0
    · rw [outsAt0_A m c ⟨n + 1, h⟩ h0]; dsimp only; rw [scratch_open]
    · rw [outsAt0_B m c ⟨n + 1, h⟩ h0]
      show (outsAt0 m c n _).2 = _
      rw [scratch_after c n, weights_same m c ⟨n, Nat.lt_of_succ_lt h⟩ ⟨n + 1, h⟩ (by show n / 8 = (n + 1) / 8; omega)]

/-- What every point leaves in the output's block. -/
theorem out_after (c : Dev nD) (t : Fin cfg0.N) : (outsAt0 m c t.val t.isLt).1
    = k0_pay2 (F := F) (iblk m c 0 t) (k0_pay1 (F := F) (iblk m c 1 t)) := by
  by_cases h0 : t.val % 8 = 0
  · rw [outsAt0_A m c t h0]; dsimp only; rw [out_open]
  · rw [outsAt0_B m c t h0]
    dsimp only
    have e := weights_same m c ⟨t.val - 1, Nat.lt_of_le_of_lt (Nat.sub_le _ _) t.isLt⟩ t (by show (t.val - 1) / 8 = t.val / 8; omega)
    rw [out_rest, scratch_after m c (t.val - 1), e]

end Run

/-! ## Over the extended reals -/

/-- The product with the weights. -/
def formula (a : FVec Ideal S8192x2048 .bf16) (w : FVec Ideal S2048x6144 .f32) : FVec Ideal S8192x6144 .bf16 := fun i =>
  ∑ k : Fin 2048, a (ix2 (i 0) k) * w (ix2 k (i 1))

/-- One element of what a point computes. -/
theorem block_at (a : FVec Ideal S1024x2048 .bf16) (w : FVec Ideal S2048x512 .f32)
    (r : Fin 1024) (l : Fin 512) : k0_pay2 (F := Ideal) a (k0_pay1 (F := Ideal) w) (ix2 r l)
      = ∑ k : Fin 2048, a (ix2 r k) * w (ix2 k l) := by
  pointwise [k0_pay2, k0_pay1]

variable (m : (ℓ : Loc nD τ sig) → Buf (Elt Ideal) ℓ)

/-- After the run the result array is the formula of the arguments. -/
theorem final (c : Dev nD) : Value.G2 m c = formula (m ((c : Thread nD τ).loc main_arg0)) (m ((c : Thread nD τ).loc main_arg1)) := by
  rw [← Value.final2]
  refine (dats m 0 c).arrAt_eq_of_cover 2 _ (fun t _ => ?_) (fun i => (Value.covered_iff2 i).2 (by
    have h0 : (i 0).val < 8192 := (i 0).isLt; have h1 : (i 1).val < 6144 := (i 1).isLt; omega))
  rw [Value.flushed2, out_after]
  obtain ⟨-, -, p, q⟩ := places t
  funext y
  rw [View.read_apply]
  have hy : y = ix2 (y 0) (y 1) := eq_ix2 y
  have ht : t.val < 96 := lt_of_lt_of_eq t.isLt (show cfg0.N = 96 from N_0)
  have h0 : (y 0).val < 1024 := (y 0).isLt
  have h1 : (y 1).val < 512 := (y 1).isLt
  have hi : ((cfg0.win 2).blk t).view.emb y
      = (ix2 (⟨t.val % 8 * 1024 + (y 0).val, by omega⟩ : Fin 8192) (⟨t.val / 8 * 512 + (y 1).val, by omega⟩ : Fin 6144) : S8192x6144.Idx) := by
    funext a
    apply Fin.ext
    match a with
    | ⟨0, _⟩ => show win0_2.index t 0 * 1024 + 1 * (y 0).val = t.val % 8 * 1024 + (y 0).val; rw [p]; omega
    | ⟨1, _⟩ => show win0_2.index t 1 * 512 + 1 * (y 1).val = t.val / 8 * 512 + (y 1).val; rw [q]; omega
  refine Eq.trans (b := k0_pay2 (F := Ideal) (iblk m c 0 t) (k0_pay1 (F := Ideal) (iblk m c 1 t)) (ix2 (y 0) (y 1))) (congrArg _ hy) ?_
  refine (block_at _ _ (y 0) (y 1)).trans ?_
  refine Eq.trans ?_ (congrArg (formula (m ((c : Thread nD τ).loc main_arg0)) (m ((c : Thread nD τ).loc main_arg1))) hi).symm
  unfold formula
  refine Finset.sum_congr rfl fun k _ => ?_
  exact congrArg₂ (· * ·) (rows_at m c t (y 0) k) (weights_at m c t k (y 1))

end Cert.InProjHyena

namespace Cert.InProjHyena.Host
open Cert.Reference6Ideal Cert.Reference6Ideal.Read

/-- The reference is the same formula. -/
theorem reads (a : FVec Ideal S8192x2048 .bf16) (w : FVec Ideal S2048x6144 .f32) :
    val_main_v2 (F := Ideal) a w = Cert.InProjHyena.formula a w := by
  funext i
  rw [val_main_v2_apply, val_main_v1_apply]
  have el : ∀ k : Fin 2048, lidx_main_v1 i k = ix2 (i 0) k := fun k => funext fun b => by
    match b with
    | ⟨0, _⟩ => rfl
    | ⟨1, _⟩ => rfl
  have er : ∀ k : Fin 2048, ridx_main_v1 i k = ix2 k (i 1) := fun k => funext fun b => by
    match b with
    | ⟨0, _⟩ => rfl
    | ⟨1, _⟩ => rfl
  simp only [el, er]
  rfl

end Cert.InProjHyena.Host

end
-- ==== Proof.RowNorm.lean ====
/-
  The root-mean-square norm of a row of 2048, over the extended reals.
-/
module

public import Idealize.ShloMosaic.Lib.Pointwise

@[expose] public section

noncomputable section

namespace Cert.RowNorm

open Idealize.ShloMosaic

/-- An element `v` of a row `x`, over the root of the row's mean square (with the norm's small constant under the root). -/
def normed (x : Fin 2048 → Ideal .f32) (v : Ideal .f32) : Ideal .f32 :=
  v * Ideal.rsqrt (Ideal.div (∑ k : Fin 2048, x k * x k) (Ideal.ofBits .f32 0x45000000#32) + Ideal.ofBits .f32 0x358637BD#32)

/-- The same as the references write it: their sum starts at zero. -/
theorem host (x : Fin 2048 → Ideal .f32) (v g : Ideal .f32) :
    FloatOps.mulf (F := Ideal) (FloatOps.mulf (F := Ideal) v (FloatOps.hostUnary (F := Ideal) .rsqrt (FloatOps.addf (F := Ideal)
      (FloatOps.hostDivf (F := Ideal) ((FloatOps.ofBits (F := Ideal) .f32 0x00000000#32 : EReal) + ∑ k : Fin 2048, FloatOps.mulf (F := Ideal) (x k) (x k))
        (FloatOps.ofBits (F := Ideal) .f32 0x45000000#32)) (FloatOps.ofBits (F := Ideal) .f32 0x358637BD#32)))) g
      = normed x v * g := by
  unfold normed
  have hz : (FloatOps.ofBits (F := Ideal) .f32 0x00000000#32 : EReal) = 0 := Ideal.ofBits_zero .f32
  rw [hz, zero_add]
  rfl

end Cert.RowNorm

end
-- ==== Proof.FinalNorm.lean ====
/-
  The norm that closes the model: what the kernel's result array holds after the run, as a formula in its two arguments.
  The kernel walks 16 blocks of 512 rows; a point normalises each row of its block and scales it by the gain.
-/
module

public import proofs.«01_k».proof.Proof.RowNorm
public import proofs.«01_k».proof.Proof.Gen.Kernel7Ideal.Value
public import proofs.«01_k».proof.Proof.Gen.Reference7Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FinalNorm

open Cert.Kernel7Ideal Cert.Kernel7Ideal.Gen

theorem hz : (![0, 0] : Fin 2 → Nat) = fun _ => 0 := funext fun a => by fin_cases a <;> rfl

section Run
variable {F : FTy → Type} [FloatOps F]
variable (m : (ℓ : Loc nD τ sig) → Buf (Elt F) ℓ)

/-- Where the windows stand at point `t`: the rows' windows at row block `t`, the gain's on its only block. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- The row block at point `t`. -/
theorem rows_at (c : Dev nD) (t : Fin cfg0.N) (r : Fin 512) (k : Fin 2048) :
    (iblk m c 0 t : Vec F S512x2048 .f32) (ix2 r k)
      = m ((c : Thread nD τ).loc main_arg0) (ix2 ⟨t.val * 512 + r.val, by have := t.isLt; have h : cfg0.N = 16 := N_0; omega⟩ k) := by
  obtain ⟨⟨p, q⟩, -⟩ := places t
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [p]; omega
  | ⟨1, _⟩ => show win0_0.index t 1 * 2048 + 1 * k.val = k.val; rw [q]; omega

/-- The gain at point `t`. -/
theorem gain_at (c : Dev nD) (t : Fin cfg0.N) (k : Fin 2048) :
    (iblk m c 1 t : Vec F S1x2048 .f32) (ix2 (0 : Fin 1) k) = m ((c : Thread nD τ).loc main_arg1) (ix2 (0 : Fin 1) k) := by
  obtain ⟨-, ⟨p, q⟩, -⟩ := places t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [p]
  | ⟨1, _⟩ => show win0_1.index t 1 * 2048 + 1 * k.val = k.val; rw [q]; omega

/-- The block a point leaves is the payload of its two blocks. -/
theorem left (x : Vec F S512x2048 .f32) (g : Vec F S1x2048 .f32) : out0_2 x g = k0_pay1 x g := by
  unfold out0_2
  rw [View.ld_unit_zero (S := S512x2048) hz, View.ld_unit_zero (S := S1x2048) hz]
  exact View.canon_unit_zero hz _ _

/-- An index lies in the block of point `t` when it does so on each axis. -/
theorem mem_block (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- The blocks cover the result. -/
theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 0).val / 512 := ⟨⟨(i 0).val / 512, by rw [show cfg0.N = 16 from N_0]; omega⟩, rfl⟩
  obtain ⟨-, -, p, q⟩ := places t
  refine ⟨t, (by decide +kernel : ∀ t : Fin grid0.N, win0_2.flush t = true) t, (mem_block t i).2 fun a => ?_⟩
  match a with
  | ⟨0, _⟩ => show win0_2.index t (0 : Fin 2) * 512 ≤ (i 0).val ∧ (i 0).val < win0_2.index t (0 : Fin 2) * 512 + 512; rw [p]; omega
  | ⟨1, _⟩ => show win0_2.index t (1 : Fin 2) * 2048 ≤ (i 1).val ∧ (i 1).val < win0_2.index t (1 : Fin 2) * 2048 + 2048; rw [q]; omega

end Run

/-! ## Over the extended reals -/

/-- Every row normalised, times the gain. -/
def formula (x : FVec Ideal S8192x2048 .f32) (g : FVec Ideal S1x2048 .f32) : FVec Ideal S8192x2048 .f32 := fun i =>
  Cert.RowNorm.normed (fun k => x (ix2 (i 0) k)) (x i) * g (ix2 (0 : Fin 1) (i 1))

/-- One element of what a point computes. -/
theorem block_at (x : FVec Ideal S512x2048 .f32) (g : FVec Ideal S1x2048 .f32) (r : Fin 512) (l : Fin 2048) :
    k0_pay1 (F := Ideal) x g (ix2 r l) = Cert.RowNorm.normed (fun k => x (ix2 r k)) (x (ix2 r l)) * g (ix2 (0 : Fin 1) l) := by
  unfold Cert.RowNorm.normed
  pointwise [k0_pay1]

variable (m : (ℓ : Loc nD τ sig) → Buf (Elt Ideal) ℓ)

/-- After the run the result array is the formula of the arguments. -/
theorem final (c : Dev nD) : (dats m 0 c).arrAt 2 cfg0.N = formula (m ((c : Thread nD τ).loc main_arg0)) (m ((c : Thread nD τ).loc main_arg1)) := by
  refine (dats m 0 c).arrAt_eq_of_cover 2 _ (fun t _ => ?_) covered
  rw [Value.flushed2, left]
  obtain ⟨-, -, p, q⟩ := places t
  funext y
  rw [View.read_apply]
  have hy : y = ix2 (y 0) (y 1) := eq_ix2 y
  have ht : t.val < 16 := lt_of_lt_of_eq t.isLt (show cfg0.N = 16 from N_0)
  have h0 : (y 0).val < 512 := (y 0).isLt
  have h1 : (y 1).val < 2048 := (y 1).isLt
  have hi : ((cfg0.win 2).blk t).view.emb y = (ix2 (⟨t.val * 512 + (y 0).val, by omega⟩ : Fin 8192) (y 1 : Fin 2048) : S8192x2048.Idx) := by
    funext a
    apply Fin.ext
    match a with
    | ⟨0, _⟩ => show win0_2.index t 0 * 512 + 1 * (y 0).val = t.val * 512 + (y 0).val; rw [p]; omega
    | ⟨1, _⟩ => show win0_2.index t 1 * 2048 + 1 * (y 1).val = (y 1).val; rw [q]; omega
  refine Eq.trans (b := k0_pay1 (F := Ideal) (iblk m c 0 t) (iblk m c 1 t) (ix2 (y 0) (y 1))) (congrArg _ hy) ?_
  refine (block_at _ _ (y 0) (y 1)).trans ?_
  refine Eq.trans ?_ (congrArg (formula (m ((c : Thread nD τ).loc main_arg0)) (m ((c : Thread nD τ).loc main_arg1))) hi).symm
  unfold formula
  refine congrArg₂ (· * ·) ?_ (gain_at m c t (y 1))
  exact congrArg₂ Cert.RowNorm.normed (funext fun k => rows_at m c t (y 0) k) (rows_at m c t (y 0) (y 1))

end Cert.FinalNorm

namespace Cert.FinalNorm.Host
open Cert.Reference7Ideal Cert.Reference7Ideal.Read

/-- The reference is the same formula. -/
theorem reads (x : FVec Ideal S8192x2048 .f32) (g : FVec Ideal S1x2048 .f32) :
    val_main_v11 (F := Ideal) x g = Cert.FinalNorm.formula x g := by
  funext (i : S8192x2048.Idx)
  rw [val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply,
    val_main_v1_apply, val_main_cst_apply]
  have e : ∀ k : Fin 2048, idx_main_v1 (idx_main_v2 (idx_main_v8 i)) k = ix2 (i 0) k := fun k => funext fun b => by
    match b with
    | ⟨0, _⟩ => rfl
    | ⟨1, _⟩ => rfl
  have eg : idx_main_v10 i = ix2 (0 : Fin 1) (i 1) := funext fun b => by
    match b with
    | ⟨0, _⟩ => rfl
    | ⟨1, _⟩ => rfl
  simp only [e, eg, val_main_v0_apply]
  exact Cert.RowNorm.host _ _ _

end Cert.FinalNorm.Host

end
-- ==== Proof.NormMod.lean ====
/-
  The modulated norm: what the kernel's result array holds after the run, as a formula in its four arguments.
  The kernel walks 16 blocks of 512 rows; a point normalises each row of its block, scales it by the gain and by one more
  than the modulation's scale, and adds the modulation's shift.
-/
module

public import proofs.«01_k».proof.Proof.RowNorm
public import proofs.«01_k».proof.Proof.Gen.Kernel8Ideal.Value
public import proofs.«01_k».proof.Proof.Gen.Reference8Ideal.Read
public import Idealize.ShloMosaic.Lib.Pipeline.Value
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.NormMod

open Cert.Kernel8Ideal Cert.Kernel8Ideal.Gen

theorem hz : (![0, 0] : Fin 2 → Nat) = fun _ => 0 := funext fun a => by fin_cases a <;> rfl

section Run
variable {F : FTy → Type} [FloatOps F]
variable (m : (ℓ : Loc nD τ sig) → Buf (Elt F) ℓ)

/-- Where the windows stand at point `t`: the rows' windows at row block `t`, the others on their only block. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- The row block at point `t`. -/
theorem rows_at (c : Dev nD) (t : Fin cfg0.N) (r : Fin 512) (k : Fin 2048) :
    (iblk m c 0 t : Vec F S512x2048 .f32) (ix2 r k)
      = m ((c : Thread nD τ).loc main_arg0) (ix2 ⟨t.val * 512 + r.val, by have := t.isLt; have h : cfg0.N = 16 := N_0; omega⟩ k) := by
  obtain ⟨⟨p, q⟩, -⟩ := places t
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [p]; omega
  | ⟨1, _⟩ => show win0_0.index t 1 * 2048 + 1 * k.val = k.val; rw [q]; omega

/-- The gain at point `t`. -/
theorem gain_at (c : Dev nD) (t : Fin cfg0.N) (k : Fin 2048) :
    (iblk m c 1 t : Vec F S1x2048 .f32) (ix2 (0 : Fin 1) k) = m ((c : Thread nD τ).loc main_arg1) (ix2 (0 : Fin 1) k) := by
  obtain ⟨-, ⟨p, q⟩, -⟩ := places t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [p]
  | ⟨1, _⟩ => show win0_1.index t 1 * 2048 + 1 * k.val = k.val; rw [q]; omega

/-- The scale at point `t`. -/
theorem scale_at (c : Dev nD) (t : Fin cfg0.N) (k : Fin 2048) :
    (iblk m c 2 t : Vec F S1x2048 .f32) (ix2 (0 : Fin 1) k) = m ((c : Thread nD τ).loc main_arg2) (ix2 (0 : Fin 1) k) := by
  obtain ⟨-, -, ⟨p, q⟩, -⟩ := places t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [p]
  | ⟨1, _⟩ => show win0_2.index t 1 * 2048 + 1 * k.val = k.val; rw [q]; omega

/-- The shift at point `t`. -/
theorem shift_at (c : Dev nD) (t : Fin cfg0.N) (k : Fin 2048) :
    (iblk m c 3 t : Vec F S1x2048 .f32) (ix2 (0 : Fin 1) k) = m ((c : Thread nD τ).loc main_arg3) (ix2 (0 : Fin 1) k) := by
  obtain ⟨-, -, -, ⟨p, q⟩, -⟩ := places t
  unfold iblk
  rw [View.read_apply]
  show V m c main_arg3 _ = m (c.tc.loc main_arg3) _
  unfold V
  congr 1
  funext a
  apply Fin.ext
  match a with
  | ⟨0, _⟩ => show win0_3.index t 0 * 1 + 1 * 0 = 0; rw [p]
  | ⟨1, _⟩ => show win0_3.index t 1 * 2048 + 1 * k.val = k.val; rw [q]; omega

/-- The block a point leaves is the payload of its four blocks. -/
theorem left (x : Vec F S512x2048 .f32) (g sc sh : Vec F S1x2048 .f32) : out0_4 x g sc sh = k0_pay1 x g sc sh := by
  unfold out0_4
  simp only [View.ld_unit_zero (S := S512x2048) hz, View.ld_unit_zero (S := S1x2048) hz]
  exact View.canon_unit_zero hz _ _

/-- An index lies in the block of point `t` when it does so on each axis. -/
theorem mem_block (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v0).slice (win0_4.rect t)).set ↔ _
  rw [View.set_slice_whole, Rect.mem_set_unit]
  exact Iff.rfl

/-- The blocks cover the result. -/
theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht⟩ : ∃ t : Fin cfg0.N, t.val = (i 0).val / 512 := ⟨⟨(i 0).val / 512, by rw [show cfg0.N = 16 from N_0]; omega⟩, rfl⟩
  obtain ⟨-, -, -, -, p, q⟩ := places t
  refine ⟨t, (by decide +kernel : ∀ t : Fin grid0.N, win0_4.flush t = true) t, (mem_block t i).2 fun a => ?_⟩
  match a with
  | ⟨0, _⟩ => show win0_4.index t (0 : Fin 2) * 512 ≤ (i 0).val ∧ (i 0).val < win0_4.index t (0 : Fin 2) * 512 + 512; rw [p]; omega
  | ⟨1, _⟩ => show win0_4.index t (1 : Fin 2) * 2048 ≤ (i 1).val ∧ (i 1).val < win0_4.index t (1 : Fin 2) * 2048 + 2048; rw [q]; omega

end Run

/-! ## Over the extended reals -/

/-- Every row normalised, times the gain and one more than the scale, plus the shift. -/
def formula (x : FVec Ideal S8192x2048 .f32) (g sc sh : FVec Ideal S1x2048 .f32) : FVec Ideal S8192x2048 .bf16 := fun i =>
  Cert.RowNorm.normed (fun k => x (ix2 (i 0) k)) (x i) * g (ix2 (0 : Fin 1) (i 1)) * (1 + sc (ix2 (0 : Fin 1) (i 1))) + sh (ix2 (0 : Fin 1) (i 1))

/-- One element of what a point computes. -/
theorem block_at (x : FVec Ideal S512x2048 .f32) (g sc sh : FVec Ideal S1x2048 .f32) (r : Fin 512) (l : Fin 2048) :
    k0_pay1 (F := Ideal) x g sc sh (ix2 r l)
      = Cert.RowNorm.normed (fun k => x (ix2 r k)) (x (ix2 r l)) * g (ix2 (0 : Fin 1) l) * (1 + sc (ix2 (0 : Fin 1) l)) + sh (ix2 (0 : Fin 1) l) := by
  unfold Cert.RowNorm.normed
  pointwise [k0_pay1]

variable (m : (ℓ : Loc nD τ sig) → Buf (Elt Ideal) ℓ)

/-- After the run the result array is the formula of the arguments. -/
theorem final (c : Dev nD) : (dats m 0 c).arrAt 4 cfg0.N = formula (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) covered
  rw [Value.flushed4, left]
  obtain ⟨-, -, -, -, p, q⟩ := places t
  funext y
  rw [View.read_apply]
  have hy : y = ix2 (y 0) (y 1) := eq_ix2 y
  have ht : t.val < 16 := lt_of_lt_of_eq t.isLt (show cfg0.N = 16 from N_0)
  have h0 : (y 0).val < 512 := (y 0).isLt
  have h1 : (y 1).val < 2048 := (y 1).isLt
  have hi : ((cfg0.win 4).blk t).view.emb y = (ix2 (⟨t.val * 512 + (y 0).val, by omega⟩ : Fin 8192) (y 1 : Fin 2048) : S8192x2048.Idx) := by
    funext a
    apply Fin.ext
    match a with
    | ⟨0, _⟩ => show win0_4.index t 0 * 512 + 1 * (y 0).val = t.val * 512 + (y 0).val; rw [p]; omega
    | ⟨1, _⟩ => show win0_4.index t 1 * 2048 + 1 * (y 1).val = (y 1).val; rw [q]; omega
  refine Eq.trans (b := k0_pay1 (F := Ideal) (iblk m c 0 t) (iblk m c 1 t) (iblk m c 2 t) (iblk m c 3 t) (ix2 (y 0) (y 1))) (congrArg _ hy) ?_
  refine (block_at _ _ _ _ (y 0) (y 1)).trans ?_
  refine Eq.trans ?_ (congrArg (formula (m ((c : Thread nD τ).loc main_arg0)) (m ((c : Thread nD τ).loc main_arg1)) (m ((c : Thread nD τ).loc main_arg2)) (m ((c : Thread nD τ).loc main_arg3))) hi).symm
  unfold formula
  refine congrArg₂ (· + ·) (congrArg₂ (· * ·) (congrArg₂ (· * ·) ?_ (gain_at m c t (y 1))) (congrArg (1 + ·) (scale_at m c t (y 1)))) (shift_at m c t (y 1))
  exact congrArg₂ Cert.RowNorm.normed (funext fun k => rows_at m c t (y 0) k) (rows_at m c t (y 0) (y 1))

end Cert.NormMod

namespace Cert.NormMod.Host
open Cert.Reference8Ideal Cert.Reference8Ideal.Read

/-- The reference is the same formula. -/
theorem reads (x : FVec Ideal S8192x2048 .f32) (g sc sh : FVec Ideal S1x2048 .f32) :
    val_main_v18 (F := Ideal) x g sc sh = Cert.NormMod.formula x g sc sh := by
  funext (i : S8192x2048.Idx)
  rw [val_main_v18_apply, val_main_v17_apply, val_main_v16_apply, val_main_v15_apply, val_main_v14_apply, val_main_v13_apply,
    val_main_v12_apply, val_main_cst_2_apply,
    val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply,
    val_main_v1_apply, val_main_cst_apply]
  have e : ∀ k : Fin 2048, idx_main_v1 (idx_main_v2 (idx_main_v8 i)) k = ix2 (i 0) k := fun k => funext fun b => by
    match b with
    | ⟨0, _⟩ => rfl
    | ⟨1, _⟩ => rfl
  have eg : idx_main_v10 i = ix2 (0 : Fin 1) (i 1) := funext fun b => by
    match b with
    | ⟨0, _⟩ => rfl
    | ⟨1, _⟩ => rfl
  have es : idx_main_v14 i = ix2 (0 : Fin 1) (i 1) := eg
  have eh : idx_main_v16 i = ix2 (0 : Fin 1) (i 1) := eg
  simp only [e, eg, es, eh, val_main_v0_apply]
  refine congrArg₂ (· + ·) (congrArg₂ (· * ·) (Cert.RowNorm.host _ _ _) (congrArg (· + _) ?_)) rfl
  exact Ideal.ofBits_one_f32

end Cert.NormMod.Host

end
-- ==== Proof.HeadNorm.lean ====
/-
  The norm that closes the mLSTM mixer: what the kernel's result array holds after the run, as a formula in its four
  arguments. The kernel walks 16 blocks of 512 rows; a point adds the two directions, normalises each of the eight heads of
  every row, and gates the result by the logistic of the output gate's columns.
-/
module

public import proofs.«01_k».proof.Proof.Gen.Kernel9Ideal.Value
public import proofs.«01_k».proof.Proof.Gen.Reference9Ideal.Read
public import Idealize.ShloMosaic.Lib.Pipeline.Value
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.HeadNorm

open Cert.Kernel9Ideal Cert.Kernel9Ideal.Gen

section Run
variable {F : FTy → Type} [FloatOps F]
variable (m : (ℓ : Loc nD τ sig) → Buf (Elt F) ℓ)

/-- Where the windows stand at point `t`: at row block `t`, the gate's in the last third of the columns. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 2)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- The forward direction's row block at point `t`. -/
theorem forward_at (c : Dev nD) (t : Fin cfg0.N) (r : Fin 512) (k : Fin 2048) :
    (iblk m c 0 t : Vec F S512x2048 .f32) (ix2 r k)
      = m ((c : Thread nD τ).loc main_arg0) (ix2 ⟨t.val * 512 + r.val, by have := t.isLt; have h : cfg0.N = 16 := N_0; omega⟩ k) := by
  obtain ⟨⟨p, q⟩, -⟩ := places t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [p]; omega
  | ⟨1, _⟩ => show win0_0.index t 1 * 2048 + 1 * k.val = k.val; rw [q]; omega

/-- The backward direction's row block at point `t`. -/
theorem backward_at (c : Dev nD) (t : Fin cfg0.N) (r : Fin 512) (k : Fin 2048) :
    (iblk m c 1 t : Vec F S512x2048 .f32) (ix2 r k)
      = m ((c : Thread nD τ).loc main_arg1) (ix2 ⟨t.val * 512 + r.val, by have := t.isLt; have h : cfg0.N = 16 := N_0; omega⟩ k) := by
  obtain ⟨-, ⟨p, q⟩, -⟩ := places t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [p]; omega
  | ⟨1, _⟩ => show win0_1.index t 1 * 2048 + 1 * k.val = k.val; rw [q]; omega

/-- The gate's block at point `t`. -/
theorem gate_at (c : Dev nD) (t : Fin cfg0.N) (r : Fin 512) (k : Fin 2048) :
    (iblk m c 2 t : Vec F S512x2048 .bf16) (ix2 r k)
      = m ((c : Thread nD τ).loc main_arg2) (ix2 ⟨t.val * 512 + r.val, by have := t.isLt; have h : cfg0.N = 16 := N_0; omega⟩
          (⟨4096 + k.val, by omega⟩ : Fin 6144)) := by
  obtain ⟨-, -, ⟨p, q⟩, -⟩ := places t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = t.val * 512 + r.val; rw [p]; omega
  | ⟨1, _⟩ => show win0_2.index t 1 * 2048 + 1 * k.val = 4096 + k.val; rw [q]; omega

/-- The gain's window holds the gain, laid as one row. -/
theorem gain_array (c : Dev nD) (k : Fin 2048) :
    (V m c main_v0 : Vec F S1x2048 .f32) (ix2 (0 : Fin 1) k) = m ((c : Thread nD τ).loc main_arg3) (ix1 k) := by
  show (shapeCast S1x2048 (m ((c : Thread nD τ).loc main_arg3) : Vec F S2048 .f32) shapeCasts_S2048_S1x2048) (ix2 (0 : Fin 1) k) = _
  exact shapeCast_apply _ _ _ (ix1 k) (by rw [Shape.rowMajor_val_one, Shape.rowMajor_val_two]; show k.val = 0 * 2048 + k.val; omega)

/-- The gain at point `t`. -/
theorem gain_at (c : Dev nD) (t : Fin cfg0.N) (k : Fin 2048) :
    (iblk m c 3 t : Vec F S1x2048 .f32) (ix2 (0 : Fin 1) k) = m ((c : Thread nD τ).loc main_arg3) (ix1 k) := by
  obtain ⟨-, -, -, ⟨p, q⟩, -⟩ := places t
  refine Eq.trans ?_ (gain_array m c k)
  unfold iblk
  rw [View.read_apply]
  show V m c main_v0 _ = V m c main_v0 _
  congr 1
  funext a
  apply Fin.ext
  match a with
  | ⟨0, _⟩ => show win0_3.index t 0 * 1 + 1 * 0 = 0; rw [p]
  | ⟨1, _⟩ => show win0_3.index t 1 * 2048 + 1 * k.val = k.val; rw [q]; omega

/-- An index lies in the block of point `t` when it does so on each axis. -/
theorem mem_block (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v1).slice (win0_4.rect t)).set ↔ _
  rw [View.set_slice_whole, Rect.mem_set_unit]
  exact Iff.rfl

/-- The blocks cover the result. -/
theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht⟩ : ∃ t : Fin cfg0.N, t.val = (i 0).val / 512 := ⟨⟨(i 0).val / 512, by rw [show cfg0.N = 16 from N_0]; omega⟩, rfl⟩
  obtain ⟨-, -, -, -, p, q⟩ := places t
  refine ⟨t, (by decide +kernel : ∀ t : Fin grid0.N, win0_4.flush t = true) t, (mem_block t i).2 fun a => ?_⟩
  match a with
  | ⟨0, _⟩ => show win0_4.index t (0 : Fin 2) * 512 ≤ (i 0).val ∧ (i 0).val < win0_4.index t (0 : Fin 2) * 512 + 512; rw [p]; omega
  | ⟨1, _⟩ => show win0_4.index t (1 : Fin 2) * 2048 ≤ (i 1).val ∧ (i 1).val < win0_4.index t (1 : Fin 2) * 2048 + 2048; rw [q]; omega

end Run

/-! ## Over the extended reals -/

/-- An element `v` of a head `s` of a row, over the root of the head's mean square, times the gain and the gate's logistic. -/
def one (s : Fin 256 → EReal) (v g o : EReal) : EReal :=
  v * Ideal.rsqrt (Ideal.div (∑ k : Fin 256, s k * s k) (Ideal.ofBits .f32 0x43800000#32) + Ideal.ofBits .f32 0x358637BD#32) * g * Ideal.logistic o

/-- Column `k` of the head that column `l` lies in. -/
def column (l : Fin 2048) (k : Fin 256) : Fin 2048 := ⟨l.val / 256 * 256 + k.val, by omega⟩

/-- The formula. -/
def formula (a b : FVec Ideal S8192x2048 .f32) (p : FVec Ideal S8192x6144 .bf16) (g : FVec Ideal S2048 .f32) : FVec Ideal S8192x2048 .bf16 := fun i =>
  one (fun k => a (ix2 (i 0) (column (i 1) k)) + b (ix2 (i 0) (column (i 1) k))) (a (ix2 (i 0) (i 1)) + b (ix2 (i 0) (i 1)))
    (g (ix1 (i 1))) (p (ix2 (i 0) (⟨4096 + (i 1).val, by have h : (i 1).val < 2048 := (i 1).isLt; omega⟩ : Fin 6144)))

/-- The same on a block of rows. -/
def block (a b : FVec Ideal S512x2048 .f32) (o : FVec Ideal S512x2048 .bf16) (g : FVec Ideal S1x2048 .f32) : FVec Ideal S512x2048 .bf16 := fun y =>
  one (fun k => a (ix2 (y 0) (column (y 1) k)) + b (ix2 (y 0) (column (y 1) k))) (a (ix2 (y 0) (y 1)) + b (ix2 (y 0) (y 1)))
    (g (ix2 (0 : Fin 1) (y 1))) (o (ix2 (y 0) (y 1)))

section Heads
variable (a b : FVec Ideal S512x256 .f32) (o : FVec Ideal S512x256 .bf16) (g : FVec Ideal S1x256 .f32)

/-- One head of a block, computed from the head's columns alone. -/
def IsHead (v : FVec Ideal S512x256 .bf16) : Prop := ∀ (r : Fin 512) (l : Fin 256),
  v (ix2 r l) = one (fun k => a (ix2 r k) + b (ix2 r k)) (a (ix2 r l) + b (ix2 r l)) (g (ix2 (0 : Fin 1) l)) (o (ix2 r l))

theorem head0 : IsHead a b o g (k0_pay1 a b o g) := fun r l => by unfold one; pointwise [k0_pay1]
theorem head1 : IsHead a b o g (k0_pay3 (k0_pay2 a b) o g) := fun r l => by unfold one; pointwise [k0_pay3, k0_pay2]
theorem head2 : IsHead a b o g (k0_pay4 a b o g) := fun r l => by unfold one; pointwise [k0_pay4]
theorem head3 : IsHead a b o g (k0_pay7 (k0_pay5 a b) (k0_pay6 a b) o g) := fun r l => by unfold one; pointwise [k0_pay7, k0_pay6, k0_pay5]
theorem head4 : IsHead a b o g (k0_pay10 (k0_pay8 o) (k0_pay9 a b g)) := fun r l => by unfold one; pointwise [k0_pay10, k0_pay9, k0_pay8]
theorem head5 : IsHead a b o g (k0_pay11 a b o g) := fun r l => by unfold one; pointwise [k0_pay11]
theorem head6 : IsHead a b o g (k0_pay14 (k0_pay12 a b) (k0_pay13 a b) o g) := fun r l => by unfold one; pointwise [k0_pay14, k0_pay13, k0_pay12]
theorem head7 : IsHead a b o g (k0_pay15 a b o g) := fun r l => by unfold one; pointwise [k0_pay15]

end Heads

/-- A head computed from its columns is its part of the block. -/
theorem part (n : ℕ) (hn : n % 256 = 0) (hl : n + 256 ≤ 2048) (inb : ∀ a, (![0, n] : Fin 2 → ℕ) a + S512x256.size a ≤ S512x2048.size a)
    (inb' : ∀ a, (![0, n] : Fin 2 → ℕ) a + S1x256.size a ≤ S1x2048.size a)
    (a b : FVec Ideal S512x2048 .f32) (o : FVec Ideal S512x2048 .bf16) (g : FVec Ideal S1x2048 .f32) (v : FVec Ideal S512x256 .bf16)
    (hv : IsHead (View.ld (Val := Elt Ideal) (e' := .f32) a (Rect.unit (s := S512x2048) ![0, n] S512x256.size inb)) (View.ld (Val := Elt Ideal) (e' := .f32) b (Rect.unit (s := S512x2048) ![0, n] S512x256.size inb))
      (View.ld (Val := Elt Ideal) (e' := .bf16) o (Rect.unit (s := S512x2048) ![0, n] S512x256.size inb)) (View.ld (Val := Elt Ideal) (e' := .f32) g (Rect.unit (s := S1x2048) ![0, n] S1x256.size inb')) v)
    (x : S512x256.Idx) : v x = block a b o g ((Rect.unit (s := S512x2048) ![0, n] S512x256.size inb).emb x) := by
  have h0 : (x 0).val < 512 := (x 0).isLt
  have h1 : (x 1).val < 256 := (x 1).isLt
  have hx : x = ix2 (x 0) (x 1) := eq_ix2 x
  have at_row : ∀ k : Fin 256, (Rect.unit (s := S512x2048) ![0, n] S512x256.size inb).idx (ix2 (x 0) k) = (ix2 (x 0) (⟨n + k.val, by omega⟩ : Fin 2048) : S512x2048.Idx) := fun k => by
    funext d
    apply Fin.ext
    match d with
    | ⟨0, _⟩ => show 0 + 1 * (x 0).val = (x 0).val; omega
    | ⟨1, _⟩ => show n + 1 * k.val = n + k.val; omega
  have at_gain : (Rect.unit (s := S1x2048) ![0, n] S1x256.size inb').idx (ix2 (0 : Fin 1) (x 1)) = (ix2 (0 : Fin 1) (⟨n + (x 1).val, by omega⟩ : Fin 2048) : S1x2048.Idx) := by
    funext d
    apply Fin.ext
    match d with
    | ⟨0, _⟩ => rfl
    | ⟨1, _⟩ => show n + 1 * (x 1).val = n + (x 1).val; omega
  have at_x : (Rect.unit (s := S512x2048) ![0, n] S512x256.size inb).emb x = (ix2 (x 0) (⟨n + (x 1).val, by omega⟩ : Fin 2048) : S512x2048.Idx) :=
    (congrArg _ hx).trans (at_row (x 1))
  have col : ∀ k : Fin 256, column (⟨n + (x 1).val, by omega⟩ : Fin 2048) k = (⟨n + k.val, by omega⟩ : Fin 2048) := fun k =>
    Fin.ext (by show (n + (x 1).val) / 256 * 256 + k.val = n + k.val; omega)
  refine (congrArg v hx).trans ((hv (x 0) (x 1)).trans (Eq.trans ?_ (congrArg (block a b o g) at_x).symm))
  have sum_at : ∀ k : Fin 256, @HAdd.hAdd EReal EReal EReal _ (a ((Rect.unit (s := S512x2048) ![0, n] S512x256.size inb).idx (ix2 (x 0) k)))
      (b ((Rect.unit (s := S512x2048) ![0, n] S512x256.size inb).idx (ix2 (x 0) k))) = _ :=
    fun k => congrArg₂ (fun u v : EReal => u + v) (congrArg a (at_row k)) (congrArg b (at_row k))
  refine congr (congr (congrArg₂ one (funext fun k => ?_) ?_) ?_) ?_
  · exact (sum_at k).trans (congrArg (fun q : Fin 2048 => @HAdd.hAdd EReal EReal EReal _ (a (ix2 (x 0) q)) (b (ix2 (x 0) q))) (col k).symm)
  · exact sum_at (x 1)
  · exact congrArg g at_gain
  · exact congrArg o (at_row (x 1))

/-- The block a point leaves. -/
theorem left (a b : FVec Ideal S512x2048 .f32) (o : FVec Ideal S512x2048 .bf16) (g : FVec Ideal S1x2048 .f32) :
    out0_4 (F := Ideal) a b o g = block a b o g := by
  funext (y : S512x2048.Idx)
  unfold out0_4
  refine View.canon_apply_of_pieces (Val := Elt Ideal) (block a b o g) _ ?_ y (cover0_4 _ _ _ _ _ _ _ _ y)
  intro pc hpc
  rcases List.mem_cons.mp hpc with rfl | hpc
  · exact part 1792 rfl (by decide) _ inb_S1x2048_S1x256_0_1792 a b o g _ (head7 _ _ _ _)
  rcases List.mem_cons.mp hpc with rfl | hpc
  · exact part 1536 rfl (by decide) _ inb_S1x2048_S1x256_0_1536 a b o g _ (head6 _ _ _ _)
  rcases List.mem_cons.mp hpc with rfl | hpc
  · exact part 1280 rfl (by decide) _ inb_S1x2048_S1x256_0_1280 a b o g _ (head5 _ _ _ _)
  rcases List.mem_cons.mp hpc with rfl | hpc
  · exact part 1024 rfl (by decide) _ inb_S1x2048_S1x256_0_1024 a b o g _ (head4 _ _ _ _)
  rcases List.mem_cons.mp hpc with rfl | hpc
  · exact part 768 rfl (by decide) _ inb_S1x2048_S1x256_0_768 a b o g _ (head3 _ _ _ _)
  rcases List.mem_cons.mp hpc with rfl | hpc
  · exact part 512 rfl (by decide) _ inb_S1x2048_S1x256_0_512 a b o g _ (head2 _ _ _ _)
  rcases List.mem_cons.mp hpc with rfl | hpc
  · exact part 256 rfl (by decide) _ inb_S1x2048_S1x256_0_256 a b o g _ (head1 _ _ _ _)
  rcases List.mem_cons.mp hpc with rfl | hpc
  · exact part 0 rfl (by decide) _ inb_S1x2048_S1x256_0_0 a b o g _ (head0 _ _ _ _)
  nomatch hpc

variable (m : (ℓ : Loc nD τ sig) → Buf (Elt Ideal) ℓ)

/-- After the run the result array is the formula of the arguments. -/
theorem final (c : Dev nD) : (dats m 0 c).arrAt 4 cfg0.N = formula (m ((c : Thread nD τ).loc main_arg0)) (m ((c : Thread nD τ).loc main_arg1))
    (m ((c : Thread nD τ).loc main_arg2)) (m ((c : Thread nD τ).loc main_arg3)) := by
  refine (dats m 0 c).arrAt_eq_of_cover 4 _ (fun t _ => ?_) covered
  rw [Value.flushed4, left]
  obtain ⟨-, -, -, -, p, q⟩ := places t
  funext y
  rw [View.read_apply]
  have ht : t.val < 16 := lt_of_lt_of_eq t.isLt (show cfg0.N = 16 from N_0)
  have h0 : (y 0).val < 512 := (y 0).isLt
  have h1 : (y 1).val < 2048 := (y 1).isLt
  have hi : ((cfg0.win 4).blk t).view.emb y = (ix2 (⟨t.val * 512 + (y 0).val, by omega⟩ : Fin 8192) (y 1 : Fin 2048) : S8192x2048.Idx) := by
    funext a
    apply Fin.ext
    match a with
    | ⟨0, _⟩ => show win0_4.index t 0 * 512 + 1 * (y 0).val = t.val * 512 + (y 0).val; rw [p]; omega
    | ⟨1, _⟩ => show win0_4.index t 1 * 2048 + 1 * (y 1).val = (y 1).val; rw [q]; omega
  refine Eq.trans ?_ (congrArg (formula (m ((c : Thread nD τ).loc main_arg0)) (m ((c : Thread nD τ).loc main_arg1))
    (m ((c : Thread nD τ).loc main_arg2)) (m ((c : Thread nD τ).loc main_arg3))) hi).symm
  have hs : ∀ k : Fin 2048, @HAdd.hAdd EReal EReal EReal _ (iblk m c 0 t (ix2 (y 0) k : S512x2048.Idx)) (iblk m c 1 t (ix2 (y 0) k : S512x2048.Idx)) = _ :=
    fun k => congrArg₂ (fun u v : EReal => u + v) (forward_at m c t (y 0) k) (backward_at m c t (y 0) k)
  show one (fun k => _) _ _ _ = one (fun k => _) _ _ _
  congr 1
  · exact funext fun k => hs (column (y 1) k)
  · exact hs (y 1)
  · exact gain_at m c t (y 1)
  · exact gate_at m c t (y 0) (y 1)

end Cert.HeadNorm

namespace Cert.HeadNorm.Host
open Cert.Reference9Ideal Cert.Reference9Ideal.Read

/-- The reference is the same formula. -/
theorem reads (a b : FVec Ideal S8192x2048 .f32) (p : FVec Ideal S8192x6144 .bf16) (g : FVec Ideal S2048 .f32) :
    val_main_v25 (F := Ideal) a b p g = Cert.HeadNorm.formula a b p g := by
  funext (i : S8192x2048.Idx)
  have h0 : (i 0).val < 8192 := (i 0).isLt
  have h1 : (i 1).val < 2048 := (i 1).isLt
  rw [val_main_v25_apply, val_main_v24_apply, val_main_v23_apply, val_main_v22_apply, val_main_cst_3_apply, val_main_v21_apply,
    val_main_v20_apply, val_main_cst_2_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_cst_1_apply, val_main_v6_apply, val_main_v5_apply,
    val_main_cst_0_apply, val_main_v4_apply, val_main_v3_apply, val_main_cst_apply]
  have e : ∀ k : Fin 256, idx_main_v1 (idx_main_v3 (idx_main_v4 (idx_main_v10 (idx_main_v12 i))) k) = ix2 (i 0) (Cert.HeadNorm.column (i 1) k) :=
    fun k => funext fun d => Fin.ext (by
      have hk := k.isLt
      match d with
      | ⟨0, _⟩ => show ((((i 0).val * 2048 + (i 1).val) / 2048 * 8 + ((i 0).val * 2048 + (i 1).val) / 256 % 8) * 256 + k.val) / 2048 = (i 0).val; omega
      | ⟨1, _⟩ => show ((((i 0).val * 2048 + (i 1).val) / 2048 * 8 + ((i 0).val * 2048 + (i 1).val) / 256 % 8) * 256 + k.val) % 2048 = (i 1).val / 256 * 256 + k.val; omega)
  have e' : idx_main_v1 (idx_main_v12 i) = ix2 (i 0) (i 1) := funext fun d => Fin.ext (by
      match d with
      | ⟨0, _⟩ => show ((((i 0).val * 2048 + (i 1).val) / 2048 * 8 + ((i 0).val * 2048 + (i 1).val) / 256 % 8) * 256 + ((i 0).val * 2048 + (i 1).val) % 256) / 2048 = (i 0).val; omega
      | ⟨1, _⟩ => show ((((i 0).val * 2048 + (i 1).val) / 2048 * 8 + ((i 0).val * 2048 + (i 1).val) / 256 % 8) * 256 + ((i 0).val * 2048 + (i 1).val) % 256) % 2048 = (i 1).val; omega)
  have eg : idx_main_v13 (idx_main_v14 i) = ix1 (i 1) := funext fun d => by
    match d with
    | ⟨0, _⟩ => rfl
  have eo : idx_main_v16 i = ix2 (i 0) (⟨4096 + (i 1).val, by omega⟩ : Fin 6144) := funext fun d => by
    match d with
    | ⟨0, _⟩ => rfl
    | ⟨1, _⟩ => rfl
  simp only [val_main_v2_apply, val_main_v1_apply, val_main_v0_apply, e, e', eg, eo]
  unfold Cert.HeadNorm.formula Cert.HeadNorm.one
  have hz : (FloatOps.ofBits (F := Ideal) .f32 0x00000000#32 : EReal) = 0 := Ideal.ofBits_zero .f32
  rw [hz, zero_add]
  refine congrArg₂ (fun u v : EReal => u * v) rfl ?_
  show Ideal.div (Ideal.ofBits .f32 1065353216#32) (Ideal.ofBits .f32 1065353216#32 + Ideal.exp (-_)) = _
  rw [Ideal.ofBits_one_f32]
  rfl

end Cert.HeadNorm.Host

end
-- ==== Proof.ShortConv.lean ====
/-
  The centred convolution of width three along the rows, on one block of 512 rows: what the kernels compute with two
  rotations of the block and one row of each neighbour, as the plain sum over the row before, the row and the row after.
-/
module

public import proofs.«01_k».proof.Proof.Gen.Kernel12Ideal.Skeleton
public import Idealize.ShloMosaic.Lib.Pipeline.Value
public import Idealize.ShloMosaic.Lib.KernelVsHost
public import Idealize.ShloMosaic.Lib.WordCmp
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.SL.Sem

namespace Cert.ShortConv

open Cert.Kernel12Ideal Cert.Kernel12Ideal.Gen

/-- The row before, or zero above the first. -/
def before (u : Fin 8192 → EReal) (R : Fin 8192) : EReal := if h : R.val = 0 then 0 else u ⟨R.val - 1, by omega⟩

/-- The row after, or zero below the last. -/
def after (u : Fin 8192 → EReal) (R : Fin 8192) : EReal := if h : R.val = 8191 then 0 else u ⟨R.val + 1, by omega⟩

/-- One column convolved with three weights, plus a bias. -/
def smooth (u : Fin 8192 → EReal) (w : Fin 3 → EReal) (b : EReal) (R : Fin 8192) : EReal :=
  before u R * w 0 + u R * w 1 + after u R * w 2 + b

theorem first_row : ∀ r : Fin 512, IntOp.cmpi .eq (BitVec.ofNat 32 r.val) 0#32 = BitVec.ofBool (decide (r.val = 0)) := by decide +kernel
theorem last_row : ∀ r : Fin 512, IntOp.cmpi .eq (BitVec.ofNat 32 r.val) 511#32 = BitVec.ofBool (decide (r.val = 511)) := by decide +kernel
theorem past_first : ∀ i : Fin 16, Scalar.cmpi .sgt (BitVec.ofNat 32 i.val) 0#32 = BitVec.ofBool (decide (0 < i.val)) := by decide +kernel
theorem short_of_last : ∀ i : Fin 16, Scalar.cmpi .slt (BitVec.ofNat 32 i.val) 15#32 = BitVec.ofBool (decide (i.val < 15)) := by decide +kernel

/-- The first two terms at one place of a block: the row before comes from the neighbour in the block's first row. -/
theorem left_at (i : grid0.Coords) (x : FVec Ideal S512x512 .bf16) (p : FVec Ideal S16x512 .bf16) (w : FVec Ideal S3x512 .f32)
    (r l : Fin 512) :
    k0_pay5 (F := Ideal) i x p w (ix2 r l)
      = (if r.val = 0 then (if 0 < (i 0).val then p (ix2 (15 : Fin 16) l) else 0)
          else x (ix2 (⟨(r.val + 512 - 1) % 512, Nat.mod_lt _ (by decide)⟩ : Fin 512) l)) * w (ix2 (0 : Fin 3) l) + x (ix2 r l) * w (ix2 (1 : Fin 3) l) := by
  pointwise [k0_pay5, k0_pay3]
  rw [first_row r, past_first (i 0), WordCmp.select_decide, WordCmp.select_decide]

/-- The last term at one place of a block: the row after comes from the neighbour in the block's last row. -/
theorem right_at (i : grid0.Coords) (x : FVec Ideal S512x512 .bf16) (n : FVec Ideal S16x512 .bf16) (w : FVec Ideal S3x512 .f32)
    (r l : Fin 512) :
    k0_pay6 (F := Ideal) i x n w (ix2 r l)
      = (if r.val = 511 then (if (i 0).val < 15 then n (ix2 (0 : Fin 16) l) else 0)
          else x (ix2 (⟨(r.val + 512 - 511) % 512, Nat.mod_lt _ (by decide)⟩ : Fin 512) l)) * w (ix2 (2 : Fin 3) l) := by
  pointwise [k0_pay6, k0_pay3]
  rw [last_row r, short_of_last (i 0), WordCmp.select_decide, WordCmp.select_decide]

/-- One place of the convolved block, where the block and its neighbours are pieces of a column `u`. -/
theorem block_at (i : grid0.Coords) (x : FVec Ideal S512x512 .bf16) (p n : FVec Ideal S16x512 .bf16) (w : FVec Ideal S3x512 .f32)
    (b : FVec Ideal S1x512 .f32) (r l : Fin 512) (u : Fin 8192 → EReal) (w' : Fin 3 → EReal) (b' : EReal)
    (R : Fin 8192) (hR : R.val = (i 0).val * 512 + r.val)
    (hx : ∀ (r' : Fin 512) (R' : Fin 8192), R'.val = (i 0).val * 512 + r'.val → x (ix2 r' l) = u R')
    (hp : ∀ R' : Fin 8192, R'.val + 1 = (i 0).val * 512 → p (ix2 (15 : Fin 16) l) = u R')
    (hn : ∀ R' : Fin 8192, R'.val = (i 0).val * 512 + 512 → n (ix2 (0 : Fin 16) l) = u R')
    (hw : ∀ a : Fin 3, w (ix2 a l) = w' a) (hb : b (ix2 (0 : Fin 1) l) = b') :
    k0_pay7 (F := Ideal) (k0_pay4 b) (k0_pay5 i x p w) (k0_pay6 i x n w) (ix2 r l) = smooth u w' b' R := by
  have e : k0_pay7 (F := Ideal) (k0_pay4 b) (k0_pay5 i x p w) (k0_pay6 i x n w) (ix2 r l)
      = k0_pay5 (F := Ideal) i x p w (ix2 r l) + k0_pay6 (F := Ideal) i x n w (ix2 r l) + b (ix2 (0 : Fin 1) l) := by
    pointwise [k0_pay7, k0_pay4]
  have hi : (i 0).val < 16 := (i 0).isLt
  have hr : r.val < 512 := r.isLt
  rw [e, left_at, right_at, hb, hw 0, hw 1, hw 2, hx r R hR]
  unfold smooth before after
  refine congrArg (· + b') (congrArg₂ (· + ·) (congrArg (· + _) (congrArg (· * _) ?_)) (congrArg (· * _) ?_))
  · by_cases h0 : r.val = 0
    · rw [if_pos h0]
      by_cases h1 : 0 < (i 0).val
      · rw [if_pos h1, dif_neg (by omega)]; exact hp _ (by show R.val - 1 + 1 = _; omega)
      · rw [if_neg h1, dif_pos (by omega)]
    · rw [if_neg h0, dif_neg (by omega)]
      exact hx _ _ (by show R.val - 1 = (i 0).val * 512 + (r.val + 512 - 1) % 512; omega)
  · by_cases h0 : r.val = 511
    · rw [if_pos h0]
      by_cases h1 : (i 0).val < 15
      · rw [if_pos h1, dif_neg (by omega)]; exact hn _ (by show R.val + 1 = _; omega)
      · rw [if_neg h1, dif_pos (by omega)]
    · rw [if_neg h0, dif_neg (by omega)]
      exact hx _ _ (by show R.val + 1 = (i 0).val * 512 + (r.val + 512 - 511) % 512; omega)

end Cert.ShortConv
end
-- ==== Proof.GateConv.lean ====
/-
  The short convolution and first gate of the Hyena mixer: what the kernel's two result arrays hold after the run, as formulas
  in its arguments. The kernel walks 16 blocks of 512 rows by 4 blocks of 512 columns; a point convolves the same block of
  each of the three projections, stores the product of the last two and stores the first.
-/
module

public import proofs.«01_k».proof.Proof.ShortConv
public import proofs.«01_k».proof.Proof.Gen.Kernel12Ideal.Value
public import proofs.«01_k».proof.Proof.Gen.Reference12Ideal.Read

@[expose] public section

set_option maxRecDepth 16384

noncomputable section

open Idealize.ShloMosaic Idealize.ShloMosaic.TcCoe Idealize.SL.Sem
open Idealize.ShloMosaic.Pipeline (Dat)

namespace Cert.GateConv

open Cert.Kernel12Ideal Cert.Kernel12Ideal.Gen

/-- The zero offsets of a whole block. -/
theorem hz : (![0, 0] : Fin 2 → Nat) = fun _ => 0 := funext fun a => by fin_cases a <;> rfl

section Run
variable {F : FTy → Type} [FloatOps F]
variable (m : (ℓ : Loc nD τ sig) → Buf (Elt F) ℓ)

/-- A point's row block. -/
theorem row_of : ∀ t : Fin cfg0.N, (grid0.coords t 0).val = t.val / 4 :=
  (by decide +kernel : ∀ t : Fin grid0.N, _)

/-- Where a projection's block and its two neighbours stand: the projections lie side by side in the columns. -/
theorem places_x : ∀ t : Fin cfg0.N,
    (win0_0.index t (0 : Fin 2) = t.val / 4 ∧ win0_0.index t (1 : Fin 2) = 0 + t.val % 4)
    ∧ (win0_1.index t (0 : Fin 2) = t.val / 4 * 32 - 1 ∧ win0_1.index t (1 : Fin 2) = 0 + t.val % 4)
    ∧ (win0_2.index t (0 : Fin 2) = min ((t.val / 4 + 1) * 32) 511 ∧ win0_2.index t (1 : Fin 2) = 0 + t.val % 4)
    ∧ (win0_3.index t (0 : Fin 2) = t.val / 4 ∧ win0_3.index t (1 : Fin 2) = 4 + t.val % 4)
    ∧ (win0_4.index t (0 : Fin 2) = t.val / 4 * 32 - 1 ∧ win0_4.index t (1 : Fin 2) = 4 + t.val % 4)
    ∧ (win0_5.index t (0 : Fin 2) = min ((t.val / 4 + 1) * 32) 511 ∧ win0_5.index t (1 : Fin 2) = 4 + t.val % 4)
    ∧ (win0_6.index t (0 : Fin 2) = t.val / 4 ∧ win0_6.index t (1 : Fin 2) = 8 + t.val % 4)
    ∧ (win0_7.index t (0 : Fin 2) = t.val / 4 * 32 - 1 ∧ win0_7.index t (1 : Fin 2) = 8 + t.val % 4)
    ∧ (win0_8.index t (0 : Fin 2) = min ((t.val / 4 + 1) * 32) 511 ∧ win0_8.index t (1 : Fin 2) = 8 + t.val % 4) :=
  (by decide +kernel : ∀ t : Fin grid0.N, _)

/-- Where the weights, the biases and the results stand. -/
theorem places_w : ∀ t : Fin cfg0.N,
    (win0_9.index t (0 : Fin 2) = 0 ∧ win0_9.index t (1 : Fin 2) = 0 + t.val % 4)
    ∧ (win0_10.index t (0 : Fin 2) = 0 ∧ win0_10.index t (1 : Fin 2) = 4 + t.val % 4)
    ∧ (win0_11.index t (0 : Fin 2) = 0 ∧ win0_11.index t (1 : Fin 2) = 8 + t.val % 4)
    ∧ (win0_12.index t (0 : Fin 2) = 0 ∧ win0_12.index t (1 : Fin 2) = 0 + t.val % 4)
    ∧ (win0_13.index t (0 : Fin 2) = 0 ∧ win0_13.index t (1 : Fin 2) = 4 + t.val % 4)
    ∧ (win0_14.index t (0 : Fin 2) = 0 ∧ win0_14.index t (1 : Fin 2) = 8 + t.val % 4)
    ∧ (win0_15.index t (0 : Fin 2) = t.val / 4 ∧ win0_15.index t (1 : Fin 2) = t.val % 4)
    ∧ (win0_16.index t (0 : Fin 2) = t.val / 4 ∧ win0_16.index t (1 : Fin 2) = t.val % 4) :=
  (by decide +kernel : ∀ t : Fin grid0.N, _)

/-- The block of projection 0 at a point. -/
theorem block0_at (c : Dev nD) (t : Fin cfg0.N) (r : Fin 512) (l : Fin 512) (R : Fin 8192) (C : Fin 6144)
    (hR : R.val = t.val / 4 * 512 + r.val) (hC : C.val = (0 + t.val % 4) * 512 + l.val) :
    (iblk m c 0 t : Vec F S512x512 .bf16) (ix2 r l) = m ((c : Thread nD τ).loc main_arg0) (ix2 R C) := by
  obtain ⟨⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [p]; omega
  | ⟨1, _⟩ => show win0_0.index t 1 * 512 + 1 * l.val = C.val; rw [q]; omega

/-- The row above it, where there is one. -/
theorem above0_at (c : Dev nD) (t : Fin cfg0.N)  (l : Fin 512) (R : Fin 8192) (C : Fin 6144)
    (hR : R.val + 1 = t.val / 4 * 512) (hC : C.val = (0 + t.val % 4) * 512 + l.val) :
    (iblk m c 1 t : Vec F S16x512 .bf16) (ix2 (15 : Fin 16) l) = m ((c : Thread nD τ).loc main_arg0) (ix2 R C) := by
  obtain ⟨-, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_1.index t 0 * 16 + 1 * 15 = R.val; rw [p]; omega
  | ⟨1, _⟩ => show win0_1.index t 1 * 512 + 1 * l.val = C.val; rw [q]; omega

/-- The row below it, where there is one. -/
theorem below0_at (c : Dev nD) (t : Fin cfg0.N)  (l : Fin 512) (R : Fin 8192) (C : Fin 6144)
    (hR : R.val = t.val / 4 * 512 + 512) (hC : C.val = (0 + t.val % 4) * 512 + l.val) :
    (iblk m c 2 t : Vec F S16x512 .bf16) (ix2 (0 : Fin 16) l) = m ((c : Thread nD τ).loc main_arg0) (ix2 R C) := by
  obtain ⟨-, -, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_2.index t 0 * 16 + 1 * 0 = R.val; rw [p]; omega
  | ⟨1, _⟩ => show win0_2.index t 1 * 512 + 1 * l.val = C.val; rw [q]; omega

/-- The block of projection 1 at a point. -/
theorem block1_at (c : Dev nD) (t : Fin cfg0.N) (r : Fin 512) (l : Fin 512) (R : Fin 8192) (C : Fin 6144)
    (hR : R.val = t.val / 4 * 512 + r.val) (hC : C.val = (4 + t.val % 4) * 512 + l.val) :
    (iblk m c 3 t : Vec F S512x512 .bf16) (ix2 r l) = m ((c : Thread nD τ).loc main_arg0) (ix2 R C) := by
  obtain ⟨-, -, -, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_3.index t 0 * 512 + 1 * r.val = R.val; rw [p]; omega
  | ⟨1, _⟩ => show win0_3.index t 1 * 512 + 1 * l.val = C.val; rw [q]; omega

/-- The row above it, where there is one. -/
theorem above1_at (c : Dev nD) (t : Fin cfg0.N)  (l : Fin 512) (R : Fin 8192) (C : Fin 6144)
    (hR : R.val + 1 = t.val / 4 * 512) (hC : C.val = (4 + t.val % 4) * 512 + l.val) :
    (iblk m c 4 t : Vec F S16x512 .bf16) (ix2 (15 : Fin 16) l) = m ((c : Thread nD τ).loc main_arg0) (ix2 R C) := by
  obtain ⟨-, -, -, -, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_4.index t 0 * 16 + 1 * 15 = R.val; rw [p]; omega
  | ⟨1, _⟩ => show win0_4.index t 1 * 512 + 1 * l.val = C.val; rw [q]; omega

/-- The row below it, where there is one. -/
theorem below1_at (c : Dev nD) (t : Fin cfg0.N)  (l : Fin 512) (R : Fin 8192) (C : Fin 6144)
    (hR : R.val = t.val / 4 * 512 + 512) (hC : C.val = (4 + t.val % 4) * 512 + l.val) :
    (iblk m c 5 t : Vec F S16x512 .bf16) (ix2 (0 : Fin 16) l) = m ((c : Thread nD τ).loc main_arg0) (ix2 R C) := by
  obtain ⟨-, -, -, -, -, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_5.index t 0 * 16 + 1 * 0 = R.val; rw [p]; omega
  | ⟨1, _⟩ => show win0_5.index t 1 * 512 + 1 * l.val = C.val; rw [q]; omega

/-- The block of projection 2 at a point. -/
theorem block2_at (c : Dev nD) (t : Fin cfg0.N) (r : Fin 512) (l : Fin 512) (R : Fin 8192) (C : Fin 6144)
    (hR : R.val = t.val / 4 * 512 + r.val) (hC : C.val = (8 + t.val % 4) * 512 + l.val) :
    (iblk m c 6 t : Vec F S512x512 .bf16) (ix2 r l) = m ((c : Thread nD τ).loc main_arg0) (ix2 R C) := by
  obtain ⟨-, -, -, -, -, -, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_6.index t 0 * 512 + 1 * r.val = R.val; rw [p]; omega
  | ⟨1, _⟩ => show win0_6.index t 1 * 512 + 1 * l.val = C.val; rw [q]; omega

/-- The row above it, where there is one. -/
theorem above2_at (c : Dev nD) (t : Fin cfg0.N)  (l : Fin 512) (R : Fin 8192) (C : Fin 6144)
    (hR : R.val + 1 = t.val / 4 * 512) (hC : C.val = (8 + t.val % 4) * 512 + l.val) :
    (iblk m c 7 t : Vec F S16x512 .bf16) (ix2 (15 : Fin 16) l) = m ((c : Thread nD τ).loc main_arg0) (ix2 R C) := by
  obtain ⟨-, -, -, -, -, -, -, ⟨p, q⟩, -⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_7.index t 0 * 16 + 1 * 15 = R.val; rw [p]; omega
  | ⟨1, _⟩ => show win0_7.index t 1 * 512 + 1 * l.val = C.val; rw [q]; omega

/-- The row below it, where there is one. -/
theorem below2_at (c : Dev nD) (t : Fin cfg0.N)  (l : Fin 512) (R : Fin 8192) (C : Fin 6144)
    (hR : R.val = t.val / 4 * 512 + 512) (hC : C.val = (8 + t.val % 4) * 512 + l.val) :
    (iblk m c 8 t : Vec F S16x512 .bf16) (ix2 (0 : Fin 16) l) = m ((c : Thread nD τ).loc main_arg0) (ix2 R C) := by
  obtain ⟨-, -, -, -, -, -, -, -, ⟨p, q⟩⟩ := places_x t
  have hr := R.isLt
  unfold iblk
  rw [View.read_apply]
  show V m c main_arg0 _ = m (c.tc.loc main_arg0) _
  rw [V_main_arg0]
  congr 1
  funext a
  apply Fin.ext
  match a with
  | ⟨0, _⟩ => show win0_8.index t 0 * 16 + 1 * 0 = R.val; rw [p]; omega
  | ⟨1, _⟩ => show win0_8.index t 1 * 512 + 1 * l.val = C.val; rw [q]; omega

/-- The biases, laid as one row. -/
theorem bias_array (c : Dev nD) (C : Fin 6144) :
    (V m c main_v0 : Vec F S1x6144 .f32) (ix2 (0 : Fin 1) C) = m ((c : Thread nD τ).loc main_arg2) (ix1 C) := by
  show (shapeCast S1x6144 (m ((c : Thread nD τ).loc main_arg2) : Vec F S6144 .f32) shapeCasts_S6144_S1x6144) (ix2 (0 : Fin 1) C) = _
  exact shapeCast_apply _ _ _ (ix1 C) (by rw [Shape.rowMajor_val_one, Shape.rowMajor_val_two]; show C.val = 0 * 6144 + C.val; omega)

/-- The weights of projection 0 at a point. -/
theorem weight0_at (c : Dev nD) (t : Fin cfg0.N) (d : Fin 3) (l : Fin 512) (C : Fin 6144)
    (hC : C.val = (0 + t.val % 4) * 512 + l.val) :
    (iblk m c 9 t : Vec F S3x512 .f32) (ix2 d l) = m ((c : Thread nD τ).loc main_arg1) (ix2 d C) := by
  obtain ⟨⟨p, q⟩, -⟩ := places_w t
  unfold iblk
  rw [View.read_apply]
  show V m c main_arg1 _ = m (c.tc.loc main_arg1) _
  rw [V_main_arg1]
  congr 1
  funext a
  apply Fin.ext
  match a with
  | ⟨0, _⟩ => show win0_9.index t 0 * 3 + 1 * d.val = d.val; rw [p]; omega
  | ⟨1, _⟩ => show win0_9.index t 1 * 512 + 1 * l.val = C.val; rw [q]; omega

/-- The weights of projection 1 at a point. -/
theorem weight1_at (c : Dev nD) (t : Fin cfg0.N) (d : Fin 3) (l : Fin 512) (C : Fin 6144)
    (hC : C.val = (4 + t.val % 4) * 512 + l.val) :
    (iblk m c 10 t : Vec F S3x512 .f32) (ix2 d l) = m ((c : Thread nD τ).loc main_arg1) (ix2 d C) := by
  obtain ⟨-, ⟨p, q⟩, -⟩ := places_w t
  unfold iblk
  rw [View.read_apply]
  show V m c main_arg1 _ = m (c.tc.loc main_arg1) _
  rw [V_main_arg1]
  congr 1
  funext a
  apply Fin.ext
  match a with
  | ⟨0, _⟩ => show win0_10.index t 0 * 3 + 1 * d.val = d.val; rw [p]; omega
  | ⟨1, _⟩ => show win0_10.index t 1 * 512 + 1 * l.val = C.val; rw [q]; omega

/-- The weights of projection 2 at a point. -/
theorem weight2_at (c : Dev nD) (t : Fin cfg0.N) (d : Fin 3) (l : Fin 512) (C : Fin 6144)
    (hC : C.val = (8 + t.val % 4) * 512 + l.val) :
    (iblk m c 11 t : Vec F S3x512 .f32) (ix2 d l) = m ((c : Thread nD τ).loc main_arg1) (ix2 d C) := by
  obtain ⟨-, -, ⟨p, q⟩, -⟩ := places_w t
  unfold iblk
  rw [View.read_apply]
  show V m c main_arg1 _ = m (c.tc.loc main_arg1) _
  rw [V_main_arg1]
  congr 1
  funext a
  apply Fin.ext
  match a with
  | ⟨0, _⟩ => show win0_11.index t 0 * 3 + 1 * d.val = d.val; rw [p]; omega
  | ⟨1, _⟩ => show win0_11.index t 1 * 512 + 1 * l.val = C.val; rw [q]; omega

/-- The biases of projection 0 at a point. -/
theorem bias0_at (c : Dev nD) (t : Fin cfg0.N) (l : Fin 512) (C : Fin 6144)
    (hC : C.val = (0 + t.val % 4) * 512 + l.val) :
    (iblk m c 12 t : Vec F S1x512 .f32) (ix2 (0 : Fin 1) l) = m ((c : Thread nD τ).loc main_arg2) (ix1 C) := by
  obtain ⟨-, -, -, ⟨p, q⟩, -⟩ := places_w t
  refine Eq.trans ?_ (bias_array m c C)
  unfold iblk
  rw [View.read_apply]
  show V m c main_v0 _ = V m c main_v0 _
  congr 1
  funext a
  apply Fin.ext
  match a with
  | ⟨0, _⟩ => show win0_12.index t 0 * 1 + 1 * 0 = 0; rw [p]
  | ⟨1, _⟩ => show win0_12.index t 1 * 512 + 1 * l.val = C.val; rw [q]; omega

/-- The biases of projection 1 at a point. -/
theorem bias1_at (c : Dev nD) (t : Fin cfg0.N) (l : Fin 512) (C : Fin 6144)
    (hC : C.val = (4 + t.val % 4) * 512 + l.val) :
    (iblk m c 13 t : Vec F S1x512 .f32) (ix2 (0 : Fin 1) l) = m ((c : Thread nD τ).loc main_arg2) (ix1 C) := by
  obtain ⟨-, -, -, -, ⟨p, q⟩, -⟩ := places_w t
  refine Eq.trans ?_ (bias_array m c C)
  unfold iblk
  rw [View.read_apply]
  show V m c main_v0 _ = V m c main_v0 _
  congr 1
  funext a
  apply Fin.ext
  match a with
  | ⟨0, _⟩ => show win0_13.index t 0 * 1 + 1 * 0 = 0; rw [p]
  | ⟨1, _⟩ => show win0_13.index t 1 * 512 + 1 * l.val = C.val; rw [q]; omega

/-- The biases of projection 2 at a point. -/
theorem bias2_at (c : Dev nD) (t : Fin cfg0.N) (l : Fin 512) (C : Fin 6144)
    (hC : C.val = (8 + t.val % 4) * 512 + l.val) :
    (iblk m c 14 t : Vec F S1x512 .f32) (ix2 (0 : Fin 1) l) = m ((c : Thread nD τ).loc main_arg2) (ix1 C) := by
  obtain ⟨-, -, -, -, -, ⟨p, q⟩, -⟩ := places_w t
  refine Eq.trans ?_ (bias_array m c C)
  unfold iblk
  rw [View.read_apply]
  show V m c main_v0 _ = V m c main_v0 _
  congr 1
  funext a
  apply Fin.ext
  match a with
  | ⟨0, _⟩ => show win0_14.index t 0 * 1 + 1 * 0 = 0; rw [p]
  | ⟨1, _⟩ => show win0_14.index t 1 * 512 + 1 * l.val = C.val; rw [q]; omega

/-- An index lies in the block of point `t` of result 0 when it does so on each axis. -/
theorem mem_block0 (t : Fin cfg0.N) (i : S8192x2048.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v1_0).slice (win0_15.rect t)).set ↔ _
  rw [View.set_slice_whole, Rect.mem_set_unit]
  exact Iff.rfl

/-- The blocks cover result 0. -/
theorem covered0 (i : S8192x2048.Idx) : ∃ t : Fin cfg0.N, (cfg0.win 15).flush t = true ∧ i ∈ ((cfg0.win 15).blk t).view.set := by
  have h0 : (i 0).val < 8192 := (i 0).isLt
  have h1 : (i 1).val < 2048 := (i 1).isLt
  obtain ⟨t, ht⟩ : ∃ t : Fin cfg0.N, t.val = (i 0).val / 512 * 4 + (i 1).val / 512 :=
    ⟨⟨(i 0).val / 512 * 4 + (i 1).val / 512, by rw [show cfg0.N = 64 from N_0]; omega⟩, rfl⟩
  obtain ⟨-, -, -, -, -, -, ⟨p, q⟩, -⟩ := places_w t
  refine ⟨t, (by decide +kernel : ∀ t : Fin grid0.N, win0_15.flush t = true) t, (mem_block0 t i).2 fun a => ?_⟩
  match a with
  | ⟨0, _⟩ => show win0_15.index t (0 : Fin 2) * 512 ≤ (i 0).val ∧ (i 0).val < win0_15.index t (0 : Fin 2) * 512 + 512; rw [p]; omega
  | ⟨1, _⟩ => show win0_15.index t (1 : Fin 2) * 512 ≤ (i 1).val ∧ (i 1).val < win0_15.index t (1 : Fin 2) * 512 + 512; rw [q]; omega

/-- An index lies in the block of point `t` of result 1 when it does so on each axis. -/
theorem mem_block1 (t : Fin cfg0.N) (i : S8192x2048.Idx) :
    i ∈ ((cfg0.win 16).blk t).view.set ↔ ∀ a : Fin 2, win0_16.index t a * S512x512.size a ≤ (i a).val ∧ (i a).val < win0_16.index t a * S512x512.size a + S512x512.size a := by
  show i ∈ ((View.whole main_v1_1).slice (win0_16.rect t)).set ↔ _
  rw [View.set_slice_whole, Rect.mem_set_unit]
  exact Iff.rfl

/-- The blocks cover result 1. -/
theorem covered1 (i : S8192x2048.Idx) : ∃ t : Fin cfg0.N, (cfg0.win 16).flush t = true ∧ i ∈ ((cfg0.win 16).blk t).view.set := by
  have h0 : (i 0).val < 8192 := (i 0).isLt
  have h1 : (i 1).val < 2048 := (i 1).isLt
  obtain ⟨t, ht⟩ : ∃ t : Fin cfg0.N, t.val = (i 0).val / 512 * 4 + (i 1).val / 512 :=
    ⟨⟨(i 0).val / 512 * 4 + (i 1).val / 512, by rw [show cfg0.N = 64 from N_0]; omega⟩, rfl⟩
  obtain ⟨-, -, -, -, -, -, -, ⟨p, q⟩⟩ := places_w t
  refine ⟨t, (by decide +kernel : ∀ t : Fin grid0.N, win0_16.flush t = true) t, (mem_block1 t i).2 fun a => ?_⟩
  match a with
  | ⟨0, _⟩ => show win0_16.index t (0 : Fin 2) * 512 ≤ (i 0).val ∧ (i 0).val < win0_16.index t (0 : Fin 2) * 512 + 512; rw [p]; omega
  | ⟨1, _⟩ => show win0_16.index t (1 : Fin 2) * 512 ≤ (i 1).val ∧ (i 1).val < win0_16.index t (1 : Fin 2) * 512 + 512; rw [q]; omega

/-- One convolved block. -/
def conv (i : grid0.Coords) (x : FVec F S512x512 .bf16) (p n : FVec F S16x512 .bf16) (w : FVec F S3x512 .f32) (b : FVec F S1x512 .f32) :
    FVec F S512x512 .f32 := k0_pay7 (k0_pay4 b) (k0_pay5 i x p w) (k0_pay6 i x n w)

/-- What a point leaves for the first result: the last two convolved blocks' product. -/
theorem left0 (i : grid0.Coords) (x0 : FVec F S512x512 .bf16) (p0 n0 : FVec F S16x512 .bf16) (x1 : FVec F S512x512 .bf16) (p1 n1 : FVec F S16x512 .bf16)
    (x2 : FVec F S512x512 .bf16) (p2 n2 : FVec F S16x512 .bf16) (w0 w1 w2 : FVec F S3x512 .f32) (b0 b1 b2 : FVec F S1x512 .f32) :
    out0_15 i x0 p0 n0 x1 p1 n1 x2 p2 n2 w0 w1 w2 b0 b1 b2 = truncf .bf16 (mulf (conv i x2 p2 n2 w2 b2) (conv i x1 p1 n1 w1 b1)) bitsLt_bf16_f32 := by
  unfold out0_15
  simp only [View.ld_unit_zero (S := S512x512) hz, View.ld_unit_zero (S := S16x512) hz, View.ld_unit_zero (S := S3x512) hz,
    View.ld_unit_zero (S := S1x512) hz]
  exact View.canon_unit_zero hz _ _

/-- What a point leaves for the second result: the first convolved block. -/
theorem left1 (i : grid0.Coords) (x0 : FVec F S512x512 .bf16) (p0 n0 : FVec F S16x512 .bf16) (x1 : FVec F S512x512 .bf16) (p1 n1 : FVec F S16x512 .bf16)
    (x2 : FVec F S512x512 .bf16) (p2 n2 : FVec F S16x512 .bf16) (w0 w1 w2 : FVec F S3x512 .f32) (b0 b1 b2 : FVec F S1x512 .f32) :
    out0_16 i x0 p0 n0 x1 p1 n1 x2 p2 n2 w0 w1 w2 b0 b1 b2 = truncf .bf16 (conv i x0 p0 n0 w0 b0) bitsLt_bf16_f32 := by
  unfold out0_16
  simp only [View.ld_unit_zero (S := S512x512) hz, View.ld_unit_zero (S := S16x512) hz, View.ld_unit_zero (S := S3x512) hz,
    View.ld_unit_zero (S := S1x512) hz]
  exact View.canon_unit_zero hz _ _

end Run

/-! ## Over the extended reals -/

/-- One element of the convolved projections. -/
def smoothed (x : FVec Ideal S8192x6144 .bf16) (w : FVec Ideal S3x6144 .f32) (b : FVec Ideal S6144 .f32) (R : Fin 8192) (C : Fin 6144) : EReal :=
  Cert.ShortConv.smooth (fun R' => x (ix2 R' C)) (fun d => w (ix2 d C)) (b (ix1 C)) R

/-- The second projection times the third, both convolved. -/
def gated (x : FVec Ideal S8192x6144 .bf16) (w : FVec Ideal S3x6144 .f32) (b : FVec Ideal S6144 .f32) : FVec Ideal S8192x2048 .bf16 := fun i =>
  smoothed x w b (i 0) ⟨4096 + (i 1).val, by have h : (i 1).val < 2048 := (i 1).isLt; omega⟩
    * smoothed x w b (i 0) ⟨2048 + (i 1).val, by have h : (i 1).val < 2048 := (i 1).isLt; omega⟩

/-- The first projection, convolved. -/
def passed (x : FVec Ideal S8192x6144 .bf16) (w : FVec Ideal S3x6144 .f32) (b : FVec Ideal S6144 .f32) : FVec Ideal S8192x2048 .bf16 := fun i =>
  smoothed x w b (i 0) ⟨(i 1).val, by have h : (i 1).val < 2048 := (i 1).isLt; omega⟩

variable (m : (ℓ : Loc nD τ sig) → Buf (Elt Ideal) ℓ)

/-- One element of the convolved block of projection 0. -/
theorem conv0_at (c : Dev nD) (t : Fin cfg0.N) (r l : Fin 512) (R : Fin 8192) (C : Fin 6144)
    (hR : R.val = t.val / 4 * 512 + r.val) (hC : C.val = (0 + t.val % 4) * 512 + l.val) :
    conv (F := Ideal) (grid0.coords t) (iblk m c 0 t) (iblk m c 1 t) (iblk m c 2 t) (iblk m c 9 t) (iblk m c 12 t) (ix2 r l)
      = smoothed (m ((c : Thread nD τ).loc main_arg0)) (m ((c : Thread nD τ).loc main_arg1)) (m ((c : Thread nD τ).loc main_arg2)) R C := by
  have e := row_of t
  exact Cert.ShortConv.block_at (grid0.coords t) _ _ _ _ _ r l _ _ _ R (by rw [e]; exact hR)
    (fun r' R' h => block0_at m c t r' l R' C (by rw [e] at h; exact h) hC)
    (fun R' h => above0_at m c t l R' C (by rw [e] at h; exact h) hC)
    (fun R' h => below0_at m c t l R' C (by rw [e] at h; exact h) hC)
    (fun d => weight0_at m c t d l C hC) (bias0_at m c t l C hC)

/-- One element of the convolved block of projection 1. -/
theorem conv1_at (c : Dev nD) (t : Fin cfg0.N) (r l : Fin 512) (R : Fin 8192) (C : Fin 6144)
    (hR : R.val = t.val / 4 * 512 + r.val) (hC : C.val = (4 + t.val % 4) * 512 + l.val) :
    conv (F := Ideal) (grid0.coords t) (iblk m c 3 t) (iblk m c 4 t) (iblk m c 5 t) (iblk m c 10 t) (iblk m c 13 t) (ix2 r l)
      = smoothed (m ((c : Thread nD τ).loc main_arg0)) (m ((c : Thread nD τ).loc main_arg1)) (m ((c : Thread nD τ).loc main_arg2)) R C := by
  have e := row_of t
  exact Cert.ShortConv.block_at (grid0.coords t) _ _ _ _ _ r l _ _ _ R (by rw [e]; exact hR)
    (fun r' R' h => block1_at m c t r' l R' C (by rw [e] at h; exact h) hC)
    (fun R' h => above1_at m c t l R' C (by rw [e] at h; exact h) hC)
    (fun R' h => below1_at m c t l R' C (by rw [e] at h; exact h) hC)
    (fun d => weight1_at m c t d l C hC) (bias1_at m c t l C hC)

/-- One element of the convolved block of projection 2. -/
theorem conv2_at (c : Dev nD) (t : Fin cfg0.N) (r l : Fin 512) (R : Fin 8192) (C : Fin 6144)
    (hR : R.val = t.val / 4 * 512 + r.val) (hC : C.val = (8 + t.val % 4) * 512 + l.val) :
    conv (F := Ideal) (grid0.coords t) (iblk m c 6 t) (iblk m c 7 t) (iblk m c 8 t) (iblk m c 11 t) (iblk m c 14 t) (ix2 r l)
      = smoothed (m ((c : Thread nD τ).loc main_arg0)) (m ((c : Thread nD τ).loc main_arg1)) (m ((c : Thread nD τ).loc main_arg2)) R C := by
  have e := row_of t
  exact Cert.ShortConv.block_at (grid0.coords t) _ _ _ _ _ r l _ _ _ R (by rw [e]; exact hR)
    (fun r' R' h => block2_at m c t r' l R' C (by rw [e] at h; exact h) hC)
    (fun R' h => above2_at m c t l R' C (by rw [e] at h; exact h) hC)
    (fun R' h => below2_at m c t l R' C (by rw [e] at h; exact h) hC)
    (fun d => weight2_at m c t d l C hC) (bias2_at m c t l C hC)

/-- After the run result 0 is its formula of the arguments. -/
theorem final0 (c : Dev nD) : (dats m 0 c).arrAt 15 cfg0.N = gated (m ((c : Thread nD τ).loc main_arg0)) (m ((c : Thread nD τ).loc main_arg1)) (m ((c : Thread nD τ).loc main_arg2)) := by
  refine (dats m 0 c).arrAt_eq_of_cover 15 _ (fun t _ => ?_) covered0
  rw [Value.flushed15, left0]
  obtain ⟨-, -, -, -, -, -, ⟨p, q⟩, -⟩ := places_w t
  funext y
  rw [View.read_apply]
  have hy : y = ix2 (y 0) (y 1) := eq_ix2 y
  have ht : t.val < 64 := lt_of_lt_of_eq t.isLt (show cfg0.N = 64 from N_0)
  have h0 : (y 0).val < 512 := (y 0).isLt
  have h1 : (y 1).val < 512 := (y 1).isLt
  have hi : ((cfg0.win 15).blk t).view.emb y = (ix2 (⟨t.val / 4 * 512 + (y 0).val, by omega⟩ : Fin 8192) (⟨t.val % 4 * 512 + (y 1).val, by omega⟩ : Fin 2048) : S8192x2048.Idx) := by
    funext a
    apply Fin.ext
    match a with
    | ⟨0, _⟩ => show win0_15.index t 0 * 512 + 1 * (y 0).val = t.val / 4 * 512 + (y 0).val; rw [p]; omega
    | ⟨1, _⟩ => show win0_15.index t 1 * 512 + 1 * (y 1).val = t.val % 4 * 512 + (y 1).val; rw [q]; omega
  refine Eq.trans (b := conv (F := Ideal) (grid0.coords t) (iblk m c 6 t) (iblk m c 7 t) (iblk m c 8 t) (iblk m c 11 t) (iblk m c 14 t) (ix2 (y 0) (y 1))
      * conv (F := Ideal) (grid0.coords t) (iblk m c 3 t) (iblk m c 4 t) (iblk m c 5 t) (iblk m c 10 t) (iblk m c 13 t) (ix2 (y 0) (y 1))) (congrArg (fun z : S512x512.Idx => conv (F := Ideal) (grid0.coords t) (iblk m c 6 t) (iblk m c 7 t) (iblk m c 8 t) (iblk m c 11 t) (iblk m c 14 t) z
      * conv (F := Ideal) (grid0.coords t) (iblk m c 3 t) (iblk m c 4 t) (iblk m c 5 t) (iblk m c 10 t) (iblk m c 13 t) z) hy) ?_
  refine Eq.trans ?_ (congrArg (gated (m ((c : Thread nD τ).loc main_arg0)) (m ((c : Thread nD τ).loc main_arg1)) (m ((c : Thread nD τ).loc main_arg2))) hi).symm
  exact congrArg₂ (· * ·) (conv2_at m c t (y 0) (y 1) _ _ rfl (by show 4096 + (t.val % 4 * 512 + (y 1).val) = (8 + t.val % 4) * 512 + (y 1).val; omega))
    (conv1_at m c t (y 0) (y 1) _ _ rfl (by show 2048 + (t.val % 4 * 512 + (y 1).val) = (4 + t.val % 4) * 512 + (y 1).val; omega))

/-- After the run result 1 is its formula of the arguments. -/
theorem final1 (c : Dev nD) : (dats m 0 c).arrAt 16 cfg0.N = passed (m ((c : Thread nD τ).loc main_arg0)) (m ((c : Thread nD τ).loc main_arg1)) (m ((c : Thread nD τ).loc main_arg2)) := by
  refine (dats m 0 c).arrAt_eq_of_cover 16 _ (fun t _ => ?_) covered1
  rw [Value.flushed16, left1]
  obtain ⟨-, -, -, -, -, -, -, ⟨p, q⟩⟩ := places_w t
  funext y
  rw [View.read_apply]
  have hy : y = ix2 (y 0) (y 1) := eq_ix2 y
  have ht : t.val < 64 := lt_of_lt_of_eq t.isLt (show cfg0.N = 64 from N_0)
  have h0 : (y 0).val < 512 := (y 0).isLt
  have h1 : (y 1).val < 512 := (y 1).isLt
  have hi : ((cfg0.win 16).blk t).view.emb y = (ix2 (⟨t.val / 4 * 512 + (y 0).val, by omega⟩ : Fin 8192) (⟨t.val % 4 * 512 + (y 1).val, by omega⟩ : Fin 2048) : S8192x2048.Idx) := by
    funext a
    apply Fin.ext
    match a with
    | ⟨0, _⟩ => show win0_16.index t 0 * 512 + 1 * (y 0).val = t.val / 4 * 512 + (y 0).val; rw [p]; omega
    | ⟨1, _⟩ => show win0_16.index t 1 * 512 + 1 * (y 1).val = t.val % 4 * 512 + (y 1).val; rw [q]; omega
  refine Eq.trans (b := conv (F := Ideal) (grid0.coords t) (iblk m c 0 t) (iblk m c 1 t) (iblk m c 2 t) (iblk m c 9 t) (iblk m c 12 t) (ix2 (y 0) (y 1))) (congrArg (fun z : S512x512.Idx => conv (F := Ideal) (grid0.coords t) (iblk m c 0 t) (iblk m c 1 t) (iblk m c 2 t) (iblk m c 9 t) (iblk m c 12 t) z) hy) ?_
  refine Eq.trans ?_ (congrArg (passed (m ((c : Thread nD τ).loc main_arg0)) (m ((c : Thread nD τ).loc main_arg1)) (m ((c : Thread nD τ).loc main_arg2))) hi).symm
  exact conv0_at m c t (y 0) (y 1) _ _ rfl (by show t.val % 4 * 512 + (y 1).val = (0 + t.val % 4) * 512 + (y 1).val; omega)

end Cert.GateConv

namespace Cert.GateConv.Host
open Cert.Reference12Ideal Cert.Reference12Ideal.Read

/-- The padding is zero. -/
theorem padding (j : S_.Idx) : val_main_call0_v0 (F := Ideal) j = 0 := by
  rw [val_main_call0_v0_apply, val_main_c_apply]
  show (((0#32 : BitVec 32).toInt : ℝ) : EReal) = 0
  simp

/-- The padded array one row up. -/
theorem pad_before (x : FVec Ideal S8192x6144 .bf16) (i : S8192x6144.Idx) :
    val_main_v1 (F := Ideal) x (idx_main_v2 i) = Cert.ShortConv.before (fun R => x (ix2 R (i 1))) (i 0) := by
  have h0 : (i 0).val < 8192 := (i 0).isLt
  unfold val_main_v1 Cert.ShortConv.before
  by_cases h : (i 0).val = 0
  · rw [dif_pos h]
    refine (pad_apply_of_not_inside _ _ _ _ _ _ _ _ (0 : Fin 2) (fun hin => ?_)).trans (padding _)
    have e : 1 ≤ (i 0).val := hin.1
    omega
  · rw [dif_neg h]
    refine (pad_apply_of_inside _ _ _ _ _ _ _ _ (ix2 (⟨(i 0).val - 1, by omega⟩ : Fin 8192) (i 1)) (fun a => ?_)).trans rfl
    match a with
    | ⟨0, _⟩ => show (i 0).val = 1 + ((i 0).val - 1) * (0 + 1); omega
    | ⟨1, _⟩ => show (i 1).val = 0 + (i 1).val * (0 + 1); omega

/-- The padded array at its own row. -/
theorem pad_here (x : FVec Ideal S8192x6144 .bf16) (i : S8192x6144.Idx) :
    val_main_v1 (F := Ideal) x (idx_main_v8 i) = x i := by
  unfold val_main_v1
  refine (pad_apply_of_inside _ _ _ _ _ _ _ _ i (fun a => ?_)).trans rfl
  match a with
  | ⟨0, _⟩ => show 1 + (i 0).val = 1 + (i 0).val * (0 + 1); omega
  | ⟨1, _⟩ => show (i 1).val = 0 + (i 1).val * (0 + 1); omega

/-- The padded array one row down. -/
theorem pad_after (x : FVec Ideal S8192x6144 .bf16) (i : S8192x6144.Idx) :
    val_main_v1 (F := Ideal) x (idx_main_v15 i) = Cert.ShortConv.after (fun R => x (ix2 R (i 1))) (i 0) := by
  have h0 : (i 0).val < 8192 := (i 0).isLt
  unfold val_main_v1 Cert.ShortConv.after
  by_cases h : (i 0).val = 8191
  · rw [dif_pos h]
    refine (pad_apply_of_not_inside _ _ _ _ _ _ _ _ (0 : Fin 2) (fun hin => ?_)).trans (padding _)
    have e : (2 + (i 0).val - 1) / (0 + 1) < 8192 := hin.2.2
    omega
  · rw [dif_neg h]
    refine (pad_apply_of_inside _ _ _ _ _ _ _ _ (ix2 (⟨(i 0).val + 1, by omega⟩ : Fin 8192) (i 1)) (fun a => ?_)).trans rfl
    match a with
    | ⟨0, _⟩ => show 2 + (i 0).val = 1 + ((i 0).val + 1) * (0 + 1); omega
    | ⟨1, _⟩ => show (i 1).val = 0 + (i 1).val * (0 + 1); omega

/-- The reference's convolution, element by element. -/
theorem convolved (x : FVec Ideal S8192x6144 .bf16) (w : FVec Ideal S3x6144 .f32) (b : FVec Ideal S6144 .f32) (i : S8192x6144.Idx) :
    val_main_v24 (F := Ideal) x w b i = Cert.GateConv.smoothed x w b (i 0) (i 1) := by
  have h1 : (i 1).val < 6144 := (i 1).isLt
  rw [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply,
    pad_before, pad_here, pad_after]
  have e0 : idx_main_v3 (idx_main_v4 (idx_main_v5 (idx_main_v6 i))) = ix2 (0 : Fin 3) (i 1) := funext fun a => Fin.ext (by
    match a with
    | ⟨0, _⟩ => rfl
    | ⟨1, _⟩ => exact Nat.mod_eq_of_lt h1)
  have e1 : idx_main_v9 (idx_main_v10 (idx_main_v11 (idx_main_v12 i))) = ix2 (1 : Fin 3) (i 1) := funext fun a => Fin.ext (by
    match a with
    | ⟨0, _⟩ => rfl
    | ⟨1, _⟩ => exact Nat.mod_eq_of_lt h1)
  have e2 : idx_main_v16 (idx_main_v17 (idx_main_v18 (idx_main_v19 i))) = ix2 (2 : Fin 3) (i 1) := funext fun a => Fin.ext (by
    match a with
    | ⟨0, _⟩ => rfl
    | ⟨1, _⟩ => exact Nat.mod_eq_of_lt h1)
  have eb : idx_main_v22 (idx_main_v23 i) = ix1 (i 1) := funext fun a => Fin.ext (by
    match a with
    | ⟨0, _⟩ => rfl)
  rw [e0, e1, e2, eb]
  have ei : x i = x (ix2 (i 0) (i 1)) := congrArg x (eq_ix2 i)
  rw [ei]
  rfl

/-- The reference's first result. -/
theorem reads0 (x : FVec Ideal S8192x6144 .bf16) (w : FVec Ideal S3x6144 .f32) (b : FVec Ideal S6144 .f32) :
    val_main_v29 (F := Ideal) x w b = Cert.GateConv.gated x w b := by
  funext (i : S8192x2048.Idx)
  rw [val_main_v29_apply, val_main_v28_apply, val_main_v27_apply, val_main_v26_apply, convolved, convolved]
  rfl

/-- The reference's second result. -/
theorem reads1 (x : FVec Ideal S8192x6144 .bf16) (w : FVec Ideal S3x6144 .f32) (b : FVec Ideal S6144 .f32) :
    val_main_v30 (F := Ideal) x w b = Cert.GateConv.passed x w b := by
  funext (i : S8192x2048.Idx)
  rw [val_main_v30_apply, val_main_v25_apply, convolved]
  rfl

end Cert.GateConv.Host

end
-- ==== Proof.QkPrep.lean ====
/-
  The short convolution that prepares the mLSTM mixer's queries and keys: what the kernel's result array holds after the run,
  as a formula in its arguments. The kernel walks 16 blocks of 512 rows by 4 blocks of 512 columns; a point convolves its
  block, gates it by its own logistic and scales the columns of the keys.
-/
module

public import proofs.«01_k».proof.Proof.ShortConv
public import proofs.«01_k».proof.Proof.Gen.Kernel11Ideal.Value
public import proofs.«01_k».proof.Proof.Gen.Reference11Ideal.Read

@[expose] public section

set_option maxRecDepth 16384

noncomputable section

open Idealize.ShloMosaic Idealize.ShloMosaic.TcCoe Idealize.SL.Sem
open Idealize.ShloMosaic.Pipeline (Dat)

namespace Cert.QkPrep

open Cert.Kernel11Ideal Cert.Kernel11Ideal.Gen

/-- The zero offsets of a whole block. -/
theorem hz : (![0, 0] : Fin 2 → Nat) = fun _ => 0 := funext fun a => by fin_cases a <;> rfl

/-- The scale's words: one in the queries' half, a constant in the keys' half. -/
theorem words : ∀ k : Fin 2048, lit0 k = if k.val < 1024 then 0x3F800000#32 else 0x3DB504F3#32 := by decide +kernel

section Run
variable {F : FTy → Type} [FloatOps F]
variable (m : (ℓ : Loc nD τ sig) → Buf (Elt F) ℓ)

/-- A point's row block. -/
theorem row_of : ∀ t : Fin cfg0.N, (grid0.coords t 0).val = t.val / 4 :=
  (by decide +kernel : ∀ t : Fin grid0.N, _)

/-- Where the windows stand at a point. -/
theorem places : ∀ t : Fin cfg0.N,
    (win0_0.index t (0 : Fin 2) = t.val / 4 ∧ win0_0.index t (1 : Fin 2) = t.val % 4)
    ∧ (win0_1.index t (0 : Fin 2) = t.val / 4 * 32 - 1 ∧ win0_1.index t (1 : Fin 2) = t.val % 4)
    ∧ (win0_2.index t (0 : Fin 2) = min ((t.val / 4 + 1) * 32) 511 ∧ win0_2.index t (1 : Fin 2) = t.val % 4)
    ∧ (win0_3.index t (0 : Fin 2) = 0 ∧ win0_3.index t (1 : Fin 2) = t.val % 4)
    ∧ (win0_4.index t (0 : Fin 2) = 0 ∧ win0_4.index t (1 : Fin 2) = t.val % 4)
    ∧ (win0_5.index t (0 : Fin 2) = 0 ∧ win0_5.index t (1 : Fin 2) = t.val % 4)
    ∧ (win0_6.index t (0 : Fin 2) = t.val / 4 ∧ win0_6.index t (1 : Fin 2) = t.val % 4) :=
  (by decide +kernel : ∀ t : Fin grid0.N, _)

/-- The block of the projection at a point. -/
theorem block_at (c : Dev nD) (t : Fin cfg0.N) (r l : Fin 512) (R : Fin 8192) (C : Fin 2048)
    (hR : R.val = t.val / 4 * 512 + r.val) (hC : C.val = t.val % 4 * 512 + l.val) :
    (iblk m c 0 t : Vec F S512x512 .bf16) (ix2 r l) = m ((c : Thread nD τ).loc main_arg0) (ix2 R (⟨C.val, by omega⟩ : Fin 6144)) := by
  obtain ⟨⟨p, q⟩, -⟩ := places t
  have hr := R.isLt
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [p]; omega
  | ⟨1, _⟩ => show win0_0.index t 1 * 512 + 1 * l.val = C.val; rw [q]; omega

/-- The row above it, where there is one. -/
theorem above_at (c : Dev nD) (t : Fin cfg0.N) (l : Fin 512) (R : Fin 8192) (C : Fin 2048)
    (hR : R.val + 1 = t.val / 4 * 512) (hC : C.val = t.val % 4 * 512 + l.val) :
    (iblk m c 1 t : Vec F S16x512 .bf16) (ix2 (15 : Fin 16) l) = m ((c : Thread nD τ).loc main_arg0) (ix2 R (⟨C.val, by omega⟩ : Fin 6144)) := by
  obtain ⟨-, ⟨p, q⟩, -⟩ := places t
  have hr := R.isLt
  unfold iblk
  rw [View.read_apply]
  show V m c main_arg0 _ = m (c.tc.loc main_arg0) _
  rw [V_main_arg0]
  congr 1
  funext a
  apply Fin.ext
  match a with
  | ⟨0, _⟩ => show win0_1.index t 0 * 16 + 1 * 15 = R.val; rw [p]; omega
  | ⟨1, _⟩ => show win0_1.index t 1 * 512 + 1 * l.val = C.val; rw [q]; omega

/-- The row below it, where there is one. -/
theorem below_at (c : Dev nD) (t : Fin cfg0.N) (l : Fin 512) (R : Fin 8192) (C : Fin 2048)
    (hR : R.val = t.val / 4 * 512 + 512) (hC : C.val = t.val % 4 * 512 + l.val) :
    (iblk m c 2 t : Vec F S16x512 .bf16) (ix2 (0 : Fin 16) l) = m ((c : Thread nD τ).loc main_arg0) (ix2 R (⟨C.val, by omega⟩ : Fin 6144)) := by
  obtain ⟨-, -, ⟨p, q⟩, -⟩ := places t
  have hr := R.isLt
  unfold iblk
  rw [View.read_apply]
  show V m c main_arg0 _ = m (c.tc.loc main_arg0) _
  rw [V_main_arg0]
  congr 1
  funext a
  apply Fin.ext
  match a with
  | ⟨0, _⟩ => show win0_2.index t 0 * 16 + 1 * 0 = R.val; rw [p]; omega
  | ⟨1, _⟩ => show win0_2.index t 1 * 512 + 1 * l.val = C.val; rw [q]; omega

/-- The weights at a point. -/
theorem weight_at (c : Dev nD) (t : Fin cfg0.N) (d : Fin 3) (l : Fin 512) (C : Fin 2048)
    (hC : C.val = t.val % 4 * 512 + l.val) :
    (iblk m c 3 t : Vec F S3x512 .f32) (ix2 d l) = m ((c : Thread nD τ).loc main_arg1) (ix2 d C) := by
  obtain ⟨-, -, -, ⟨p, q⟩, -⟩ := places t
  unfold iblk
  rw [View.read_apply]
  show V m c main_arg1 _ = m (c.tc.loc main_arg1) _
  rw [V_main_arg1]
  congr 1
  funext a
  apply Fin.ext
  match a with
  | ⟨0, _⟩ => show win0_3.index t 0 * 3 + 1 * d.val = d.val; rw [p]; omega
  | ⟨1, _⟩ => show win0_3.index t 1 * 512 + 1 * l.val = C.val; rw [q]; omega

/-- The biases, laid as one row. -/
theorem bias_array (c : Dev nD) (C : Fin 2048) :
    (V m c main_v0 : Vec F S1x2048 .f32) (ix2 (0 : Fin 1) C) = m ((c : Thread nD τ).loc main_arg2) (ix1 C) := by
  show (shapeCast S1x2048 (m ((c : Thread nD τ).loc main_arg2) : Vec F S2048 .f32) shapeCasts_S2048_S1x2048) (ix2 (0 : Fin 1) C) = _
  exact shapeCast_apply _ _ _ (ix1 C) (by rw [Shape.rowMajor_val_one, Shape.rowMajor_val_two]; show C.val = 0 * 2048 + C.val; omega)

/-- The scale, laid as one row. -/
theorem scale_array (c : Dev nD) (C : Fin 2048) :
    (V m c main_cst : Vec F S1x2048 .f32) (ix2 (0 : Fin 1) C)
      = FloatOps.ofBits .f32 (if C.val < 1024 then 0x3F800000#32 else 0x3DB504F3#32) := by
  refine Eq.trans (b := FloatOps.ofBits .f32 (lit0 (S1x2048.rowMajor (ix2 (0 : Fin 1) C)))) rfl ?_
  have e : S1x2048.rowMajor (ix2 (0 : Fin 1) C) = (C : Fin 2048) := Fin.ext (by
    rw [Shape.rowMajor_val_two]; show 0 * 2048 + C.val = C.val; omega)
  exact congrArg (FloatOps.ofBits .f32) ((congrArg lit0 e).trans (words C))

/-- The biases at a point. -/
theorem bias_at (c : Dev nD) (t : Fin cfg0.N) (l : Fin 512) (C : Fin 2048)
    (hC : C.val = t.val % 4 * 512 + l.val) :
    (iblk m c 4 t : Vec F S1x512 .f32) (ix2 (0 : Fin 1) l) = m ((c : Thread nD τ).loc main_arg2) (ix1 C) := by
  obtain ⟨-, -, -, -, ⟨p, q⟩, -⟩ := places t
  refine Eq.trans ?_ (bias_array m c C)
  unfold iblk
  rw [View.read_apply]
  show V m c main_v0 _ = V m c main_v0 _
  congr 1
  funext a
  apply Fin.ext
  match a with
  | ⟨0, _⟩ => show win0_4.index t 0 * 1 + 1 * 0 = 0; rw [p]
  | ⟨1, _⟩ => show win0_4.index t 1 * 512 + 1 * l.val = C.val; rw [q]; omega

/-- The scale at a point. -/
theorem scale_at (c : Dev nD) (t : Fin cfg0.N) (l : Fin 512) (C : Fin 2048)
    (hC : C.val = t.val % 4 * 512 + l.val) :
    (iblk m c 5 t : Vec F S1x512 .f32) (ix2 (0 : Fin 1) l) = FloatOps.ofBits .f32 (if C.val < 1024 then 0x3F800000#32 else 0x3DB504F3#32) := by
  obtain ⟨-, -, -, -, -, ⟨p, q⟩, -⟩ := places t
  refine Eq.trans ?_ (scale_array m c C)
  unfold iblk
  rw [View.read_apply]
  show V m c main_cst _ = V m c main_cst _
  congr 1
  funext a
  apply Fin.ext
  match a with
  | ⟨0, _⟩ => show win0_5.index t 0 * 1 + 1 * 0 = 0; rw [p]
  | ⟨1, _⟩ => show win0_5.index t 1 * 512 + 1 * l.val = C.val; rw [q]; omega

/-- An index lies in the block of point `t` when it does so on each axis. -/
theorem mem_block (t : Fin cfg0.N) (i : S8192x2048.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v1).slice (win0_6.rect t)).set ↔ _
  rw [View.set_slice_whole, Rect.mem_set_unit]
  exact Iff.rfl

/-- The blocks cover the result. -/
theorem covered (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, ht⟩ : ∃ t : Fin cfg0.N, t.val = (i 0).val / 512 * 4 + (i 1).val / 512 :=
    ⟨⟨(i 0).val / 512 * 4 + (i 1).val / 512, by rw [show cfg0.N = 64 from N_0]; omega⟩, rfl⟩
  obtain ⟨-, -, -, -, -, -, ⟨p, q⟩⟩ := places t
  refine ⟨t, (by decide +kernel : ∀ t : Fin grid0.N, win0_6.flush t = true) t, (mem_block t i).2 fun a => ?_⟩
  match a with
  | ⟨0, _⟩ => show win0_6.index t (0 : Fin 2) * 512 ≤ (i 0).val ∧ (i 0).val < win0_6.index t (0 : Fin 2) * 512 + 512; rw [p]; omega
  | ⟨1, _⟩ => show win0_6.index t (1 : Fin 2) * 512 ≤ (i 1).val ∧ (i 1).val < win0_6.index t (1 : Fin 2) * 512 + 512; rw [q]; omega

/-- What a point leaves: its convolved block, gated and scaled. -/
theorem left (i : grid0.Coords) (x : FVec F S512x512 .bf16) (p n : FVec F S16x512 .bf16) (w : FVec F S3x512 .f32) (b s : FVec F S1x512 .f32) :
    out0_6 i x p n w b s = k0_pay1 (k0_pay3 b) (k0_pay4 i x p w) (k0_pay5 i x n w) s := by
  unfold out0_6
  simp only [View.ld_unit_zero (S := S512x512) hz, View.ld_unit_zero (S := S16x512) hz, View.ld_unit_zero (S := S3x512) hz,
    View.ld_unit_zero (S := S1x512) hz]
  exact View.canon_unit_zero hz _ _

end Run

/-! ## Over the extended reals -/

/-- An element times its own logistic. -/
def gate (v : EReal) : EReal := v * Ideal.logistic v

/-- One element of the convolved columns. -/
def smoothed (x : FVec Ideal S8192x6144 .bf16) (w : FVec Ideal S3x2048 .f32) (b : FVec Ideal S2048 .f32) (R : Fin 8192) (C : Fin 2048) : EReal :=
  Cert.ShortConv.smooth (fun R' => x (ix2 R' (⟨C.val, by omega⟩ : Fin 6144))) (fun d => w (ix2 d C)) (b (ix1 C)) R

/-- The formula: convolved and gated, the keys' half scaled. -/
def formula (x : FVec Ideal S8192x6144 .bf16) (w : FVec Ideal S3x2048 .f32) (b : FVec Ideal S2048 .f32) : FVec Ideal S8192x2048 .bf16 := fun i =>
  if (i 1).val < 1024 then gate (smoothed x w b (i 0) (i 1))
  else gate (smoothed x w b (i 0) (i 1)) * Ideal.ofBits .f32 0x3DB504F3#32

/-- One element of what a point computes, over the convolved block. -/
theorem point_at (i : grid0.Coords) (x : FVec Ideal S512x512 .bf16) (p n : FVec Ideal S16x512 .bf16) (w : FVec Ideal S3x512 .f32)
    (b s : FVec Ideal S1x512 .f32) (r l : Fin 512) :
    k0_pay1 (F := Ideal) (k0_pay3 b) (k0_pay4 i x p w) (k0_pay5 i x n w) s (ix2 r l)
      = gate (Cert.Kernel12Ideal.Gen.k0_pay7 (F := Ideal) (Cert.Kernel12Ideal.Gen.k0_pay4 b) (Cert.Kernel12Ideal.Gen.k0_pay5 i x p w)
          (Cert.Kernel12Ideal.Gen.k0_pay6 i x n w) (ix2 r l)) * s (ix2 (0 : Fin 1) l) := by
  have e : (k0_pay4 (F := Ideal) i x p w) = Cert.Kernel12Ideal.Gen.k0_pay5 (F := Ideal) i x p w := rfl
  have e' : (k0_pay5 (F := Ideal) i x n w) = Cert.Kernel12Ideal.Gen.k0_pay6 (F := Ideal) i x n w := rfl
  rw [e, e']
  generalize Cert.Kernel12Ideal.Gen.k0_pay5 (F := Ideal) i x p w = A
  generalize Cert.Kernel12Ideal.Gen.k0_pay6 (F := Ideal) i x n w = B
  unfold gate
  pointwise [k0_pay1, k0_pay3, Cert.Kernel12Ideal.Gen.k0_pay7, Cert.Kernel12Ideal.Gen.k0_pay4]

/-- Scaling by the row of the scale. -/
theorem scaled (v : EReal) (C : Fin 2048) :
    v * FloatOps.ofBits (F := Ideal) .f32 (if C.val < 1024 then 0x3F800000#32 else 0x3DB504F3#32)
      = if C.val < 1024 then v else v * Ideal.ofBits .f32 0x3DB504F3#32 := by
  by_cases h : C.val < 1024
  · rw [if_pos h, if_pos h]
    exact (congrArg (v * ·) Ideal.ofBits_one_f32).trans (mul_one v)
  · rw [if_neg h, if_neg h]
    rfl

variable (m : (ℓ : Loc nD τ sig) → Buf (Elt Ideal) ℓ)

/-- After the run the result is the formula of the arguments. -/
theorem final (c : Dev nD) : (dats m 0 c).arrAt 6 cfg0.N = formula (m ((c : Thread nD τ).loc main_arg0)) (m ((c : Thread nD τ).loc main_arg1)) (m ((c : Thread nD τ).loc main_arg2)) := by
  refine (dats m 0 c).arrAt_eq_of_cover 6 _ (fun t _ => ?_) covered
  rw [Value.flushed6, left]
  obtain ⟨-, -, -, -, -, -, ⟨p, q⟩⟩ := places t
  funext y
  rw [View.read_apply]
  have hy : y = ix2 (y 0) (y 1) := eq_ix2 y
  have ht : t.val < 64 := lt_of_lt_of_eq t.isLt (show cfg0.N = 64 from N_0)
  have h0 : (y 0).val < 512 := (y 0).isLt
  have h1 : (y 1).val < 512 := (y 1).isLt
  have hi : ((cfg0.win 6).blk t).view.emb y = (ix2 (⟨t.val / 4 * 512 + (y 0).val, by omega⟩ : Fin 8192) (⟨t.val % 4 * 512 + (y 1).val, by omega⟩ : Fin 2048) : S8192x2048.Idx) := by
    funext a
    apply Fin.ext
    match a with
    | ⟨0, _⟩ => show win0_6.index t 0 * 512 + 1 * (y 0).val = t.val / 4 * 512 + (y 0).val; rw [p]; omega
    | ⟨1, _⟩ => show win0_6.index t 1 * 512 + 1 * (y 1).val = t.val % 4 * 512 + (y 1).val; rw [q]; omega
  refine Eq.trans (b := k0_pay1 (F := Ideal) (k0_pay3 (iblk m c 4 t)) (k0_pay4 (grid0.coords t) (iblk m c 0 t) (iblk m c 1 t) (iblk m c 3 t))
    (k0_pay5 (grid0.coords t) (iblk m c 0 t) (iblk m c 2 t) (iblk m c 3 t)) (iblk m c 5 t) (ix2 (y 0) (y 1))) (congrArg _ hy) ?_
  refine (point_at _ _ _ _ _ _ _ (y 0) (y 1)).trans ?_
  refine Eq.trans ?_ (congrArg (formula (m ((c : Thread nD τ).loc main_arg0)) (m ((c : Thread nD τ).loc main_arg1)) (m ((c : Thread nD τ).loc main_arg2))) hi).symm
  have e := row_of t
  have hs : Cert.Kernel12Ideal.Gen.k0_pay7 (F := Ideal) (Cert.Kernel12Ideal.Gen.k0_pay4 (iblk m c 4 t)) (Cert.Kernel12Ideal.Gen.k0_pay5 (grid0.coords t) (iblk m c 0 t) (iblk m c 1 t) (iblk m c 3 t))
          (Cert.Kernel12Ideal.Gen.k0_pay6 (grid0.coords t) (iblk m c 0 t) (iblk m c 2 t) (iblk m c 3 t)) (ix2 (y 0) (y 1))
      = smoothed (m ((c : Thread nD τ).loc main_arg0)) (m ((c : Thread nD τ).loc main_arg1)) (m ((c : Thread nD τ).loc main_arg2)) ⟨t.val / 4 * 512 + (y 0).val, by omega⟩ ⟨t.val % 4 * 512 + (y 1).val, by omega⟩ :=
    Cert.ShortConv.block_at (grid0.coords t) _ _ _ _ _ (y 0) (y 1) _ _ _ _ (by rw [e])
      (fun r' R' h => block_at m c t r' (y 1) R' _ (by rw [e] at h; exact h) rfl)
      (fun R' h => above_at m c t (y 1) R' _ (by rw [e] at h; exact h) rfl)
      (fun R' h => below_at m c t (y 1) R' _ (by rw [e] at h; exact h) rfl)
      (fun d => weight_at m c t d (y 1) _ rfl) (bias_at m c t (y 1) _ rfl)
  refine (congrArg₂ (fun u v : EReal => gate u * v) hs (scale_at m c t (y 1) ⟨t.val % 4 * 512 + (y 1).val, by omega⟩ rfl)).trans ?_
  exact scaled _ _

end Cert.QkPrep

namespace Cert.QkPrep.Host
open Cert.Reference11Ideal Cert.Reference11Ideal.Read

/-- The columns the convolution reads. -/
theorem operand (x : FVec Ideal S8192x6144 .bf16) (i : S8192x2048.Idx) :
    val_main_v1 (F := Ideal) x i = x (ix2 (i 0) (⟨(i 1).val, by have h : (i 1).val < 2048 := (i 1).isLt; omega⟩ : Fin 6144)) := by
  rw [val_main_v1_apply, val_main_v0_apply]
  refine congrArg x (funext fun a => Fin.ext ?_)
  match a with
  | ⟨0, _⟩ => rfl
  | ⟨1, _⟩ => rfl

/-- The padding is zero. -/
theorem padding (j : S_.Idx) : val_main_call0_v0 (F := Ideal) j = 0 := by
  rw [val_main_call0_v0_apply, val_main_c_apply]
  show (((0#32 : BitVec 32).toInt : ℝ) : EReal) = 0
  simp

/-- The padded array one row up. -/
theorem pad_before (x : FVec Ideal S8192x6144 .bf16) (i : S8192x2048.Idx) :
    val_main_v2 (F := Ideal) x (idx_main_v3 i) = Cert.ShortConv.before (fun R => x (ix2 R (⟨(i 1).val, by have h : (i 1).val < 2048 := (i 1).isLt; omega⟩ : Fin 6144))) (i 0) := by
  have h0 : (i 0).val < 8192 := (i 0).isLt
  unfold val_main_v2 Cert.ShortConv.before
  by_cases h : (i 0).val = 0
  · rw [dif_pos h]
    refine (pad_apply_of_not_inside _ _ _ _ _ _ _ _ (0 : Fin 2) (fun hin => ?_)).trans (padding _)
    have e : 1 ≤ (i 0).val := hin.1
    omega
  · rw [dif_neg h]
    refine (pad_apply_of_inside _ _ _ _ _ _ _ _ (ix2 (⟨(i 0).val - 1, by omega⟩ : Fin 8192) (i 1)) (fun a => ?_)).trans (operand x _)
    match a with
    | ⟨0, _⟩ => show (i 0).val = 1 + ((i 0).val - 1) * (0 + 1); omega
    | ⟨1, _⟩ => show (i 1).val = 0 + (i 1).val * (0 + 1); omega

/-- The padded array at its own row. -/
theorem pad_here (x : FVec Ideal S8192x6144 .bf16) (i : S8192x2048.Idx) :
    val_main_v2 (F := Ideal) x (idx_main_v9 i) = x (ix2 (i 0) (⟨(i 1).val, by have h : (i 1).val < 2048 := (i 1).isLt; omega⟩ : Fin 6144)) := by
  unfold val_main_v2
  refine (pad_apply_of_inside _ _ _ _ _ _ _ _ i (fun a => ?_)).trans (operand x i)
  match a with
  | ⟨0, _⟩ => show 1 + (i 0).val = 1 + (i 0).val * (0 + 1); omega
  | ⟨1, _⟩ => show (i 1).val = 0 + (i 1).val * (0 + 1); omega

/-- The padded array one row down. -/
theorem pad_after (x : FVec Ideal S8192x6144 .bf16) (i : S8192x2048.Idx) :
    val_main_v2 (F := Ideal) x (idx_main_v16 i) = Cert.ShortConv.after (fun R => x (ix2 R (⟨(i 1).val, by have h : (i 1).val < 2048 := (i 1).isLt; omega⟩ : Fin 6144))) (i 0) := by
  have h0 : (i 0).val < 8192 := (i 0).isLt
  unfold val_main_v2 Cert.ShortConv.after
  by_cases h : (i 0).val = 8191
  · rw [dif_pos h]
    refine (pad_apply_of_not_inside _ _ _ _ _ _ _ _ (0 : Fin 2) (fun hin => ?_)).trans (padding _)
    have e : (2 + (i 0).val - 1) / (0 + 1) < 8192 := hin.2.2
    omega
  · rw [dif_neg h]
    refine (pad_apply_of_inside _ _ _ _ _ _ _ _ (ix2 (⟨(i 0).val + 1, by omega⟩ : Fin 8192) (i 1)) (fun a => ?_)).trans (operand x _)
    match a with
    | ⟨0, _⟩ => show 2 + (i 0).val = 1 + ((i 0).val + 1) * (0 + 1); omega
    | ⟨1, _⟩ => show (i 1).val = 0 + (i 1).val * (0 + 1); omega

/-- The reference's convolution, element by element. -/
theorem convolved (x : FVec Ideal S8192x6144 .bf16) (w : FVec Ideal S3x2048 .f32) (b : FVec Ideal S2048 .f32) (i : S8192x2048.Idx) :
    val_main_v25 (F := Ideal) x w b i = Cert.QkPrep.smoothed x w b (i 0) (i 1) := by
  have h1 : (i 1).val < 2048 := (i 1).isLt
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply,
    pad_before, pad_here, pad_after]
  have e0 : idx_main_v4 (idx_main_v5 (idx_main_v6 (idx_main_v7 i))) = ix2 (0 : Fin 3) (i 1) := funext fun a => Fin.ext (by
    match a with
    | ⟨0, _⟩ => rfl
    | ⟨1, _⟩ => exact Nat.mod_eq_of_lt h1)
  have e1 : idx_main_v10 (idx_main_v11 (idx_main_v12 (idx_main_v13 i))) = ix2 (1 : Fin 3) (i 1) := funext fun a => Fin.ext (by
    match a with
    | ⟨0, _⟩ => rfl
    | ⟨1, _⟩ => exact Nat.mod_eq_of_lt h1)
  have e2 : idx_main_v17 (idx_main_v18 (idx_main_v19 (idx_main_v20 i))) = ix2 (2 : Fin 3) (i 1) := funext fun a => Fin.ext (by
    match a with
    | ⟨0, _⟩ => rfl
    | ⟨1, _⟩ => exact Nat.mod_eq_of_lt h1)
  have eb : idx_main_v23 (idx_main_v24 i) = ix1 (i 1) := funext fun a => Fin.ext (by
    match a with
    | ⟨0, _⟩ => rfl)
  rw [e0, e1, e2, eb]
  rfl

/-- The gated element: its own quotient by one plus an exponential is the logistic. -/
theorem silu (x : FVec Ideal S8192x6144 .bf16) (w : FVec Ideal S3x2048 .f32) (b : FVec Ideal S2048 .f32) (i : S8192x2048.Idx) :
    val_main_v26 (F := Ideal) x w b i = Cert.QkPrep.gate (Cert.QkPrep.smoothed x w b (i 0) (i 1)) := by
  rw [val_main_v26_apply, val_main_call1_v5_apply, val_main_call1_v4_apply, val_main_call1_cst_0_apply, val_main_call1_v3_apply,
    val_main_call1_v2_apply, val_main_call1_cst_apply, val_main_call1_v1_apply, val_main_call1_v0_apply, convolved]
  unfold Cert.QkPrep.gate
  refine congrArg₂ (fun u v : EReal => u * v) rfl ?_
  show Ideal.div (Ideal.ofBits .f32 1065353216#32) (Ideal.ofBits .f32 1065353216#32 + Ideal.exp (-_)) = _
  rw [Ideal.ofBits_one_f32]
  rfl

/-- The reference is the same formula. -/
theorem reads (x : FVec Ideal S8192x6144 .bf16) (w : FVec Ideal S3x2048 .f32) (b : FVec Ideal S2048 .f32) :
    val_main_v32 (F := Ideal) x w b = Cert.QkPrep.formula x w b := by
  funext (i : S8192x2048.Idx)
  have h1 : (i 1).val < 2048 := (i 1).isLt
  rw [val_main_v32_apply]
  unfold val_main_v31 Cert.QkPrep.formula
  by_cases h : (i 1).val < 1024
  · rw [if_pos h]
    refine (concatenate_pair_apply_left (s₁ := S8192x1024) (s₂ := S8192x1024) _ _ _ _ i rfl (ix2 (i 0) (⟨(i 1).val, h⟩ : Fin 1024)) (fun a => ?_)).trans ?_
    · match a with
      | ⟨0, _⟩ => rfl
      | ⟨1, _⟩ => rfl
    · rw [val_main_v27_apply, silu]
      rfl
  · rw [if_neg h]
    refine (concatenate_pair_apply_right (s₁ := S8192x1024) (s₂ := S8192x1024) _ _ _ _ i rfl rfl (ix2 (i 0) (⟨(i 1).val - 1024, by omega⟩ : Fin 1024)) (fun a ha => ?_) ?_).trans ?_
    · match a with
      | ⟨0, _⟩ => rfl
      | ⟨1, _⟩ => exact absurd rfl ha
    · show (i 1).val - 1024 + 1024 = (i 1).val
      omega
    · rw [val_main_v30_apply, val_main_v29_apply, val_main_cst_apply, val_main_v28_apply, silu]
      have e : idx_main_v28 (ix2 (i 0) (⟨(i 1).val - 1024, by omega⟩ : Fin 1024)) = i := funext fun a => Fin.ext (by
        match a with
        | ⟨0, _⟩ => rfl
        | ⟨1, _⟩ => show 1024 + ((i 1).val - 1024) = (i 1).val; omega)
      rw [e]
      rfl

end Cert.QkPrep.Host

end
-- ==== Proof.HyFilter.lean ====
/-
  The Hyena mixer's implicit filter: what the kernel's result array holds after the run, as a formula in its arguments. The
  kernel walks 32 blocks of 256 positions; a point runs three sine layers and the last projection on its positions, and
  multiplies the forward and the backward half by a window that decays with the position.
-/
module

public import proofs.«01_k».proof.Proof.Gen.Kernel14Ideal.Value
public import proofs.«01_k».proof.Proof.Gen.Reference14Ideal.Read
public import Idealize.ShloMosaic.Lib.Pipeline.Value
public import Idealize.ShloMosaic.Lib.KernelVsHost
public import Idealize.ShloMosaic.Lib.WordCmp
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.HyFilter

/-- One sine layer: the sine of a frequency times an affine map of a row. -/
def layer {n : ℕ} (x : Fin n → EReal) (w : Fin n → Fin 64 → EReal) (b f : Fin 64 → EReal) : Fin 64 → EReal := fun j =>
  Ideal.sin (f j * ((∑ k : Fin n, x k * w k j) + b j))

/-- The filter before its window: three layers and a projection. -/
def tap (z : Fin 128 → EReal) (w0 : Fin 128 → Fin 64 → EReal) (b0 : Fin 64 → EReal) (w1 : Fin 64 → Fin 64 → EReal) (b1 : Fin 64 → EReal)
    (w2 : Fin 64 → Fin 64 → EReal) (b2 f : Fin 64 → EReal) (o : Fin 64 → EReal) : EReal :=
  ∑ k : Fin 64, layer (layer (layer z w0 b0 f) w1 b1 f) w2 b2 f k * o k

/-- The window at position `n` in a channel that decays at rate `d`. -/
def fade (n : ℕ) (d : EReal) : EReal :=
  Ideal.exp (-((FloatOps.sitofp (F := Ideal) .f32 (BitVec.ofNat 32 n) : EReal) * Ideal.ofBits .f32 0x39000400#32) * d)

/-- One tap: a column of the left half is windowed, a column of the right half too but is zero at the first position. -/
def tone (n : ℕ) (q : Fin 4096) (k : EReal) (d : Fin 2048 → EReal) : EReal :=
  if h : q.val < 2048 then k * fade n (d ⟨q.val, h⟩) else if n = 0 then 0 else k * fade n (d ⟨q.val - 2048, by omega⟩)

section Block
open Cert.Kernel14Ideal Cert.Kernel14Ideal.Gen

theorem hz : (![0, 0] : Fin 2 → Nat) = fun _ => 0 := funext fun a => by fin_cases a <;> rfl

/-- The word of a position is the block's first position plus the row. -/
theorem position (g r : ℕ) : Scalar.muli (BitVec.ofNat 32 g) 256#32 + BitVec.ofNat 32 r = BitVec.ofNat 32 (g * 256 + r) := by
  show BitVec.ofNat 32 g * BitVec.ofNat 32 256 + BitVec.ofNat 32 r = _
  rw [BitVec.ofNat_add, BitVec.ofNat_mul]

/-- The filter before its window on a block. -/
theorem tap_at (f : FVec Ideal S1x64 .f32) (z : FVec Ideal S256x128 .f32) (w0 : FVec Ideal S128x64 .f32) (b0 : FVec Ideal S1x64 .f32)
    (w1 : FVec Ideal S64x64 .f32) (b1 : FVec Ideal S1x64 .f32) (w2 : FVec Ideal S64x64 .f32) (b2 : FVec Ideal S1x64 .f32)
    (o : FVec Ideal S64x4096 .f32) (r : Fin 256) (l : Fin 4096) :
    k0_pay5 (F := Ideal) f z w0 b0 w1 b1 w2 b2 o (ix2 r l)
      = tap (fun k => z (ix2 r k)) (fun k j => w0 (ix2 k j)) (fun j => b0 (ix2 (0 : Fin 1) j)) (fun k j => w1 (ix2 k j))
          (fun j => b1 (ix2 (0 : Fin 1) j)) (fun k j => w2 (ix2 k j)) (fun j => b2 (ix2 (0 : Fin 1) j)) (fun j => f (ix2 (0 : Fin 1) j))
          (fun k => o (ix2 k l)) := by
  unfold tap layer
  pointwise [k0_pay5]

/-- The window on a block. -/
theorem fade_at (g : ℕ) (d : FVec Ideal S1x2048 .f32) (r : Fin 256) (l : Fin 2048) :
    k0_pay2 (F := Ideal) (Scalar.muli (BitVec.ofNat 32 g) 256#32) (iota .tc S256x1 32 [0] iota_S256x1_d0_w32) d (ix2 r l)
      = fade (g * 256 + r.val) (d (ix2 (0 : Fin 1) l)) := by
  unfold fade
  pointwise [k0_pay2, k0_pay1]
  rw [← position g r.val, sub_eq_add_neg, zero_add]
  rfl

/-- The forward half on a block. -/
theorem fore_at (g : ℕ) (k : FVec Ideal S256x4096 .f32) (d : FVec Ideal S1x2048 .f32) (r : Fin 256) (l : Fin 2048) :
    k0_pay3 (F := Ideal) k (Scalar.muli (BitVec.ofNat 32 g) 256#32) (iota .tc S256x1 32 [0] iota_S256x1_d0_w32) d (ix2 r l)
      = tone (g * 256 + r.val) ⟨l.val, by omega⟩ (k (ix2 r (⟨l.val, by omega⟩ : Fin 4096))) (fun q => d (ix2 (0 : Fin 1) q)) := by
  pointwise [k0_pay3]
  unfold tone
  rw [dif_pos (show (⟨l.val, by omega⟩ : Fin 4096).val < 2048 from l.isLt), fade_at g d r l]

/-- The backward half on a block. -/
theorem back_at (g : ℕ) (hg : g < 32) (k : FVec Ideal S256x4096 .f32) (d : FVec Ideal S1x2048 .f32) (r : Fin 256) (l : Fin 2048) :
    k0_pay4 (F := Ideal) k (Scalar.muli (BitVec.ofNat 32 g) 256#32) (iota .tc S256x1 32 [0] iota_S256x1_d0_w32) d (ix2 r l)
      = tone (g * 256 + r.val) ⟨2048 + l.val, by omega⟩ (k (ix2 r (⟨2048 + l.val, by omega⟩ : Fin 4096))) (fun q => d (ix2 (0 : Fin 1) q)) := by
  pointwise [k0_pay4, k0_pay1]
  have hr := r.isLt
  have hp : IntOp.addi (Scalar.muli (BitVec.ofNat 32 g) 256#32) (BitVec.ofNat 32 r.val) = BitVec.ofNat 32 (g * 256 + r.val) := position g r.val
  have hc : IntOp.cmpi .eq (BitVec.ofNat 32 (g * 256 + r.val)) 0#32 = BitVec.ofBool (decide (g * 256 + r.val = 0)) := by
    rw [WordCmp.cmpi_eq_eq]
    congr 1
    exact decide_eq_decide.2 (WordCmp.ofNat_eq_ofNat_iff (by omega) (by omega))
  unfold tone
  rw [dif_neg (show ¬(⟨2048 + l.val, by omega⟩ : Fin 4096).val < 2048 from by show ¬(2048 + l.val < 2048); omega), hp, hc, WordCmp.select_decide, fade_at g d r l]
  have e : (⟨2048 + l.val - 2048, by omega⟩ : Fin 2048) = l := Fin.ext (by show 2048 + l.val - 2048 = l.val; omega)
  rw [e]

/-- The taps of a block of positions, the block's first position being `n`. -/
def block (n : ℕ) (z : FVec Ideal S256x128 .f32) (w0 : FVec Ideal S128x64 .f32) (b0 : FVec Ideal S1x64 .f32) (w1 : FVec Ideal S64x64 .f32)
    (b1 : FVec Ideal S1x64 .f32) (w2 : FVec Ideal S64x64 .f32) (b2 f : FVec Ideal S1x64 .f32) (o : FVec Ideal S64x4096 .f32)
    (d : FVec Ideal S1x2048 .f32) : FVec Ideal S256x4096 .bf16 := fun y =>
  tone (n + (y 0).val) (y 1)
    (tap (fun k => z (ix2 (y 0) k)) (fun k j => w0 (ix2 k j)) (fun j => b0 (ix2 (0 : Fin 1) j)) (fun k j => w1 (ix2 k j))
      (fun j => b1 (ix2 (0 : Fin 1) j)) (fun k j => w2 (ix2 k j)) (fun j => b2 (ix2 (0 : Fin 1) j)) (fun j => f (ix2 (0 : Fin 1) j))
      (fun k => o (ix2 k (y 1)))) (fun q => d (ix2 (0 : Fin 1) q))

/-- The block a point leaves. -/
theorem left (i : grid0.Coords) (z : FVec Ideal S256x128 .f32) (w0 : FVec Ideal S128x64 .f32) (b0 : FVec Ideal S1x64 .f32) (w1 : FVec Ideal S64x64 .f32)
    (b1 : FVec Ideal S1x64 .f32) (w2 : FVec Ideal S64x64 .f32) (b2 f : FVec Ideal S1x64 .f32) (o : FVec Ideal S64x4096 .f32)
    (d : FVec Ideal S1x2048 .f32) :
    out0_10 (F := Ideal) i z w0 b0 w1 b1 w2 b2 f o d = block ((i 0).val * 256) z w0 b0 w1 b1 w2 b2 f o d := by
  have hi : (i 0).val < 32 := (i 0).isLt
  funext (y : S256x4096.Idx)
  unfold out0_10 k0_pay7 k0_pay6
  rw [View.ld_unit_zero (S := S256x128) hz, View.ld_unit_zero (S := S128x64) hz, View.ld_unit_zero (S := S64x64) hz, View.ld_unit_zero (S := S64x64) hz,
    View.ld_unit_zero (S := S64x4096) hz, View.ld_unit_zero (S := S1x2048) hz, View.ld_unit_zero (S := S1x64) hz, View.ld_unit_zero (S := S1x64) hz,
    View.ld_unit_zero (S := S1x64) hz, View.ld_unit_zero (S := S1x64) hz]
  refine View.canon_apply_of_pieces (Val := Elt Ideal) (block ((i 0).val * 256) z w0 b0 w1 b1 w2 b2 f o d) _ ?_ y (cover0_10 _ _ y)
  intro pc hpc
  rcases List.mem_cons.mp hpc with rfl | hpc
  · intro (x : S256x2048.Idx)
    have h0 : (x 0).val < 256 := (x 0).isLt
    have h1 : (x 1).val < 2048 := (x 1).isLt
    have hx : x = ix2 (x 0) (x 1) := eq_ix2 x
    have e : r0_7.emb x = (ix2 (x 0) (⟨2048 + (x 1).val, by omega⟩ : Fin 4096) : S256x4096.Idx) := by
      funext a
      apply Fin.ext
      match a with
      | ⟨0, _⟩ => show 0 + 1 * (x 0).val = (x 0).val; omega
      | ⟨1, _⟩ => show 2048 + 1 * (x 1).val = 2048 + (x 1).val; omega
    refine Eq.trans ?_ (congrArg (block ((i 0).val * 256) z w0 b0 w1 b1 w2 b2 f o d) e).symm
    refine (congrArg (k0_pay4 (F := Ideal) _ _ _ _) hx).trans ((back_at (i 0).val hi _ d (x 0) (x 1)).trans ?_)
    exact congrArg (fun u : EReal => tone ((i 0).val * 256 + (x 0).val) (⟨2048 + (x 1).val, by omega⟩ : Fin 4096) u (fun q => d (ix2 (0 : Fin 1) q)))
      (tap_at f z w0 b0 w1 b1 w2 b2 o (x 0) ⟨2048 + (x 1).val, by omega⟩)
  rcases List.mem_cons.mp hpc with rfl | hpc
  · intro (x : S256x2048.Idx)
    have h0 : (x 0).val < 256 := (x 0).isLt
    have h1 : (x 1).val < 2048 := (x 1).isLt
    have hx : x = ix2 (x 0) (x 1) := eq_ix2 x
    have e : r0_6.emb x = (ix2 (x 0) (⟨(x 1).val, by omega⟩ : Fin 4096) : S256x4096.Idx) := by
      funext a
      apply Fin.ext
      match a with
      | ⟨0, _⟩ => show 0 + 1 * (x 0).val = (x 0).val; omega
      | ⟨1, _⟩ => show 0 + 1 * (x 1).val = (x 1).val; omega
    refine Eq.trans ?_ (congrArg (block ((i 0).val * 256) z w0 b0 w1 b1 w2 b2 f o d) e).symm
    refine (congrArg (k0_pay3 (F := Ideal) _ _ _ _) hx).trans ((fore_at (i 0).val _ d (x 0) (x 1)).trans ?_)
    exact congrArg (fun u : EReal => tone ((i 0).val * 256 + (x 0).val) (⟨(x 1).val, by omega⟩ : Fin 4096) u (fun q => d (ix2 (0 : Fin 1) q)))
      (tap_at f z w0 b0 w1 b1 w2 b2 o (x 0) ⟨(x 1).val, by omega⟩)
  nomatch hpc

end Block

section Run
open Cert.Kernel14Ideal Cert.Kernel14Ideal.Gen
variable (m : (ℓ : Loc nD τ sig) → Buf (Elt Ideal) ℓ)

/-- Where the windows stand at point `t`: the features and the result at row block `t`, the rest whole. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (grid0.coords t 0).val = t.val :=
  (by decide +kernel : ∀ t : Fin grid0.N, _)

/-- An argument laid as one row. -/
theorem row_at (x : Vec Ideal S64 .f32) (k : Fin 64) : shapeCast S1x64 x shapeCasts_S64_S1x64 (ix2 (0 : Fin 1) k) = x (ix1 k) :=
  shapeCast_apply _ _ _ (ix1 k) (by rw [Shape.rowMajor_val_one, Shape.rowMajor_val_two]; show k.val = 0 * 64 + k.val; omega)

/-- The features' row block at point `t`. -/
theorem features_at (c : Dev nD) (t : Fin cfg0.N) (r : Fin 256) (k : Fin 128) :
    (iblk m c 0 t : Vec Ideal S256x128 .f32) (ix2 r k)
      = m ((c : Thread nD τ).loc main_arg0) (ix2 ⟨t.val * 256 + r.val, by have := t.isLt; have h : cfg0.N = 32 := N_0; omega⟩ k) := by
  obtain ⟨⟨p, q⟩, -⟩ := places t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val * 256 + r.val; rw [p]; omega
  | ⟨1, _⟩ => show win0_0.index t 1 * 128 + 1 * k.val = k.val; rw [q]; omega

/-- The first layer's weights at point `t`. -/
theorem weight0_at (c : Dev nD) (t : Fin cfg0.N) (r : Fin 128) (k : Fin 64) :
    (iblk m c 1 t : Vec Ideal S128x64 .f32) (ix2 r k) = m ((c : Thread nD τ).loc main_arg1) (ix2 r k) := by
  obtain ⟨-, ⟨p, q⟩, -⟩ := places t
  unfold iblk
  rw [View.read_apply]
  show V m c main_arg1 _ = m (c.tc.loc main_arg1) _
  rw [V_main_arg1]
  congr 1
  funext a
  apply Fin.ext
  match a with
  | ⟨0, _⟩ => show win0_1.index t 0 * 128 + 1 * r.val = r.val; rw [p]; omega
  | ⟨1, _⟩ => show win0_1.index t 1 * 64 + 1 * k.val = k.val; rw [q]; omega

/-- The first layer's bias at point `t`: the argument laid as one row. -/
theorem bias0_at (c : Dev nD) (t : Fin cfg0.N) (k : Fin 64) :
    (iblk m c 2 t : Vec Ideal S1x64 .f32) (ix2 (0 : Fin 1) k) = m ((c : Thread nD τ).loc main_arg2) (ix1 k) := by
  obtain ⟨-, -, ⟨p, q⟩, -⟩ := places t
  refine Eq.trans ?_ (row_at (m ((c : Thread nD τ).loc main_arg2)) k)
  unfold iblk
  rw [View.read_apply]
  show V m c main_v0 _ = V m c main_v0 (ix2 (0 : Fin 1) k)
  congr 1
  funext a
  apply Fin.ext
  match a with
  | ⟨0, _⟩ => show win0_2.index t 0 * 1 + 1 * 0 = 0; rw [p]
  | ⟨1, _⟩ => show win0_2.index t 1 * 64 + 1 * k.val = k.val; rw [q]; omega

/-- The second layer's weights at point `t`. -/
theorem weight1_at (c : Dev nD) (t : Fin cfg0.N) (r : Fin 64) (k : Fin 64) :
    (iblk m c 3 t : Vec Ideal S64x64 .f32) (ix2 r k) = m ((c : Thread nD τ).loc main_arg3) (ix2 r k) := by
  obtain ⟨-, -, -, ⟨p, q⟩, -⟩ := places t
  unfold iblk
  rw [View.read_apply]
  show V m c main_arg3 _ = m (c.tc.loc main_arg3) _
  rw [V_main_arg3]
  congr 1
  funext a
  apply Fin.ext
  match a with
  | ⟨0, _⟩ => show win0_3.index t 0 * 64 + 1 * r.val = r.val; rw [p]; omega
  | ⟨1, _⟩ => show win0_3.index t 1 * 64 + 1 * k.val = k.val; rw [q]; omega

/-- The second layer's bias at point `t`: the argument laid as one row. -/
theorem bias1_at (c : Dev nD) (t : Fin cfg0.N) (k : Fin 64) :
    (iblk m c 4 t : Vec Ideal S1x64 .f32) (ix2 (0 : Fin 1) k) = m ((c : Thread nD τ).loc main_arg4) (ix1 k) := by
  obtain ⟨-, -, -, -, ⟨p, q⟩, -⟩ := places t
  refine Eq.trans ?_ (row_at (m ((c : Thread nD τ).loc main_arg4)) k)
  unfold iblk
  rw [View.read_apply]
  show V m c main_v1 _ = V m c main_v1 (ix2 (0 : Fin 1) k)
  congr 1
  funext a
  apply Fin.ext
  match a with
  | ⟨0, _⟩ => show win0_4.index t 0 * 1 + 1 * 0 = 0; rw [p]
  | ⟨1, _⟩ => show win0_4.index t 1 * 64 + 1 * k.val = k.val; rw [q]; omega

/-- The third layer's weights at point `t`. -/
theorem weight2_at (c : Dev nD) (t : Fin cfg0.N) (r : Fin 64) (k : Fin 64) :
    (iblk m c 5 t : Vec Ideal S64x64 .f32) (ix2 r k) = m ((c : Thread nD τ).loc main_arg5) (ix2 r k) := by
  obtain ⟨-, -, -, -, -, ⟨p, q⟩, -⟩ := places t
  unfold iblk
  rw [View.read_apply]
  show V m c main_arg5 _ = m (c.tc.loc main_arg5) _
  rw [V_main_arg5]
  congr 1
  funext a
  apply Fin.ext
  match a with
  | ⟨0, _⟩ => show win0_5.index t 0 * 64 + 1 * r.val = r.val; rw [p]; omega
  | ⟨1, _⟩ => show win0_5.index t 1 * 64 + 1 * k.val = k.val; rw [q]; omega

/-- The third layer's bias at point `t`: the argument laid as one row. -/
theorem bias2_at (c : Dev nD) (t : Fin cfg0.N) (k : Fin 64) :
    (iblk m c 6 t : Vec Ideal S1x64 .f32) (ix2 (0 : Fin 1) k) = m ((c : Thread nD τ).loc main_arg6) (ix1 k) := by
  obtain ⟨-, -, -, -, -, -, ⟨p, q⟩, -⟩ := places t
  refine Eq.trans ?_ (row_at (m ((c : Thread nD τ).loc main_arg6)) k)
  unfold iblk
  rw [View.read_apply]
  show V m c main_v2 _ = V m c main_v2 (ix2 (0 : Fin 1) k)
  congr 1
  funext a
  apply Fin.ext
  match a with
  | ⟨0, _⟩ => show win0_6.index t 0 * 1 + 1 * 0 = 0; rw [p]
  | ⟨1, _⟩ => show win0_6.index t 1 * 64 + 1 * k.val = k.val; rw [q]; omega

/-- The frequencies at point `t`: the argument laid as one row. -/
theorem frequency_at (c : Dev nD) (t : Fin cfg0.N) (k : Fin 64) :
    (iblk m c 7 t : Vec Ideal S1x64 .f32) (ix2 (0 : Fin 1) k) = m ((c : Thread nD τ).loc main_arg7) (ix1 k) := by
  obtain ⟨-, -, -, -, -, -, -, ⟨p, q⟩, -⟩ := places t
  refine Eq.trans ?_ (row_at (m ((c : Thread nD τ).loc main_arg7)) k)
  unfold iblk
  rw [View.read_apply]
  show V m c main_v3 _ = V m c main_v3 (ix2 (0 : Fin 1) k)
  congr 1
  funext a
  apply Fin.ext
  match a with
  | ⟨0, _⟩ => show win0_7.index t 0 * 1 + 1 * 0 = 0; rw [p]
  | ⟨1, _⟩ => show win0_7.index t 1 * 64 + 1 * k.val = k.val; rw [q]; omega

/-- The projection at point `t`. -/
theorem projection_at (c : Dev nD) (t : Fin cfg0.N) (r : Fin 64) (k : Fin 4096) :
    (iblk m c 8 t : Vec Ideal S64x4096 .f32) (ix2 r k) = m ((c : Thread nD τ).loc main_arg8) (ix2 r k) := by
  obtain ⟨-, -, -, -, -, -, -, -, ⟨p, q⟩, -⟩ := places t
  unfold iblk
  rw [View.read_apply]
  show V m c main_arg8 _ = m (c.tc.loc main_arg8) _
  rw [V_main_arg8]
  congr 1
  funext a
  apply Fin.ext
  match a with
  | ⟨0, _⟩ => show win0_8.index t 0 * 64 + 1 * r.val = r.val; rw [p]; omega
  | ⟨1, _⟩ => show win0_8.index t 1 * 4096 + 1 * k.val = k.val; rw [q]; omega

/-- The decay rates at point `t`. -/
theorem decay_at (c : Dev nD) (t : Fin cfg0.N) (r : Fin 1) (k : Fin 2048) :
    (iblk m c 9 t : Vec Ideal S1x2048 .f32) (ix2 r k) = m ((c : Thread nD τ).loc main_arg9) (ix2 r k) := by
  obtain ⟨-, -, -, -, -, -, -, -, -, ⟨p, q⟩, -⟩ := places t
  unfold iblk
  rw [View.read_apply]
  show V m c main_arg9 _ = m (c.tc.loc main_arg9) _
  rw [V_main_arg9]
  congr 1
  funext a
  apply Fin.ext
  match a with
  | ⟨0, _⟩ => show win0_9.index t 0 * 1 + 1 * r.val = r.val; rw [p]; omega
  | ⟨1, _⟩ => show win0_9.index t 1 * 2048 + 1 * k.val = k.val; rw [q]; omega

/-- An index lies in the block of point `t` when it does so on each axis. -/
theorem mem_block (t : Fin cfg0.N) (i : S8192x4096.Idx) :
    i ∈ ((cfg0.win 10).blk t).view.set ↔ ∀ a : Fin 2, win0_10.index t a * S256x4096.size a ≤ (i a).val ∧ (i a).val < win0_10.index t a * S256x4096.size a + S256x4096.size a := by
  show i ∈ ((View.whole main_v4).slice (win0_10.rect t)).set ↔ _
  rw [View.set_slice_whole, Rect.mem_set_unit]
  exact Iff.rfl

/-- The blocks cover the result. -/
theorem covered (i : S8192x4096.Idx) : ∃ t : Fin cfg0.N, (cfg0.win 10).flush t = true ∧ i ∈ ((cfg0.win 10).blk t).view.set := by
  have h0 : (i 0).val < 8192 := (i 0).isLt
  have h1 : (i 1).val < 4096 := (i 1).isLt
  obtain ⟨t, ht⟩ : ∃ t : Fin cfg0.N, t.val = (i 0).val / 256 := ⟨⟨(i 0).val / 256, by rw [show cfg0.N = 32 from N_0]; omega⟩, rfl⟩
  obtain ⟨-, -, -, -, -, -, -, -, -, -, ⟨p, q⟩, -⟩ := places t
  refine ⟨t, (by decide +kernel : ∀ t : Fin grid0.N, win0_10.flush t = true) t, (mem_block t i).2 fun a => ?_⟩
  match a with
  | ⟨0, _⟩ => show win0_10.index t (0 : Fin 2) * 256 ≤ (i 0).val ∧ (i 0).val < win0_10.index t (0 : Fin 2) * 256 + 256; rw [p]; omega
  | ⟨1, _⟩ => show win0_10.index t (1 : Fin 2) * 4096 ≤ (i 1).val ∧ (i 1).val < win0_10.index t (1 : Fin 2) * 4096 + 4096; rw [q]; omega

/-- The formula. -/
def formula (z : FVec Ideal S8192x128 .f32) (w0 : FVec Ideal S128x64 .f32) (b0 : FVec Ideal S64 .f32) (w1 : FVec Ideal S64x64 .f32)
    (b1 : FVec Ideal S64 .f32) (w2 : FVec Ideal S64x64 .f32) (b2 f : FVec Ideal S64 .f32) (o : FVec Ideal S64x4096 .f32)
    (d : FVec Ideal S1x2048 .f32) : FVec Ideal S8192x4096 .bf16 := fun i =>
  tone (i 0).val (i 1)
    (tap (fun k => z (ix2 (i 0) k)) (fun k j => w0 (ix2 k j)) (fun j => b0 (ix1 j)) (fun k j => w1 (ix2 k j))
      (fun j => b1 (ix1 j)) (fun k j => w2 (ix2 k j)) (fun j => b2 (ix1 j)) (fun j => f (ix1 j))
      (fun k => o (ix2 k (i 1)))) (fun q => d (ix2 (0 : Fin 1) q))

/-- A block whose pieces are pieces of the arrays is a piece of the formula. -/
theorem piece (n : ℕ) (z : FVec Ideal S256x128 .f32) (w0 : FVec Ideal S128x64 .f32) (b0 : FVec Ideal S1x64 .f32) (w1 : FVec Ideal S64x64 .f32)
    (b1 : FVec Ideal S1x64 .f32) (w2 : FVec Ideal S64x64 .f32) (b2 f : FVec Ideal S1x64 .f32) (o : FVec Ideal S64x4096 .f32)
    (d : FVec Ideal S1x2048 .f32)
    (z' : FVec Ideal S8192x128 .f32) (w0' : FVec Ideal S128x64 .f32) (b0' : FVec Ideal S64 .f32) (w1' : FVec Ideal S64x64 .f32)
    (b1' : FVec Ideal S64 .f32) (w2' : FVec Ideal S64x64 .f32) (b2' f' : FVec Ideal S64 .f32) (o' : FVec Ideal S64x4096 .f32)
    (d' : FVec Ideal S1x2048 .f32) (r : Fin 256) (q : Fin 4096) (R : Fin 8192) (hR : R.val = n + r.val)
    (hz : ∀ k, z (ix2 r k) = z' (ix2 R k)) (hw0 : ∀ k j, w0 (ix2 k j) = w0' (ix2 k j)) (hb0 : ∀ j, b0 (ix2 (0 : Fin 1) j) = b0' (ix1 j))
    (hw1 : ∀ k j, w1 (ix2 k j) = w1' (ix2 k j)) (hb1 : ∀ j, b1 (ix2 (0 : Fin 1) j) = b1' (ix1 j))
    (hw2 : ∀ k j, w2 (ix2 k j) = w2' (ix2 k j)) (hb2 : ∀ j, b2 (ix2 (0 : Fin 1) j) = b2' (ix1 j))
    (hf : ∀ j, f (ix2 (0 : Fin 1) j) = f' (ix1 j)) (ho : ∀ k j, o (ix2 k j) = o' (ix2 k j)) (hd : ∀ k j, d (ix2 k j) = d' (ix2 k j)) :
    block n z w0 b0 w1 b1 w2 b2 f o d (ix2 r q) = formula z' w0' b0' w1' b1' w2' b2' f' o' d' (ix2 R q) := by
  show tone (n + r.val) q (tap (fun k => z (ix2 r k)) (fun k j => w0 (ix2 k j)) (fun j => b0 (ix2 (0 : Fin 1) j)) (fun k j => w1 (ix2 k j))
      (fun j => b1 (ix2 (0 : Fin 1) j)) (fun k j => w2 (ix2 k j)) (fun j => b2 (ix2 (0 : Fin 1) j)) (fun j => f (ix2 (0 : Fin 1) j))
      (fun k => o (ix2 k q))) (fun q => d (ix2 (0 : Fin 1) q))
    = tone R.val q (tap (fun k => z' (ix2 R k)) (fun k j => w0' (ix2 k j)) (fun j => b0' (ix1 j)) (fun k j => w1' (ix2 k j))
      (fun j => b1' (ix1 j)) (fun k j => w2' (ix2 k j)) (fun j => b2' (ix1 j)) (fun j => f' (ix1 j))
      (fun k => o' (ix2 k q))) (fun q => d' (ix2 (0 : Fin 1) q))
  simp only [hR, hz, hw0, hb0, hw1, hb1, hw2, hb2, hf, ho, hd]

/-- After the run the result array is the formula of the arguments. -/
theorem final (c : Dev nD) : (dats m 0 c).arrAt 10 cfg0.N = formula (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_cover 10 _ (fun t _ => ?_) covered
  rw [Value.flushed10, left]
  obtain ⟨-, -, -, -, -, -, -, -, -, -, ⟨p, q⟩, hc⟩ := places t
  funext y
  rw [View.read_apply]
  have ht : t.val < 32 := lt_of_lt_of_eq t.isLt (show cfg0.N = 32 from N_0)
  have h0 : (y 0).val < 256 := (y 0).isLt
  have h1 : (y 1).val < 4096 := (y 1).isLt
  have hi : ((cfg0.win 10).blk t).view.emb y = (ix2 (⟨t.val * 256 + (y 0).val, by omega⟩ : Fin 8192) (y 1 : Fin 4096) : S8192x4096.Idx) := by
    funext a
    apply Fin.ext
    match a with
    | ⟨0, _⟩ => show win0_10.index t 0 * 256 + 1 * (y 0).val = t.val * 256 + (y 0).val; rw [p]; omega
    | ⟨1, _⟩ => show win0_10.index t 1 * 4096 + 1 * (y 1).val = (y 1).val; rw [q]; omega
  refine Eq.trans ?_ (congrArg (formula (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) hi).symm
  exact (congrArg (block ((grid0.coords t 0).val * 256) (iblk m c 0 t) (iblk m c 1 t) (iblk m c 2 t) (iblk m c 3 t) (iblk m c 4 t) (iblk m c 5 t)
      (iblk m c 6 t) (iblk m c 7 t) (iblk m c 8 t) (iblk m c 9 t)) (eq_ix2 (n0 := 256) (n1 := 4096) y)).trans
    (piece ((grid0.coords t 0).val * 256) _ _ _ _ _ _ _ _ _ _ _ _ _ _ _ _ _ _ _ _ (y 0) (y 1) _ (by rw [hc]) (features_at m c t (y 0)) (weight0_at m c t) (bias0_at m c t)
      (weight1_at m c t) (bias1_at m c t) (weight2_at m c t) (bias2_at m c t) (frequency_at m c t) (projection_at m c t) (decay_at m c t))

end Run

end Cert.HyFilter

namespace Cert.HyFilter.Host
open Cert.Reference14Ideal Cert.Reference14Ideal.Gen Cert.Reference14Ideal.Read

section Stages
variable (z : FVec Ideal S8192x128 .f32) (w0 : FVec Ideal S128x64 .f32) (b0 : FVec Ideal S64 .f32) (w1 : FVec Ideal S64x64 .f32)
  (b1 : FVec Ideal S64 .f32) (w2 : FVec Ideal S64x64 .f32) (b2 f : FVec Ideal S64 .f32) (o : FVec Ideal S64x4096 .f32)
  (d : FVec Ideal S1x2048 .f32)

/-- The first layer's result at a position. -/
theorem first_at (R : Fin 8192) (j : Fin 64) : val_main_v7 (F := Ideal) z w0 b0 f (ix2 R j)
    = layer (fun k => z (ix2 R k)) (fun k j => w0 (ix2 k j)) (fun j => b0 (ix1 j)) (fun j => f (ix1 j)) j := by
  rw [val_main_v7_apply, val_main_v6_apply, val_main_v5_apply, val_main_v4_apply, val_main_v3_apply, val_main_v2_apply, val_main_v1_apply, val_main_v0_apply]
  have el : ∀ k : Fin 128, lidx_main_v0 (ix2 R j) k = ix2 R k := fun k => funext fun a => by
    match a with
    | ⟨0, _⟩ => rfl
    | ⟨1, _⟩ => rfl
  have er : ∀ k : Fin 128, ridx_main_v0 (ix2 R j) k = ix2 k j := fun k => funext fun a => by
    match a with
    | ⟨0, _⟩ => rfl
    | ⟨1, _⟩ => rfl
  have eb : idx_main_v1 (idx_main_v2 (ix2 R j)) = ix1 j := funext fun a => by
    match a with
    | ⟨0, _⟩ => rfl
  have ef : idx_main_v4 (idx_main_v5 (ix2 R j)) = ix1 j := funext fun a => by
    match a with
    | ⟨0, _⟩ => rfl
  simp only [el, er, eb, ef]
  rfl

/-- The second layer's result at a position. -/
theorem second_at (R : Fin 8192) (j : Fin 64) : val_main_v15 (F := Ideal) z w0 b0 w1 b1 f (ix2 R j)
    = layer (layer (fun k => z (ix2 R k)) (fun k j => w0 (ix2 k j)) (fun j => b0 (ix1 j)) (fun j => f (ix1 j)))
        (fun k j => w1 (ix2 k j)) (fun j => b1 (ix1 j)) (fun j => f (ix1 j)) j := by
  rw [val_main_v15_apply, val_main_v14_apply, val_main_v13_apply, val_main_v12_apply, val_main_v11_apply, val_main_v10_apply, val_main_v9_apply, val_main_v8_apply]
  have el : ∀ k : Fin 64, lidx_main_v8 (ix2 R j) k = ix2 R k := fun k => funext fun a => by
    match a with
    | ⟨0, _⟩ => rfl
    | ⟨1, _⟩ => rfl
  have er : ∀ k : Fin 64, ridx_main_v8 (ix2 R j) k = ix2 k j := fun k => funext fun a => by
    match a with
    | ⟨0, _⟩ => rfl
    | ⟨1, _⟩ => rfl
  have eb : idx_main_v9 (idx_main_v10 (ix2 R j)) = ix1 j := funext fun a => by
    match a with
    | ⟨0, _⟩ => rfl
  have ef : idx_main_v12 (idx_main_v13 (ix2 R j)) = ix1 j := funext fun a => by
    match a with
    | ⟨0, _⟩ => rfl
  simp only [el, er, eb, ef, first_at]
  rfl

/-- The third layer's result at a position. -/
theorem third_at (R : Fin 8192) (j : Fin 64) : val_main_v23 (F := Ideal) z w0 b0 w1 b1 w2 b2 f (ix2 R j)
    = layer (layer (layer (fun k => z (ix2 R k)) (fun k j => w0 (ix2 k j)) (fun j => b0 (ix1 j)) (fun j => f (ix1 j))) (fun k j => w1 (ix2 k j)) (fun j => b1 (ix1 j)) (fun j => f (ix1 j)))
        (fun k j => w2 (ix2 k j)) (fun j => b2 (ix1 j)) (fun j => f (ix1 j)) j := by
  rw [val_main_v23_apply, val_main_v22_apply, val_main_v21_apply, val_main_v20_apply, val_main_v19_apply, val_main_v18_apply, val_main_v17_apply, val_main_v16_apply]
  have el : ∀ k : Fin 64, lidx_main_v16 (ix2 R j) k = ix2 R k := fun k => funext fun a => by
    match a with
    | ⟨0, _⟩ => rfl
    | ⟨1, _⟩ => rfl
  have er : ∀ k : Fin 64, ridx_main_v16 (ix2 R j) k = ix2 k j := fun k => funext fun a => by
    match a with
    | ⟨0, _⟩ => rfl
    | ⟨1, _⟩ => rfl
  have eb : idx_main_v17 (idx_main_v18 (ix2 R j)) = ix1 j := funext fun a => by
    match a with
    | ⟨0, _⟩ => rfl
  have ef : idx_main_v20 (idx_main_v21 (ix2 R j)) = ix1 j := funext fun a => by
    match a with
    | ⟨0, _⟩ => rfl
  simp only [el, er, eb, ef, second_at]
  rfl

/-- The filter before its window at a position. -/
theorem tap_at (R : Fin 8192) (j : Fin 4096) : val_main_v24 (F := Ideal) z w0 b0 w1 b1 w2 b2 f o (ix2 R j)
    = tap (fun k => z (ix2 R k)) (fun k j => w0 (ix2 k j)) (fun j => b0 (ix1 j)) (fun k j => w1 (ix2 k j)) (fun j => b1 (ix1 j))
        (fun k j => w2 (ix2 k j)) (fun j => b2 (ix1 j)) (fun j => f (ix1 j)) (fun k => o (ix2 k j)) := by
  rw [val_main_v24_apply]
  have el : ∀ k : Fin 64, lidx_main_v24 (ix2 R j) k = ix2 R k := fun k => funext fun a => by
    match a with
    | ⟨0, _⟩ => rfl
    | ⟨1, _⟩ => rfl
  have er : ∀ k : Fin 64, ridx_main_v24 (ix2 R j) k = ix2 k j := fun k => funext fun a => by
    match a with
    | ⟨0, _⟩ => rfl
    | ⟨1, _⟩ => rfl
  simp only [el, er, third_at]
  rfl

/-- The window at a position. -/
theorem fade_at (R : Fin 8192) (l : Fin 2048) : val_main_v33 (F := Ideal) d (ix2 R l) = fade R.val (d (ix2 (0 : Fin 1) l)) := by
  rw [val_main_v33_apply, val_main_v32_apply, val_main_v31_apply, val_main_v30_apply, val_main_v29_apply, val_main_v28_apply, val_main_v27_apply,
    val_main_cst_apply, val_main_v26_apply]
  have ed : idx_main_v31 (ix2 R l) = ix2 (0 : Fin 1) l := funext fun a => by
    match a with
    | ⟨0, _⟩ => rfl
    | ⟨1, _⟩ => rfl
  rw [ed]
  rfl

/-- A windowed tap of the left half. -/
theorem fore_at (R : Fin 8192) (l : Fin 2048) : val_main_v35 (F := Ideal) z w0 b0 w1 b1 w2 b2 f o d (ix2 R l)
    = val_main_v24 (F := Ideal) z w0 b0 w1 b1 w2 b2 f o (ix2 R (⟨l.val, by omega⟩ : Fin 4096)) * fade R.val (d (ix2 (0 : Fin 1) l)) := by
  rw [val_main_v35_apply, val_main_v34_apply, fade_at]
  have e : idx_main_v34 (ix2 R l) = ix2 R (⟨l.val, by omega⟩ : Fin 4096) := funext fun a => Fin.ext (by
    match a with
    | ⟨0, _⟩ => rfl
    | ⟨1, _⟩ => rfl)
  rw [e]
  rfl

/-- A windowed tap of the right half. -/
theorem back_at (R : Fin 8192) (l : Fin 2048) : val_main_v37 (F := Ideal) z w0 b0 w1 b1 w2 b2 f o d (ix2 R l)
    = val_main_v24 (F := Ideal) z w0 b0 w1 b1 w2 b2 f o (ix2 R (⟨2048 + l.val, by omega⟩ : Fin 4096)) * fade R.val (d (ix2 (0 : Fin 1) l)) := by
  rw [val_main_v37_apply, val_main_v36_apply, fade_at]
  have e : idx_main_v36 (ix2 R l) = ix2 R (⟨2048 + l.val, by omega⟩ : Fin 4096) := funext fun a => Fin.ext (by
    match a with
    | ⟨0, _⟩ => rfl
    | ⟨1, _⟩ => rfl)
  rw [e]
  rfl

/-- The right half, its first position zero. -/
theorem right_at (R : Fin 8192) (l : Fin 2048) : val_main_v40 (F := Ideal) z w0 b0 w1 b1 w2 b2 f o d (ix2 R l)
    = if R.val = 0 then 0 else val_main_v24 (F := Ideal) z w0 b0 w1 b1 w2 b2 f o (ix2 R (⟨2048 + l.val, by omega⟩ : Fin 4096)) * fade R.val (d (ix2 (0 : Fin 1) l)) := by
  have hR := R.isLt
  unfold val_main_v40
  by_cases h : R.val = 0
  · rw [if_pos h]
    refine (concatenate_pair_apply_left (s₁ := S1x2048) (s₂ := S8191x2048) _ _ _ _ (ix2 R l) rfl (ix2 (0 : Fin 1) l) (fun a => ?_)).trans ?_
    · match a with
      | ⟨0, _⟩ => exact h.symm
      | ⟨1, _⟩ => rfl
    · rw [val_main_v38_apply, val_main_cst_0_apply]
      exact Ideal.ofBits_zero .f32
  · rw [if_neg h]
    refine (concatenate_pair_apply_right (s₁ := S1x2048) (s₂ := S8191x2048) _ _ _ _ (ix2 R l) rfl rfl (ix2 (⟨R.val - 1, by omega⟩ : Fin 8191) l) (fun a ha => ?_) ?_).trans ?_
    · match a with
      | ⟨0, _⟩ => exact absurd rfl ha
      | ⟨1, _⟩ => rfl
    · show R.val - 1 + 1 = R.val
      omega
    · rw [val_main_v39_apply]
      have e : idx_main_v39 (ix2 (⟨R.val - 1, by omega⟩ : Fin 8191) l) = ix2 R l := funext fun a => Fin.ext (by
        match a with
        | ⟨0, _⟩ => show 1 + (R.val - 1) = R.val; omega
        | ⟨1, _⟩ => rfl)
      rw [e, back_at]

/-- The reference is the same formula. -/
theorem reads : val_main_v42 (F := Ideal) z w0 b0 w1 b1 w2 b2 f o d = formula z w0 b0 w1 b1 w2 b2 f o d := by
  funext (i : S8192x4096.Idx)
  have h1 : (i 1).val < 4096 := (i 1).isLt
  rw [val_main_v42_apply]
  refine Eq.trans (b := val_main_v41 (F := Ideal) z w0 b0 w1 b1 w2 b2 f o d i) rfl ?_
  unfold val_main_v41 formula tone
  by_cases h : (i 1).val < 2048
  · rw [dif_pos h]
    refine (concatenate_pair_apply_left (s₁ := S8192x2048) (s₂ := S8192x2048) _ _ _ _ i rfl (ix2 (i 0) (⟨(i 1).val, h⟩ : Fin 2048)) (fun a => ?_)).trans ?_
    · match a with
      | ⟨0, _⟩ => rfl
      | ⟨1, _⟩ => rfl
    · exact (fore_at z w0 b0 w1 b1 w2 b2 f o d (i 0) ⟨(i 1).val, h⟩).trans
        (congrArg (fun u : EReal => u * fade (i 0).val (d (ix2 (0 : Fin 1) (⟨(i 1).val, h⟩ : Fin 2048)))) (tap_at z w0 b0 w1 b1 w2 b2 f o (i 0) (i 1)))
  · rw [dif_neg h]
    refine (concatenate_pair_apply_right (s₁ := S8192x2048) (s₂ := S8192x2048) _ _ _ _ i rfl rfl (ix2 (i 0) (⟨(i 1).val - 2048, by omega⟩ : Fin 2048)) (fun a ha => ?_) ?_).trans ?_
    · match a with
      | ⟨0, _⟩ => rfl
      | ⟨1, _⟩ => exact absurd rfl ha
    · show (i 1).val - 2048 + 2048 = (i 1).val
      omega
    · have e : (⟨2048 + ((i 1).val - 2048), by omega⟩ : Fin 4096) = i 1 := Fin.ext (by show 2048 + ((i 1).val - 2048) = (i 1).val; omega)
      have hb := right_at z w0 b0 w1 b1 w2 b2 f o d (i 0) ⟨(i 1).val - 2048, by omega⟩
      have ht : val_main_v24 (F := Ideal) z w0 b0 w1 b1 w2 b2 f o (ix2 (i 0) (⟨2048 + ((i 1).val - 2048), by omega⟩ : Fin 4096)) = _ :=
        (congrArg (fun q : Fin 4096 => val_main_v24 (F := Ideal) z w0 b0 w1 b1 w2 b2 f o (ix2 (i 0) q)) e).trans (tap_at z w0 b0 w1 b1 w2 b2 f o (i 0) (i 1))
      rw [ht] at hb
      exact hb

end Stages

end Cert.HyFilter.Host

end
-- ==== Proof.AdaProj.lean ====
/-
  The modulations' projection: what the kernel's result array holds after the run, as a formula in its arguments. A point takes
  one layer and a block of 1024 columns, and sums the 2048 rows of weights times the gated conditioning in eight trips of 256
  rows, each into eight partial sums.
-/
module

public import proofs.«01_k».proof.Proof.Gen.Kernel15Ideal.Value
public import proofs.«01_k».proof.Proof.Gen.Reference15Ideal.Read
public import Idealize.ShloMosaic.Lib.Pipeline.Value
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdaProj

open Cert.Kernel15Ideal Cert.Kernel15Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section Loop
variable (c : Dev nD) (i : grid0.Coords) (a2 : Memref sig .tc .vmem S2048x1 .f32) (h2 : a2.IsWhole)
  (a3 : Memref sig .tc .vmem S1x2048x1024 .f32) (h3 : a3.IsWhole) (a4 : Memref sig .tc .vmem S1x1x1024 .f32) (h4 : a4.IsWhole)
  (a5 : Memref sig .tc .vmem S1x1x1024 .f32) (h5 : a5.IsWhole) (a6 : Memref sig .tc .vmem S2048x1 .f32) (h6 : a6.IsWhole)

theorem pay1_at (v : FVec Ideal S2048x1 .f32) (r : Fin 2048) :
    k0_pay1 (F := Ideal) v (ix2 r (0 : Fin 1)) = v (ix2 r 0) * Ideal.logistic (v (ix2 r 0)) := by
  pointwise [k0_pay1]

theorem pay2_at (r : Fin 8) (l : Fin 1024) : k0_pay2 (F := Ideal) (ix2 r l) = 0 := by
  pointwise [k0_pay2]

theorem pay3_at (acc : FVec Ideal S8x1024 .f32) (w : FVec Ideal S1x256x1024 .f32) (v : FVec Ideal S256x1 .f32) (r : Fin 8) (l : Fin 1024) :
    k0_pay3 (F := Ideal) acc w v (ix2 r l) = acc (ix2 r l)
      + ∑ x : Fin 32, w (ix3 (0 : Fin 1) (⟨x.val * 8 + r.val, by omega⟩ : Fin 256) l) * v (ix2 (⟨x.val * 8 + r.val, by omega⟩ : Fin 256) (0 : Fin 1)) := by
  pointwise [k0_pay3]

theorem pay4_at (v : FVec Ideal S8x1024 .f32) (b : FVec Ideal S1x1x1024 .f32) (l : Fin 1024) :
    k0_pay4 (F := Ideal) v b (ix3 (0 : Fin 1) (0 : Fin 1) l) = (∑ x : Fin 8, v (ix2 x l)) + b (ix3 (0 : Fin 1) (0 : Fin 1) l) := by
  pointwise [k0_pay4]

/-- Row `R`'s share of a column, by the row's number. -/
def term (w : Vec Ideal S1x2048x1024 .f32) (v : Vec Ideal S2048x1 .f32) (l : Fin 1024) (R : ℕ) : EReal :=
  if h : R < 2048 then w (ix3 (0 : Fin 1) (⟨R, h⟩ : Fin 2048) l) * v (ix2 (⟨R, h⟩ : Fin 2048) (0 : Fin 1)) else 0

/-- One trip adds its rows. -/
theorem trip (w : Vec Ideal S1x2048x1024 .f32) (Y : BufTy.Contents (Elt Ideal) a6.view.ty) (k : Fin k0_t1_loop.trips) (acc : FVec Ideal S8x1024 .f32)
    (r : Fin 8) (l : Fin 1024) :
    tripR_k0_t1 (F := Ideal) Variants.none c none i a2 h2 a3 h3 a4 h4 a5 h5 a6 h6 (h3.unread w) Y k acc (ix2 r l)
      = acc (ix2 r l) + ∑ x : Fin 32, term w (a6.view.read (Elt Ideal) Y) l (r.val + 8 * (x.val + 32 * k.val)) := by
  have hk : k.val < 8 := k.isLt
  have e : tripR_k0_t1 (F := Ideal) Variants.none c none i a2 h2 a3 h3 a4 h4 a5 h5 a6 h6 (h3.unread w) Y k acc
      = k0_pay3 acc (View.ld w (Rect.unit (s := S1x2048x1024) (k0_off1 k) S1x256x1024.size (k0_off1_inb k)))
          (View.ld (a6.view.read (Elt Ideal) Y) (Rect.unit (s := S2048x1) (k0_off2 k) S256x1.size (k0_off2_inb k))) := by
    unfold tripR_k0_t1 trip_k0_t1
    dsimp only
    simp only [View.readAt_eq_ld, h3.read_unread]
  rw [e, pay3_at]
  refine congrArg (acc (ix2 r l) + ·) (Finset.sum_congr rfl fun x _ => ?_)
  unfold term
  rw [dif_pos (by omega)]
  have o1 := k0_off1_eq k
  have o2 := k0_off2_eq k
  refine congrArg₂ (· * ·) (congrArg w (funext fun a => Fin.ext ?_)) (congrArg (a6.view.read (Elt Ideal) Y) (funext fun a => Fin.ext ?_))
  · match a with
    | ⟨0, _⟩ => show k0_off1 k 0 + 1 * 0 = 0; rw [o1]; rfl
    | ⟨1, _⟩ => show k0_off1 k 1 + 1 * (x.val * 8 + r.val) = r.val + 8 * (x.val + 32 * k.val); rw [o1]; show 256 * k.val + _ = _; omega
    | ⟨2, _⟩ => show k0_off1 k 2 + 1 * l.val = l.val; rw [o1]; show 0 + _ = _; omega
  · match a with
    | ⟨0, _⟩ => show k0_off2 k 0 + 1 * (x.val * 8 + r.val) = r.val + 8 * (x.val + 32 * k.val); rw [o2]; show 256 * k.val + _ = _; omega
    | ⟨1, _⟩ => show k0_off2 k 1 + 1 * 0 = 0; rw [o2]; rfl

/-- What the first trips have gathered. -/
theorem trips (w : Vec Ideal S1x2048x1024 .f32) (Y : BufTy.Contents (Elt Ideal) a6.view.ty) (r : Fin 8) (l : Fin 1024) : ∀ n : ℕ, n ≤ 8 →
    (st_k0_t1 (F := Ideal) Variants.none c none i a2 h2 a3 h3 a4 h4 a5 h5 a6 h6 (h3.unread w) Y k0_pay2 n : FVec Ideal S8x1024 .f32) (ix2 r l)
      = ∑ k ∈ Finset.range n, ∑ x : Fin 32, term w (a6.view.read (Elt Ideal) Y) l (r.val + 8 * (x.val + 32 * k))
  | 0, _ => by rw [st_k0_t1_zero, Finset.sum_range_zero]; exact pay2_at r l
  | n + 1, h => by
    rw [Finset.sum_range_succ, ← trips w Y r l n (by omega)]
    have e := st_k0_t1_succ (F := Ideal) Variants.none c none i a2 h2 a3 h3 a4 h4 a5 h5 a6 h6 (h3.unread w) Y k0_pay2 ⟨n, h⟩
    exact (congrFun e (ix2 r l)).trans (trip c i a2 h2 a3 h3 a4 h4 a5 h5 a6 h6 w Y ⟨n, h⟩ _ r l)

/-- A sum over `a * b` numbers, as `a` runs of `b`. -/
theorem split (a b : ℕ) (f : ℕ → EReal) : ∑ R : Fin (a * b), f R.val = ∑ x : Fin a, ∑ y : Fin b, f (y.val + b * x.val) := by
  rw [← Fintype.sum_prod_type']
  exact (Fintype.sum_equiv finProdFinEquiv _ _ fun p => rfl).symm

/-- The eight partial sums together are the sum over all rows. -/
theorem regroup (f : ℕ → EReal) : ∑ r : Fin 8, ∑ k ∈ Finset.range 8, ∑ x : Fin 32, f (r.val + 8 * (x.val + 32 * k)) = ∑ R : Fin 2048, f R.val := by
  refine Eq.trans ?_ (split 256 8 f).symm
  refine Eq.trans ?_ (split 8 32 fun q => ∑ y : Fin 8, f (y.val + 8 * q)).symm
  simp only [Finset.sum_range]
  rw [Finset.sum_comm]
  exact Finset.sum_congr rfl fun k _ => Finset.sum_comm

/-- What a point leaves. -/
theorem left (v : Vec Ideal S2048x1 .f32) (w : Vec Ideal S1x2048x1024 .f32) (b : Vec Ideal S1x1x1024 .f32) (l : Fin 1024) :
    out0_A_3 (F := Ideal) c i a2 h2 a3 h3 a4 h4 a5 h5 a6 h6 v w b (ix3 (0 : Fin 1) (0 : Fin 1) l)
      = (∑ R : Fin 2048, w (ix3 (0 : Fin 1) R l) * (v (ix2 R 0) * Ideal.logistic (v (ix2 R 0)))) + b (ix3 (0 : Fin 1) (0 : Fin 1) l) := by
  unfold out0_A_3
  rw [View.read_writes_eq_canon _ _ _ (cover0_A_3 c i a2 h2 a3 h3 a4 h4 a5 h5 a6 h6 v w b)]
  unfold kernelRun0_A
  dsimp only
  sl_unfold_words
  rw [View.canon_unit_zero hz3]
  simp only [View.readAt_eq_ld, h2.read_unread, h4.read_unread, View.ld_unit_zero (S := S2048x1) hz, View.ld_unit_zero (S := S1x1x1024) hz3]
  refine (pay4_at _ b l).trans (congrArg (· + b (ix3 (0 : Fin 1) (0 : Fin 1) l)) ?_)
  refine (Finset.sum_congr rfl fun r _ => trips c i a2 h2 a3 h3 a4 h4 a5 h5 a6 h6 w _ r l 8 le_rfl).trans ((regroup _).trans ?_)
  rw [View.read_writes_eq_canon _ _ _ (View.cover_of_tiled _ S2048x1.size (by rfl)), View.canon_unit_zero hz]
  refine Finset.sum_congr rfl fun R _ => ?_
  unfold term
  rw [dif_pos R.isLt]
  exact congrArg (w (ix3 (0 : Fin 1) R l) * ·) (pay1_at v R)

end Loop

/-- A layer's modulations: the gated conditioning through the layer's weights, plus its bias. -/
def formula (c : FVec Ideal S2048 .f32) (w : FVec Ideal S2x2048x12288 .f32) (b : FVec Ideal S2x12288 .f32) : FVec Ideal S2x1x12288 .f32 := fun i =>
  (∑ R : Fin 2048, w (ix3 (i 0) R (i 2)) * (c (ix1 R) * Ideal.logistic (c (ix1 R)))) + b (ix2 (i 0) (i 2))

variable (m : (ℓ : Loc nD τ sig) → Buf (Elt Ideal) ℓ)

/-- Where the windows stand at point `t`: layer `t / 12`, column block `t % 12`. -/
theorem places : ∀ t : Fin cfg0.N,
    (win0_0.index t (0 : Fin 2) = 0 ∧ win0_0.index t (1 : Fin 2) = 0)
    ∧ (win0_1.index t (0 : Fin 3) = t.val / 12 ∧ win0_1.index t (1 : Fin 3) = 0 ∧ win0_1.index t (2 : Fin 3) = t.val % 12)
    ∧ (win0_2.index t (0 : Fin 3) = t.val / 12 ∧ win0_2.index t (1 : Fin 3) = 0 ∧ win0_2.index t (2 : Fin 3) = t.val % 12)
    ∧ (win0_3.index t (0 : Fin 3) = t.val / 12 ∧ win0_3.index t (1 : Fin 3) = 0 ∧ win0_3.index t (2 : Fin 3) = t.val % 12) :=
  (by decide +kernel : ∀ t : Fin grid0.N, _)

theorem lt24 (t : Fin cfg0.N) : t.val < 24 := lt_of_lt_of_eq t.isLt (show cfg0.N = 24 from N_0)

theorem cond_at (c : Dev nD) (t : Fin cfg0.N) (R : Fin 2048) :
    (iblk m c 0 t : Vec Ideal S2048x1 .f32) (ix2 R (0 : Fin 1)) = m ((c : Thread nD τ).loc main_arg0) (ix1 R) := by
  obtain ⟨⟨p, q⟩, -⟩ := places t
  unfold iblk
  rw [View.read_apply]
  refine (congrArg (V m c main_v0) (funext fun a => Fin.ext (by
    match a with
    | ⟨0, _⟩ => show win0_0.index t 0 * 2048 + 1 * R.val = R.val; rw [p]; omega
    | ⟨1, _⟩ => show win0_0.index t 1 * 1 + 1 * 0 = 0; rw [q]) :
      ((cfg0.win 0).blk t).view.emb (ix2 R (0 : Fin 1)) = (ix2 R (0 : Fin 1) : S2048x1.Idx))).trans ?_
  show (shapeCast S2048x1 (m ((c : Thread nD τ).loc main_arg0) : Vec Ideal S2048 .f32) shapeCasts_S2048_S2048x1) (ix2 R (0 : Fin 1)) = _
  exact shapeCast_apply _ _ _ (ix1 R) (by rw [Shape.rowMajor_val_one, Shape.rowMajor_val_two]; show R.val = R.val * 1 + 0; omega)

theorem weights_at (c : Dev nD) (t : Fin cfg0.N) (R : Fin 2048) (l : Fin 1024) :
    (iblk m c 1 t : Vec Ideal S1x2048x1024 .f32) (ix3 (0 : Fin 1) R l) = m ((c : Thread nD τ).loc main_arg1)
      (ix3 ⟨t.val / 12, by have := lt24 t; omega⟩ R ⟨t.val % 12 * 1024 + l.val, by omega⟩) := by
  obtain ⟨-, ⟨p, q, s⟩, -⟩ := places t
  unfold iblk
  rw [View.read_apply]
  refine (congrFun (V_main_arg1 m c) _).trans (congrArg _ (funext fun a => Fin.ext ?_))
  match a with
  | ⟨0, _⟩ => show win0_1.index t 0 * 1 + 1 * 0 = t.val / 12; rw [p]; omega
  | ⟨1, _⟩ => show win0_1.index t 1 * 2048 + 1 * R.val = R.val; rw [q]; omega
  | ⟨2, _⟩ => show win0_1.index t 2 * 1024 + 1 * l.val = t.val % 12 * 1024 + l.val; rw [s]; omega

theorem bias_at (c : Dev nD) (t : Fin cfg0.N) (l : Fin 1024) :
    (iblk m c 2 t : Vec Ideal S1x1x1024 .f32) (ix3 (0 : Fin 1) (0 : Fin 1) l) = m ((c : Thread nD τ).loc main_arg2)
      (ix2 ⟨t.val / 12, by have := lt24 t; omega⟩ ⟨t.val % 12 * 1024 + l.val, by omega⟩) := by
  have ht := lt24 t
  obtain ⟨L, hL⟩ : ∃ L : Fin 2, L.val = t.val / 12 := ⟨⟨t.val / 12, by omega⟩, rfl⟩
  obtain ⟨C, hC⟩ : ∃ C : Fin 12288, C.val = t.val % 12 * 1024 + l.val := ⟨⟨t.val % 12 * 1024 + l.val, by omega⟩, rfl⟩
  obtain ⟨-, -, ⟨p, q, s⟩, -⟩ := places t
  unfold iblk
  rw [View.read_apply]
  refine (congrArg (V m c main_v1) (funext fun a => Fin.ext (by
    match a with
    | ⟨0, _⟩ => show win0_2.index t 0 * 1 + 1 * 0 = L.val; rw [p]; omega
    | ⟨1, _⟩ => show win0_2.index t 1 * 1 + 1 * 0 = 0; rw [q]
    | ⟨2, _⟩ => show win0_2.index t 2 * 1024 + 1 * l.val = C.val; rw [s]; omega) :
      ((cfg0.win 2).blk t).view.emb (ix3 (0 : Fin 1) (0 : Fin 1) l) = (ix3 L (0 : Fin 1) C : S2x1x12288.Idx))).trans ?_
  show (shapeCast S2x1x12288 (m ((c : Thread nD τ).loc main_arg2) : Vec Ideal S2x12288 .f32) shapeCasts_S2x12288_S2x1x12288) (ix3 L (0 : Fin 1) C) = _
  refine (shapeCast_apply _ _ _ (ix2 L C) (by
    rw [Shape.rowMajor_val_two, Shape.rowMajor_val_three]; show L.val * 12288 + C.val = (L.val * 1 + 0) * 12288 + C.val; omega)).trans ?_
  exact congrArg₂ (fun a b => (m ((c : Thread nD τ).loc main_arg2) : Vec Ideal S2x12288 .f32) (ix2 a b)) (Fin.ext hL) (Fin.ext hC)

theorem mem_block (t : Fin cfg0.N) (i : S2x1x12288.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v2).slice (win0_3.rect t)).set ↔ _
  rw [View.set_slice_whole, Rect.mem_set_unit]
  exact Iff.rfl

/-- After the run the result array is the formula of the arguments. -/
theorem final (c : Dev nD) : (dats m 0 c).arrAt 3 cfg0.N
    = formula (m ((c : Thread nD τ).loc main_arg0)) (m ((c : Thread nD τ).loc main_arg1)) (m ((c : Thread nD τ).loc main_arg2)) := by
  refine (dats m 0 c).arrAt_eq_of_cover 3 _ (fun t _ => ?_) (fun i => ?_)
  · rw [Value.flushed3_A]
    obtain ⟨-, -, -, p, q, s⟩ := places t
    have ht := lt24 t
    refine funext fun (y : S1x1x1024.Idx) => ?_
    rw [View.read_apply]
    have h0 : (y 0).val < 1 := (y 0).isLt
    have h1 : (y 1).val < 1 := (y 1).isLt
    have h2 : (y 2).val < 1024 := (y 2).isLt
    have hy : y = ix3 (0 : Fin 1) (0 : Fin 1) (y 2) := (eq_ix3 y).trans (by
      rw [show y 0 = (0 : Fin 1) from Fin.ext (by show (y 0).val = 0; omega), show y 1 = (0 : Fin 1) from Fin.ext (by show (y 1).val = 0; omega)]; rfl)
    have hi : ((cfg0.win 3).blk t).view.emb y
        = (ix3 (⟨t.val / 12, by omega⟩ : Fin 2) (0 : Fin 1) (⟨t.val % 12 * 1024 + (y 2).val, by omega⟩ : Fin 12288) : S2x1x12288.Idx) := by
      funext a
      apply Fin.ext
      match a with
      | ⟨0, _⟩ => show win0_3.index t 0 * 1 + 1 * (y 0).val = t.val / 12; rw [p]; omega
      | ⟨1, _⟩ => show win0_3.index t 1 * 1 + 1 * (y 1).val = 0; rw [q]; omega
      | ⟨2, _⟩ => show win0_3.index t 2 * 1024 + 1 * (y 2).val = t.val % 12 * 1024 + (y 2).val; rw [s]; omega
    refine Eq.trans (congrArg _ hy) ((left c _ _ _ _ _ _ _ _ _ _ _ _ _ _ (y 2)).trans ?_)
    refine Eq.trans ?_ (congrArg (formula _ _ _) hi).symm
    unfold formula
    refine congrArg₂ (· + ·) (Finset.sum_congr rfl fun R _ => congrArg₂ (· * ·) (weights_at m c t R (y 2)) ?_) (bias_at m c t (y 2))
    rw [cond_at]
  · have h0 : (i 0).val < 2 := (i 0).isLt
    have h1 : (i 1).val < 1 := (i 1).isLt
    have h2 : (i 2).val < 12288 := (i 2).isLt
    obtain ⟨t, ht⟩ : ∃ t : Fin cfg0.N, t.val = (i 0).val * 12 + (i 2).val / 1024 :=
      ⟨⟨(i 0).val * 12 + (i 2).val / 1024, by rw [show cfg0.N = 24 from N_0]; omega⟩, rfl⟩
    obtain ⟨-, -, -, p, q, s⟩ := places t
    refine ⟨t, (by decide +kernel : ∀ t : Fin grid0.N, win0_3.flush t = true) t, (mem_block t i).2 fun a => ?_⟩
    match a with
    | ⟨0, _⟩ => show win0_3.index t (0 : Fin 3) * 1 ≤ (i 0).val ∧ (i 0).val < win0_3.index t (0 : Fin 3) * 1 + 1; rw [p]; omega
    | ⟨1, _⟩ => show win0_3.index t (1 : Fin 3) * 1 ≤ (i 1).val ∧ (i 1).val < win0_3.index t (1 : Fin 3) * 1 + 1; rw [q]; omega
    | ⟨2, _⟩ => show win0_3.index t (2 : Fin 3) * 1024 ≤ (i 2).val ∧ (i 2).val < win0_3.index t (2 : Fin 3) * 1024 + 1024; rw [s]; omega

end Cert.AdaProj

namespace Cert.AdaProj.Host
open Cert.Reference15Ideal Cert.Reference15Ideal.Read

theorem gated (c : FVec Ideal S2048 .f32) (R : S2048.Idx) : val_main_v0 (F := Ideal) c R = c R * Ideal.logistic (c R) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show c R * Ideal.div (Ideal.ofBits .f32 0x3F800000#32) (Ideal.ofBits .f32 0x3F800000#32 + Ideal.exp (-c R)) = _
  rw [Ideal.ofBits_one_f32]
  rfl

theorem layer0 (c : FVec Ideal S2048 .f32) (w : FVec Ideal S2x2048x12288 .f32) (b : FVec Ideal S2x12288 .f32) (l : Fin 12288) :
    val_main_v6 (F := Ideal) c w b (ix1 l)
      = (∑ R : Fin 2048, w (ix3 (0 : Fin 2) R l) * (c (ix1 R) * Ideal.logistic (c (ix1 R)))) + b (ix2 (0 : Fin 2) l) := by
  have hl := l.isLt
  rw [val_main_v6_apply, val_main_v3_apply, val_main_v5_apply, val_main_v4_apply]
  refine congrArg₂ (· + ·) (Finset.sum_congr rfl fun R _ => ?_) (congrArg b (funext fun a => Fin.ext ?_))
  · have hR := R.isLt
    rw [gated, val_main_v2_apply, val_main_v1_apply, mul_comm]
    refine congrArg₂ (· * ·) (congrArg w (funext fun a => Fin.ext ?_)) (congrArg (fun k => c k * Ideal.logistic (c k)) (funext fun a => by match a with | ⟨0, _⟩ => rfl))
    match a with
    | ⟨0, _⟩ => rfl
    | ⟨1, _⟩ => show (R.val * 12288 + l.val) / 12288 % 2048 = R.val; omega
    | ⟨2, _⟩ => show (R.val * 12288 + l.val) % 12288 = l.val; omega
  · match a with
    | ⟨0, _⟩ => rfl
    | ⟨1, _⟩ => show l.val % 12288 = l.val; omega

theorem layer1 (c : FVec Ideal S2048 .f32) (w : FVec Ideal S2x2048x12288 .f32) (b : FVec Ideal S2x12288 .f32) (l : Fin 12288) :
    val_main_v12 (F := Ideal) c w b (ix1 l)
      = (∑ R : Fin 2048, w (ix3 (1 : Fin 2) R l) * (c (ix1 R) * Ideal.logistic (c (ix1 R)))) + b (ix2 (1 : Fin 2) l) := by
  have hl := l.isLt
  rw [val_main_v12_apply, val_main_v9_apply, val_main_v11_apply, val_main_v10_apply]
  refine congrArg₂ (· + ·) (Finset.sum_congr rfl fun R _ => ?_) (congrArg b (funext fun a => Fin.ext ?_))
  · have hR := R.isLt
    rw [gated, val_main_v8_apply, val_main_v7_apply, mul_comm]
    refine congrArg₂ (· * ·) (congrArg w (funext fun a => Fin.ext ?_)) (congrArg (fun k => c k * Ideal.logistic (c k)) (funext fun a => by match a with | ⟨0, _⟩ => rfl))
    match a with
    | ⟨0, _⟩ => rfl
    | ⟨1, _⟩ => show (R.val * 12288 + l.val) / 12288 % 2048 = R.val; omega
    | ⟨2, _⟩ => show (R.val * 12288 + l.val) % 12288 = l.val; omega
  · match a with
    | ⟨0, _⟩ => rfl
    | ⟨1, _⟩ => show l.val % 12288 = l.val; omega

/-- The reference is the same formula. -/
theorem reads (c : FVec Ideal S2048 .f32) (w : FVec Ideal S2x2048x12288 .f32) (b : FVec Ideal S2x12288 .f32) :
    val_main_v16 (F := Ideal) c w b = Cert.AdaProj.formula c w b := by
  funext i
  rw [val_main_v16_apply]
  unfold val_main_v15
  have h0 : (i 0).val < 2 := (i 0).isLt
  by_cases h : (i 0).val = 0
  · refine (concatenate_pair_apply_left (s₁ := S1x12288) (s₂ := S1x12288) _ _ _ _ (idx_main_v16 i) rfl (ix2 (0 : Fin 1) (i 2)) (fun a => ?_)).trans ?_
    · match a with
      | ⟨0, _⟩ => exact h.symm
      | ⟨1, _⟩ => rfl
    · rw [val_main_v13_apply]
      refine Eq.trans (congrArg _ (funext fun a => by match a with | ⟨0, _⟩ => rfl)) ((layer0 c w b (i 2)).trans ?_)
      unfold Cert.AdaProj.formula
      rw [show i 0 = (0 : Fin 2) from Fin.ext h]
  · refine (concatenate_pair_apply_right (s₁ := S1x12288) (s₂ := S1x12288) _ _ _ _ (idx_main_v16 i) rfl rfl (ix2 (0 : Fin 1) (i 2)) (fun a ha => ?_) ?_).trans ?_
    · match a with
      | ⟨0, _⟩ => exact absurd rfl ha
      | ⟨1, _⟩ => rfl
    · show 0 + 1 = (i 0).val
      omega
    · rw [val_main_v14_apply]
      refine Eq.trans (congrArg _ (funext fun a => by match a with | ⟨0, _⟩ => rfl)) ((layer1 c w b (i 2)).trans ?_)
      unfold Cert.AdaProj.formula
      rw [show i 0 = (1 : Fin 2) from Fin.ext (by show (i 0).val = 1; omega)]

end Cert.AdaProj.Host

end
-- ==== Proof.lean ====
module

public import proofs.«01_k».proof.Defs
public import proofs.«01_k».proof.Proof.Gen.Kernel2.Frame
public import proofs.«01_k».proof.Proof.Gen.Kernel
public import proofs.«01_k».proof.Proof.Gen.Kernel.Launch
public import proofs.«01_k».proof.Proof.Gen.Kernel.Skeleton
public import proofs.«01_k».proof.Proof.Gen.KernelIdeal
public import proofs.«01_k».proof.Proof.Gen.KernelIdeal.Launch
public import proofs.«01_k».proof.Proof.Gen.KernelIdeal.Skeleton
public import proofs.«01_k».proof.Proof.Gen.Pre_in_range
public import proofs.«01_k».proof.Proof.Gen.On_active_rows
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Kernel5
public import proofs.«01_k».proof.Proof.Gen.Kernel5.Launch
public import proofs.«01_k».proof.Proof.Gen.Kernel5.Skeleton
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Quiescent
public import proofs.«01_k».proof.Proof.SharedExpert
public import proofs.«01_k».proof.Proof.InProj
public import proofs.«01_k».proof.Proof.OutProj
public import proofs.«01_k».proof.Proof.Experts.Claims
public import proofs.«01_k».proof.Proof.Experts5.Claims
public import proofs.«01_k».proof.Proof.InProjHyena
public import proofs.«01_k».proof.Proof.FinalNorm
public import proofs.«01_k».proof.Proof.NormMod
public import proofs.«01_k».proof.Proof.HeadNorm
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel10Ideal.Frame
public import proofs.«01_k».proof.Proof.Gen.Kernel13Ideal.Frame
public import proofs.«01_k».proof.Proof.Gen.Kernel11Ideal.Value
public import proofs.«01_k».proof.Proof.Gen.Kernel12Ideal.Value
public import proofs.«01_k».proof.Proof.Gen.Reference11Ideal.Run
public import proofs.«01_k».proof.Proof.Gen.Reference11Ideal.Read
public import proofs.«01_k».proof.Proof.Gen.Reference12Ideal.Run
public import proofs.«01_k».proof.Proof.Gen.Reference12Ideal.Read
public import proofs.«01_k».proof.Proof.ShortConv
public import proofs.«01_k».proof.Proof.GateConv
public import proofs.«01_k».proof.Proof.QkPrep
public import proofs.«01_k».proof.Proof.Gen.Kernel14Ideal.Value
public import proofs.«01_k».proof.Proof.Gen.Reference14Ideal.Run
public import proofs.«01_k».proof.Proof.Gen.Reference14Ideal.Read
public import proofs.«01_k».proof.Proof.HyFilter
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.AdaProj

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact ((Cert.Reference2Ideal.Read.val_main_v4_eq _ _ _ _).trans (Cert.SharedExpert.Host.reads _ _ _ _)).trans (Cert.SharedExpert.final m c).symm

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  exact ((Cert.Reference3Ideal.Read.val_main_v3_eq _ _).trans (Cert.InProj.Host.reads _ _)).trans (Cert.InProj.final m c).symm

theorem algebraic_Kernel4Ideal_Reference4Ideal : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1]
  simp only [hagree c]
  exact ((Cert.Reference4Ideal.Read.val_main_v4_eq _ _ _ _).trans (Cert.OutProj.Host.reads _ _ _ _)).trans (Cert.OutProj.final m c).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel6Ideal_Reference6Ideal : algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  exact ((Cert.Reference6Ideal.Read.val_main_v2_eq _ _).trans (Cert.InProjHyena.Host.reads _ _)).trans (Cert.InProjHyena.final m c).symm

theorem algebraic_Kernel7Ideal_Reference7Ideal : algebraic_Kernel7Ideal_Reference7Ideal := by
  intro m ρ m' ρ' _ hagree
  refine ⟨fun c => Cert.FinalNorm.formula (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), (θ_run Cert.Kernel7Ideal.defs _ _).mono
    (fun _ h c => ⟨(h c).1.trans (Cert.FinalNorm.final m c), (h c).2⟩) (Cert.Kernel7Ideal.Value.run_blocks (F := Ideal) m ρ), ?_⟩
  refine (θ_run Cert.Reference7Ideal.defs _ _).mono (fun _ h c => ⟨?_, (h c).2⟩) (Cert.Reference7Ideal.Value.run (F := Ideal) m' ρ')
  rw [(h c).1]
  simp only [hagree c]
  exact (Cert.Reference7Ideal.Read.val_main_v11_eq _ _).trans (Cert.FinalNorm.Host.reads _ _)

theorem algebraic_Kernel8Ideal_Reference8Ideal : algebraic_Kernel8Ideal_Reference8Ideal := by
  intro m ρ m' ρ' _ hagree
  refine ⟨fun c => Cert.NormMod.formula (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)), (θ_run Cert.Kernel8Ideal.defs _ _).mono
    (fun _ h c => ⟨(h c).1.trans (Cert.NormMod.final m c), (h c).2⟩) (Cert.Kernel8Ideal.Value.run_blocks (F := Ideal) m ρ), ?_⟩
  refine (θ_run Cert.Reference8Ideal.defs _ _).mono (fun _ h c => ⟨?_, (h c).2⟩) (Cert.Reference8Ideal.Value.run (F := Ideal) m' ρ')
  rw [(h c).1]
  simp only [hagree c]
  exact (Cert.Reference8Ideal.Read.val_main_v18_eq _ _ _ _).trans (Cert.NormMod.Host.reads _ _ _ _)

theorem algebraic_Kernel9Ideal_Reference9Ideal : algebraic_Kernel9Ideal_Reference9Ideal := by
  intro m ρ m' ρ' _ hagree
  refine ⟨fun c => Cert.HeadNorm.formula (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), (θ_run Cert.Kernel9Ideal.defs _ _).mono
    (fun _ h c => ⟨(h c).1.trans (Cert.HeadNorm.final m c), (h c).2⟩) (Cert.Kernel9Ideal.Value.run_blocks (F := Ideal) m ρ), ?_⟩
  refine (θ_run Cert.Reference9Ideal.defs _ _).mono (fun _ h c => ⟨?_, (h c).2⟩) (Cert.Reference9Ideal.Value.run (F := Ideal) m' ρ')
  rw [(h c).1]
  simp only [hagree c]
  exact (Cert.Reference9Ideal.Read.val_main_v25_eq _ _ _ _).trans (Cert.HeadNorm.Host.reads _ _ _ _)

theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem quiescent_Reference12Ideal : quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem quiescent_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem quiescent_Reference15Ideal : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic_Kernel11Ideal_Reference11Ideal : algebraic_Kernel11Ideal_Reference11Ideal := by
  intro m ρ m' ρ' _ hagree
  refine ⟨fun c => Cert.QkPrep.formula (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)),
    (θ_run Cert.Kernel11Ideal.defs _ _).mono
    (fun _ h c => ⟨(h c).1.trans (Cert.QkPrep.final m c), (h c).2⟩) (Cert.Kernel11Ideal.Value.run_blocks (F := Ideal) m ρ), ?_⟩
  refine (θ_run Cert.Reference11Ideal.defs _ _).mono (fun _ h c => ⟨?_, (h c).2⟩) (Cert.Reference11Ideal.Value.run (F := Ideal) m' ρ')
  rw [(h c).1, Cert.Reference11Ideal.Read.val_main_v32_eq]
  simp only [hagree c]
  exact Cert.QkPrep.Host.reads _ _ _

theorem algebraic_Kernel12Ideal_Reference12Ideal : algebraic_Kernel12Ideal_Reference12Ideal := by
  intro m ρ m' ρ' _ hagree
  refine ⟨fun c => Cert.GateConv.gated (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg2)),
    fun c => Cert.GateConv.passed (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg2)),
    (θ_run Cert.Kernel12Ideal.defs _ _).mono
    (fun _ h c => ⟨(h c).1.trans (Cert.GateConv.final0 m c), (h c).2.1.trans (Cert.GateConv.final1 m c), (h c).2.2⟩)
      (Cert.Kernel12Ideal.Value.run_blocks (F := Ideal) m ρ), ?_⟩
  refine (θ_run Cert.Reference12Ideal.defs _ _).mono (fun _ h c => ⟨?_, ?_, (h c).2.2⟩)
    (Cert.Reference12Ideal.Value.run (F := Ideal) m' ρ')
  · rw [(h c).1]
    simp only [hagree c]
    exact (Cert.Reference12Ideal.Read.val_main_v29_eq _ _ _).trans (Cert.GateConv.Host.reads0 _ _ _)
  · rw [(h c).2.1]
    simp only [hagree c]
    exact (Cert.Reference12Ideal.Read.val_main_v30_eq _ _ _).trans (Cert.GateConv.Host.reads1 _ _ _)

theorem algebraic_Kernel14Ideal_Reference14Ideal : algebraic_Kernel14Ideal_Reference14Ideal := by
  intro m ρ m' ρ' _ hagree
  refine ⟨fun c => Cert.HyFilter.formula (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1))
      (m ((c.tc : Thread Cert.Kernel14Ideal.nD Cert.Kernel14Ideal.τ).loc Cert.Kernel14Ideal.main_arg2))
      (m ((c.tc : Thread Cert.Kernel14Ideal.nD Cert.Kernel14Ideal.τ).loc Cert.Kernel14Ideal.main_arg3))
      (m ((c.tc : Thread Cert.Kernel14Ideal.nD Cert.Kernel14Ideal.τ).loc Cert.Kernel14Ideal.main_arg4))
      (m ((c.tc : Thread Cert.Kernel14Ideal.nD Cert.Kernel14Ideal.τ).loc Cert.Kernel14Ideal.main_arg5))
      (m ((c.tc : Thread Cert.Kernel14Ideal.nD Cert.Kernel14Ideal.τ).loc Cert.Kernel14Ideal.main_arg6))
      (m ((c.tc : Thread Cert.Kernel14Ideal.nD Cert.Kernel14Ideal.τ).loc Cert.Kernel14Ideal.main_arg7))
      (m ((c.tc : Thread Cert.Kernel14Ideal.nD Cert.Kernel14Ideal.τ).loc Cert.Kernel14Ideal.main_arg8))
      (m ((c.tc : Thread Cert.Kernel14Ideal.nD Cert.Kernel14Ideal.τ).loc Cert.Kernel14Ideal.main_arg9)),
    (θ_run Cert.Kernel14Ideal.defs _ _).mono
    (fun _ h c => ⟨(h c).1.trans (Cert.HyFilter.final m c), (h c).2⟩) (Cert.Kernel14Ideal.Value.run_blocks (F := Ideal) m ρ), ?_⟩
  refine (θ_run Cert.Reference14Ideal.defs _ _).mono (fun _ h c => ⟨?_, (h c).2⟩) (Cert.Reference14Ideal.Value.run (F := Ideal) m' ρ')
  rw [(h c).1, Cert.Reference14Ideal.Read.val_main_v42_eq]
  simp only [hagree c]
  exact Cert.HyFilter.Host.reads _ _ _ _ _ _ _ _ _ _

theorem algebraic_Kernel15Ideal_Reference15Ideal : algebraic_Kernel15Ideal_Reference15Ideal := by
  intro m ρ m' ρ' _ hagree
  refine ⟨fun c => Cert.AdaProj.formula (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1))
      (m ((c.tc : Thread Cert.Kernel15Ideal.nD Cert.Kernel15Ideal.τ).loc Cert.Kernel15Ideal.main_arg2)),
    (θ_run Cert.Kernel15Ideal.defs _ _).mono
    (fun _ h c => ⟨(h c).1.trans (Cert.AdaProj.final m c), (h c).2⟩) (Cert.Kernel15Ideal.Value.run_blocks (F := Ideal) m ρ), ?_⟩
  refine (θ_run Cert.Reference15Ideal.defs _ _).mono (fun _ h c => ⟨?_, (h c).2⟩) (Cert.Reference15Ideal.Value.run (F := Ideal) m' ρ')
  rw [(h c).1]
  refine (Cert.Reference15Ideal.Read.val_main_v16_eq _ _ _).trans ((Cert.AdaProj.Host.reads _ _ _).trans ?_)
  simp only [hagree c]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_in_range.Gen.facts, Cert.On_active_rows.Gen.facts,
  quiescent_Kernel, quiescent_KernelIdeal, quiescent_ReferenceIdeal, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, fun m ρ _ => Cert.Kernel4.Gen.frame m ρ, fun m ρ _ => Cert.Kernel4Ideal.Gen.frame m ρ, quiescent_Reference4Ideal, quiescent_Kernel5, quiescent_Kernel5Ideal, quiescent_Reference5Ideal, fun m ρ _ => Cert.Kernel6.Gen.frame m ρ, fun m ρ _ => Cert.Kernel6Ideal.Gen.frame m ρ, quiescent_Reference6Ideal, fun m ρ _ => Cert.Kernel7.Gen.frame m ρ, fun m ρ _ => Cert.Kernel7Ideal.Gen.frame m ρ, quiescent_Reference7Ideal, fun m ρ _ => Cert.Kernel8.Gen.frame m ρ, fun m ρ _ => Cert.Kernel8Ideal.Gen.frame m ρ, quiescent_Reference8Ideal, fun m ρ _ => Cert.Kernel9.Gen.frame m ρ, fun m ρ _ => Cert.Kernel9Ideal.Gen.frame m ρ, quiescent_Reference9Ideal, fun m ρ _ => Cert.Kernel10.Gen.frame m ρ, fun m ρ _ => Cert.Kernel10Ideal.Gen.frame m ρ, fun m ρ _ => Cert.Kernel11.Gen.frame m ρ, fun m ρ _ => Cert.Kernel11Ideal.Gen.frame m ρ, quiescent_Reference11Ideal, fun m ρ _ => Cert.Kernel12.Gen.frame m ρ, fun m ρ _ => Cert.Kernel12Ideal.Gen.frame m ρ, quiescent_Reference12Ideal, fun m ρ _ => Cert.Kernel13.Gen.frame m ρ, fun m ρ _ => Cert.Kernel13Ideal.Gen.frame m ρ, fun m ρ _ => Cert.Kernel14.Gen.frame m ρ, fun m ρ _ => Cert.Kernel14Ideal.Gen.frame m ρ, quiescent_Reference14Ideal, fun m ρ _ => Cert.Kernel15.Gen.frame m ρ, fun m ρ _ => Cert.Kernel15Ideal.Gen.frame m ρ, quiescent_Reference15Ideal,
  (trivial : preserves_Kernel_KernelIdeal), algebraic_KernelIdeal_ReferenceIdeal, (trivial : preserves_Kernel2_Kernel2Ideal), algebraic_Kernel2Ideal_Reference2Ideal, (trivial : preserves_Kernel3_Kernel3Ideal), algebraic_Kernel3Ideal_Reference3Ideal, (trivial : preserves_Kernel4_Kernel4Ideal), algebraic_Kernel4Ideal_Reference4Ideal, (trivial : preserves_Kernel5_Kernel5Ideal), algebraic_Kernel5Ideal_Reference5Ideal, (trivial : preserves_Kernel6_Kernel6Ideal), algebraic_Kernel6Ideal_Reference6Ideal, (trivial : preserves_Kernel7_Kernel7Ideal), algebraic_Kernel7Ideal_Reference7Ideal, (trivial : preserves_Kernel8_Kernel8Ideal), algebraic_Kernel8Ideal_Reference8Ideal, (trivial : preserves_Kernel9_Kernel9Ideal), algebraic_Kernel9Ideal_Reference9Ideal, (trivial : preserves_Kernel10_Kernel10Ideal), (trivial : preserves_Kernel11_Kernel11Ideal), algebraic_Kernel11Ideal_Reference11Ideal, (trivial : preserves_Kernel12_Kernel12Ideal), algebraic_Kernel12Ideal_Reference12Ideal, (trivial : preserves_Kernel13_Kernel13Ideal), (trivial : preserves_Kernel14_Kernel14Ideal), algebraic_Kernel14Ideal_Reference14Ideal, (trivial : preserves_Kernel15_Kernel15Ideal), algebraic_Kernel15Ideal_Reference15Ideal⟩

end Cert.Proof

end
